-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_v250) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x9216 : Shape := ⟨3, ![3, 1, 9216]⟩
abbrev S2x24576x1152 : Shape := ⟨3, ![2, 24576, 1152]⟩
abbrev S24576x72 : Shape := ⟨2, ![24576, 72]⟩
abbrev S3x9216 : Shape := ⟨2, ![3, 9216]⟩
abbrev S72x24576 : Shape := ⟨2, ![72, 24576]⟩
abbrev S3x24576 : Shape := ⟨2, ![3, 24576]⟩
abbrev S3x8x2304 : Shape := ⟨3, ![3, 8, 2304]⟩
abbrev S3x72 : Shape := ⟨2, ![3, 72]⟩
abbrev S2x1024x1152 : Shape := ⟨3, ![2, 1024, 1152]⟩
abbrev S72x1024 : Shape := ⟨2, ![72, 1024]⟩
abbrev S3x1024 : Shape := ⟨2, ![3, 1024]⟩
abbrev S18x24x128 : Shape := ⟨3, ![18, 24, 128]⟩
abbrev S216x128 : Shape := ⟨2, ![216, 128]⟩
abbrev S4x1152x128 : Shape := ⟨3, ![4, 1152, 128]⟩
abbrev S3x1152x512 : Shape := ⟨3, ![3, 1152, 512]⟩
abbrev S1152x128 : Shape := ⟨2, ![1152, 128]⟩
abbrev S2x576x128 : Shape := ⟨3, ![2, 576, 128]⟩
abbrev S2x16x128 : Shape := ⟨3, ![2, 16, 128]⟩
abbrev S3x128 : Shape := ⟨2, ![3, 128]⟩
abbrev S3x128x1 : Shape := ⟨3, ![3, 128, 1]⟩
abbrev S1x3x128 : Shape := ⟨3, ![1, 3, 128]⟩
abbrev S1x8x128 : Shape := ⟨3, ![1, 8, 128]⟩
abbrev S8x128 : Shape := ⟨2, ![8, 128]⟩
abbrev S72x128 : Shape := ⟨2, ![72, 128]⟩
abbrev S128x512 : Shape := ⟨2, ![128, 512]⟩
abbrev S72x512 : Shape := ⟨2, ![72, 512]⟩
abbrev S72x128x1 : Shape := ⟨3, ![72, 128, 1]⟩
abbrev S72 : Shape := ⟨1, ![72]⟩
abbrev S72x1 : Shape := ⟨2, ![72, 1]⟩
abbrev S1x72x128 : Shape := ⟨3, ![1, 72, 128]⟩
abbrev S1x1152x128 : Shape := ⟨3, ![1, 1152, 128]⟩
abbrev S1x1024x128 : Shape := ⟨3, ![1, 1024, 128]⟩
abbrev S1024x128 : Shape := ⟨2, ![1024, 128]⟩
abbrev S256x128 : Shape := ⟨2, ![256, 128]⟩
abbrev S128x256 : Shape := ⟨2, ![128, 256]⟩
abbrev S16x256 : Shape := ⟨2, ![16, 256]⟩
abbrev S8x256 : Shape := ⟨2, ![8, 256]⟩
abbrev S32x256 : Shape := ⟨2, ![32, 256]⟩
abbrev S256x256 : Shape := ⟨2, ![256, 256]⟩
abbrev S1x16x256 : Shape := ⟨3, ![1, 16, 256]⟩

abbrev nBuf : Space → Nat
  | .hbm => 10
  | .vmem => 20
  | .smem => 0
  | _ => 0

abbrev bufTy : (tb : Table) → Fin (tcTables nBuf tb) → BufTy
  | .hbm, ⟨0, _⟩ => ⟨S3x1x9216, .bf16⟩
  | .hbm, ⟨1, _⟩ => ⟨S2x24576x1152, .i8⟩
  | .hbm, ⟨2, _⟩ => ⟨S24576x72, .f32⟩
  | .hbm, ⟨3, _⟩ => ⟨S24576x72, .f32⟩
  | .hbm, ⟨4, _⟩ => ⟨S3x9216, .bf16⟩
  | .hbm, ⟨5, _⟩ => ⟨S72x24576, .f32⟩
  | .hbm, ⟨6, _⟩ => ⟨S72x24576, .f32⟩
  | .hbm, ⟨7, _⟩ => ⟨S3x24576, .bf16⟩
  | .hbm, ⟨8, _⟩ => ⟨S3x8x2304, .i8⟩
  | .hbm, ⟨9, _⟩ => ⟨S3x72, .f32⟩
  | .local _ .vmem, ⟨0, _⟩ => ⟨S3x9216, .bf16⟩
  | .local _ .vmem, ⟨1, _⟩ => ⟨S2x1024x1152, .i8⟩
  | .local _ .vmem, ⟨2, _⟩ => ⟨S2x1024x1152, .i8⟩
  | .local _ .vmem, ⟨3, _⟩ => ⟨S72x1024, .f32⟩
  | .local _ .vmem, ⟨4, _⟩ => ⟨S72x1024, .f32⟩
  | .local _ .vmem, ⟨5, _⟩ => ⟨S72x1024, .f32⟩
  | .local _ .vmem, ⟨6, _⟩ => ⟨S72x1024, .f32⟩
  | .local _ .vmem, ⟨7, _⟩ => ⟨S3x1024, .bf16⟩
  | .local _ .vmem, ⟨8, _⟩ => ⟨S3x1024, .bf16⟩
  | .local _ .vmem, ⟨9, _⟩ => ⟨S3x8x2304, .i8⟩
  | .local _ .vmem, ⟨10, _⟩ => ⟨S3x72, .f32⟩
  | .local _ .vmem, ⟨11, _⟩ => ⟨S18x24x128, .f32⟩
  | .local _ .vmem, ⟨12, _⟩ => ⟨S216x128, .f32⟩
  | .local _ .vmem, ⟨13, _⟩ => ⟨S4x1152x128, .f32⟩
  | .local _ .vmem, ⟨14, _⟩ => ⟨S3x1152x512, .bf16⟩
  | .local _ .vmem, ⟨15, _⟩ => ⟨S1152x128, .f32⟩
  | .local _ .vmem, ⟨16, _⟩ => ⟨S1152x128, .f32⟩
  | .local _ .vmem, ⟨17, _⟩ => ⟨S2x576x128, .f32⟩
  | .local _ .vmem, ⟨18, _⟩ => ⟨S2x576x128, .f32⟩
  | .local _ .vmem, ⟨19, _⟩ => ⟨S2x16x128, .f32⟩
  | _, _ => ⟨S3x1x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_261 : BitVec 32 := 0#32
  let c9_i32 : BitVec 32 := 9#32
  let v600 : BitVec 32 := Scalar.addi c0_i32_261 c9_i32
  let c1_i32_262 : BitVec 32 := 1#32
  ⟨c0_i32_261, v600, c1_i32_262⟩
def k0_mult1 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c128_i32_539 : BitVec 32 := 128#32
  let v1151 : BitVec 32 := Scalar.muli arg17 c128_i32_539
  v1151
def k0_off1 (k0_t1 : Fin k0_t1_loop.trips) : Fin 3 → Nat :=
  let c0_540 : Index := 0#32
  let c0_541 : Index := 0#32
  let c0_i32_261 : BitVec 32 := 0#32
  let c1_i32_262 : BitVec 32 := 1#32
  let arg17 : BitVec 32 := Scf.iv c0_i32_261 c1_i32_262 k0_t1
  let c128_i32_539 : BitVec 32 := 128#32
  let v1151 : BitVec 32 := Scalar.muli arg17 c128_i32_539
  let v1152 : BitVec 32 := v1151
  let v1153 : Index := Scalar.indexCast v1152
  ![0, 0, v1153.toNat]
def k0_off2 (k0_t1 : Fin k0_t1_loop.trips) : Fin 3 → Nat :=
  let c1_542 : Index := 1#32
  let c0_543 : Index := 0#32
  let c0_i32_261 : BitVec 32 := 0#32
  let c1_i32_262 : BitVec 32 := 1#32
  let arg17 : BitVec 32 := Scf.iv c0_i32_261 c1_i32_262 k0_t1
  let c128_i32_539 : BitVec 32 := 128#32
  let v1151 : BitVec 32 := Scalar.muli arg17 c128_i32_539
  let v1152 : BitVec 32 := v1151
  let v1158 : Index := Scalar.indexCast v1152
  ![1, 0, v1158.toNat]
def k0_mult2 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let c0_i32_544 : BitVec 32 := 0#32
  let v1164 : BitVec 32 := Scalar.addi v1163 c0_i32_544
  let c16_i32 : BitVec 32 := 16#32
  let v1165 : BitVec 32 := Scalar.muli v1164 c16_i32
  v1165
def k0_mult3 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let c0_i32_544 : BitVec 32 := 0#32
  let v1164 : BitVec 32 := Scalar.addi v1163 c0_i32_544
  let c8_i32_545 : BitVec 32 := 8#32
  let v1167 : BitVec 32 := Scalar.muli v1164 c8_i32_545
  v1167
def k0_off3 (k0_t1 : Fin k0_t1_loop.trips) (c0_i32_544 : BitVec 32) : Fin 3 → Nat :=
  let c0_568 : Index := 0#32
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let v1164 : BitVec 32 := Scalar.addi v1163 c0_i32_544
  let c16_i32 : BitVec 32 := 16#32
  let v1165 : BitVec 32 := Scalar.muli v1164 c16_i32
  let v1166 : BitVec 32 := v1165
  let v1251 : Index := Scalar.indexCast v1166
  let c0_569 : Index := 0#32
  ![0, v1251.toNat, 0]
def k0_off4 (k0_t1 : Fin k0_t1_loop.trips) (c0_i32_544 : BitVec 32) : Fin 3 → Nat :=
  let c1_571 : Index := 1#32
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let v1164 : BitVec 32 := Scalar.addi v1163 c0_i32_544
  let c16_i32 : BitVec 32 := 16#32
  let v1165 : BitVec 32 := Scalar.muli v1164 c16_i32
  let v1166 : BitVec 32 := v1165
  let v1256 : Index := Scalar.indexCast v1166
  let c0_572 : Index := 0#32
  ![1, v1256.toNat, 0]
def k0_off5 (k0_t1 : Fin k0_t1_loop.trips) (c0_i32_544 : BitVec 32) : Fin 3 → Nat :=
  let c2_574 : Index := 2#32
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let v1164 : BitVec 32 := Scalar.addi v1163 c0_i32_544
  let c16_i32 : BitVec 32 := 16#32
  let v1165 : BitVec 32 := Scalar.muli v1164 c16_i32
  let v1166 : BitVec 32 := v1165
  let v1261 : Index := Scalar.indexCast v1166
  let c0_575 : Index := 0#32
  ![2, v1261.toNat, 0]
def k0_off6 (k0_t1 : Fin k0_t1_loop.trips) (c0_i32_544 : BitVec 32) : Fin 3 → Nat :=
  let c0_604 : Index := 0#32
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let v1164 : BitVec 32 := Scalar.addi v1163 c0_i32_544
  let c16_i32 : BitVec 32 := 16#32
  let v1165 : BitVec 32 := Scalar.muli v1164 c16_i32
  let v1166 : BitVec 32 := v1165
  let v1347 : Index := Scalar.indexCast v1166
  let c256_605 : Index := 256#32
  ![0, v1347.toNat, 256]
def k0_off7 (k0_t1 : Fin k0_t1_loop.trips) (c0_i32_544 : BitVec 32) : Fin 3 → Nat :=
  let c1_607 : Index := 1#32
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let v1164 : BitVec 32 := Scalar.addi v1163 c0_i32_544
  let c16_i32 : BitVec 32 := 16#32
  let v1165 : BitVec 32 := Scalar.muli v1164 c16_i32
  let v1166 : BitVec 32 := v1165
  let v1352 : Index := Scalar.indexCast v1166
  let c256_608 : Index := 256#32
  ![1, v1352.toNat, 256]
def k0_off8 (k0_t1 : Fin k0_t1_loop.trips) (c0_i32_544 : BitVec 32) : Fin 3 → Nat :=
  let c2_610 : Index := 2#32
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let v1164 : BitVec 32 := Scalar.addi v1163 c0_i32_544
  let c16_i32 : BitVec 32 := 16#32
  let v1165 : BitVec 32 := Scalar.muli v1164 c16_i32
  let v1166 : BitVec 32 := v1165
  let v1357 : Index := Scalar.indexCast v1166
  let c256_611 : Index := 256#32
  ![2, v1357.toNat, 256]
def k0_off9 (k0_t1 : Fin k0_t1_loop.trips) (c0_i32_544 : BitVec 32) (c0_i32_613 : BitVec 32) : Fin 2 → Nat :=
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let v1164 : BitVec 32 := Scalar.addi v1163 c0_i32_544
  let c16_i32 : BitVec 32 := 16#32
  let v1165 : BitVec 32 := Scalar.muli v1164 c16_i32
  let v1166 : BitVec 32 := v1165
  let v1362 : BitVec 32 := Scalar.addi v1166 c0_i32_613
  let v1363 : Index := Scalar.indexCast v1362
  let c0_614 : Index := 0#32
  ![v1363.toNat, 0]
def k0_off10 (k0_t1 : Fin k0_t1_loop.trips) (c0_i32_544 : BitVec 32) : Fin 3 → Nat :=
  let c0_617 : Index := 0#32
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let v1164 : BitVec 32 := Scalar.addi v1163 c0_i32_544
  let c8_i32_545 : BitVec 32 := 8#32
  let v1167 : BitVec 32 := Scalar.muli v1164 c8_i32_545
  let v1168 : BitVec 32 := v1167
  let v1369 : Index := Scalar.indexCast v1168
  let c0_618 : Index := 0#32
  ![0, v1369.toNat, 0]
def k0_off11 (k0_t1 : Fin k0_t1_loop.trips) (c0_i32_544 : BitVec 32) : Fin 3 → Nat :=
  let c1_621 : Index := 1#32
  let c0_i32_261 : BitVec 32 := 0#32
  let c1_i32_262 : BitVec 32 := 1#32
  let arg17 : BitVec 32 := Scf.iv c0_i32_261 c1_i32_262 k0_t1
  let c8_i32 : BitVec 32 := 8#32
  let v1163 : BitVec 32 := Scalar.muli arg17 c8_i32
  let v1164 : BitVec 32 := Scalar.addi v1163 c0_i32_544
  let c8_i32_545 : BitVec 32 := 8#32
  let v1167 : BitVec 32 := Scalar.muli v1164 c8_i32_545
  let v1168 : BitVec 32 := v1167
  let v1381 : Index := Scalar.indexCast v1168
  let c0_622 : Index := 0#32
  ![1, v1381.toNat, 0]
def k0_mult4 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_637 : BitVec 32 := 8#32
  let v1422 : BitVec 32 := Scalar.muli arg17 c8_i32_637
  let c1_i32_638 : BitVec 32 := 1#32
  let v1423 : BitVec 32 := Scalar.addi v1422 c1_i32_638
  let c16_i32_639 : BitVec 32 := 16#32
  let v1424 : BitVec 32 := Scalar.muli v1423 c16_i32_639
  v1424
def k0_mult5 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_637 : BitVec 32 := 8#32
  let v1422 : BitVec 32 := Scalar.muli arg17 c8_i32_637
  let c1_i32_638 : BitVec 32 := 1#32
  let v1423 : BitVec 32 := Scalar.addi v1422 c1_i32_638
  let c8_i32_640 : BitVec 32 := 8#32
  let v1426 : BitVec 32 := Scalar.muli v1423 c8_i32_640
  v1426
def k0_mult6 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_738 : BitVec 32 := 8#32
  let v1681 : BitVec 32 := Scalar.muli arg17 c8_i32_738
  let c2_i32_739 : BitVec 32 := 2#32
  let v1682 : BitVec 32 := Scalar.addi v1681 c2_i32_739
  let c16_i32_740 : BitVec 32 := 16#32
  let v1683 : BitVec 32 := Scalar.muli v1682 c16_i32_740
  v1683
def k0_mult7 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_738 : BitVec 32 := 8#32
  let v1681 : BitVec 32 := Scalar.muli arg17 c8_i32_738
  let c2_i32_739 : BitVec 32 := 2#32
  let v1682 : BitVec 32 := Scalar.addi v1681 c2_i32_739
  let c8_i32_741 : BitVec 32 := 8#32
  let v1685 : BitVec 32 := Scalar.muli v1682 c8_i32_741
  v1685
def k0_mult8 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_839 : BitVec 32 := 8#32
  let v1940 : BitVec 32 := Scalar.muli arg17 c8_i32_839
  let c3_i32_840 : BitVec 32 := 3#32
  let v1941 : BitVec 32 := Scalar.addi v1940 c3_i32_840
  let c16_i32_841 : BitVec 32 := 16#32
  let v1942 : BitVec 32 := Scalar.muli v1941 c16_i32_841
  v1942
def k0_mult9 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_839 : BitVec 32 := 8#32
  let v1940 : BitVec 32 := Scalar.muli arg17 c8_i32_839
  let c3_i32_840 : BitVec 32 := 3#32
  let v1941 : BitVec 32 := Scalar.addi v1940 c3_i32_840
  let c8_i32_842 : BitVec 32 := 8#32
  let v1944 : BitVec 32 := Scalar.muli v1941 c8_i32_842
  v1944
def k0_mult10 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_940 : BitVec 32 := 8#32
  let v2199 : BitVec 32 := Scalar.muli arg17 c8_i32_940
  let c4_i32_941 : BitVec 32 := 4#32
  let v2200 : BitVec 32 := Scalar.addi v2199 c4_i32_941
  let c16_i32_942 : BitVec 32 := 16#32
  let v2201 : BitVec 32 := Scalar.muli v2200 c16_i32_942
  v2201
def k0_mult11 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_940 : BitVec 32 := 8#32
  let v2199 : BitVec 32 := Scalar.muli arg17 c8_i32_940
  let c4_i32_941 : BitVec 32 := 4#32
  let v2200 : BitVec 32 := Scalar.addi v2199 c4_i32_941
  let c8_i32_943 : BitVec 32 := 8#32
  let v2203 : BitVec 32 := Scalar.muli v2200 c8_i32_943
  v2203
def k0_mult12 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_1041 : BitVec 32 := 8#32
  let v2458 : BitVec 32 := Scalar.muli arg17 c8_i32_1041
  let c5_i32_1042 : BitVec 32 := 5#32
  let v2459 : BitVec 32 := Scalar.addi v2458 c5_i32_1042
  let c16_i32_1043 : BitVec 32 := 16#32
  let v2460 : BitVec 32 := Scalar.muli v2459 c16_i32_1043
  v2460
def k0_mult13 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_1041 : BitVec 32 := 8#32
  let v2458 : BitVec 32 := Scalar.muli arg17 c8_i32_1041
  let c5_i32_1042 : BitVec 32 := 5#32
  let v2459 : BitVec 32 := Scalar.addi v2458 c5_i32_1042
  let c8_i32_1044 : BitVec 32 := 8#32
  let v2462 : BitVec 32 := Scalar.muli v2459 c8_i32_1044
  v2462
def k0_mult14 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_1142 : BitVec 32 := 8#32
  let v2717 : BitVec 32 := Scalar.muli arg17 c8_i32_1142
  let c6_i32 : BitVec 32 := 6#32
  let v2718 : BitVec 32 := Scalar.addi v2717 c6_i32
  let c16_i32_1143 : BitVec 32 := 16#32
  let v2719 : BitVec 32 := Scalar.muli v2718 c16_i32_1143
  v2719
def k0_mult15 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_1142 : BitVec 32 := 8#32
  let v2717 : BitVec 32 := Scalar.muli arg17 c8_i32_1142
  let c6_i32 : BitVec 32 := 6#32
  let v2718 : BitVec 32 := Scalar.addi v2717 c6_i32
  let c8_i32_1144 : BitVec 32 := 8#32
  let v2721 : BitVec 32 := Scalar.muli v2718 c8_i32_1144
  v2721
def k0_mult16 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_1242 : BitVec 32 := 8#32
  let v2976 : BitVec 32 := Scalar.muli arg17 c8_i32_1242
  let c7_i32 : BitVec 32 := 7#32
  let v2977 : BitVec 32 := Scalar.addi v2976 c7_i32
  let c16_i32_1243 : BitVec 32 := 16#32
  let v2978 : BitVec 32 := Scalar.muli v2977 c16_i32_1243
  v2978
def k0_mult17 (k0_t1 : Fin k0_t1_loop.trips) : BitVec 32 :=
  let c0_i32_261 : BitVec 32 := 0#32
  let c1_i32_262 : BitVec 32 := 1#32
  let arg17 : BitVec 32 := Scf.iv c0_i32_261 c1_i32_262 k0_t1
  let c8_i32_1242 : BitVec 32 := 8#32
  let v2976 : BitVec 32 := Scalar.muli arg17 c8_i32_1242
  let c7_i32 : BitVec 32 := 7#32
  let v2977 : BitVec 32 := Scalar.addi v2976 c7_i32
  let c8_i32_1244 : BitVec 32 := 8#32
  let v2980 : BitVec 32 := Scalar.muli v2977 c8_i32_1244
  v2980
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x9216 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1024x1152 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S72x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S72x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x8x2304 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x72 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S3x1x9216 : Shape := ⟨3, ![3, 1, 9216]⟩
abbrev S2x24576x1152 : Shape := ⟨3, ![2, 24576, 1152]⟩
abbrev S24576x72 : Shape := ⟨2, ![24576, 72]⟩
abbrev S8 : Shape := ⟨1, ![8]⟩
abbrev S3x2304x4 : Shape := ⟨3, ![3, 2304, 4]⟩
abbrev S3x2304x1 : Shape := ⟨3, ![3, 2304, 1]⟩
abbrev S1x1x8 : Shape := ⟨3, ![1, 1, 8]⟩
abbrev S3x2304x8 : Shape := ⟨3, ![3, 2304, 8]⟩
abbrev S_ : Shape := ⟨0, ![]⟩
abbrev S3x72x32x8 : Shape := ⟨4, ![3, 72, 32, 8]⟩
abbrev S3x72 : Shape := ⟨2, ![3, 72]⟩
abbrev S3x72x1x1 : Shape := ⟨4, ![3, 72, 1, 1]⟩
abbrev S3x72x32x1 : Shape := ⟨4, ![3, 72, 32, 1]⟩
abbrev S3x72x32 : Shape := ⟨3, ![3, 72, 32]⟩
abbrev S1x2x24576x1152 : Shape := ⟨4, ![1, 2, 24576, 1152]⟩
abbrev S3x1152x2x8 : Shape := ⟨4, ![3, 1152, 2, 8]⟩
abbrev S3x1152x1x8 : Shape := ⟨4, ![3, 1152, 1, 8]⟩
abbrev S3x1152x8 : Shape := ⟨3, ![3, 1152, 8]⟩
abbrev S3x1152x1 : Shape := ⟨3, ![3, 1152, 1]⟩
abbrev S3x1152 : Shape := ⟨2, ![3, 1152]⟩
abbrev S3x1x1x1152 : Shape := ⟨4, ![3, 1, 1, 1152]⟩
abbrev S3x2x24576x1152 : Shape := ⟨4, ![3, 2, 24576, 1152]⟩
abbrev S3x2x24576x72x16 : Shape := ⟨5, ![3, 2, 24576, 72, 16]⟩
abbrev S3x2x24576x72 : Shape := ⟨4, ![3, 2, 24576, 72]⟩
abbrev S2 : Shape := ⟨1, ![2]⟩
abbrev S1x2x1x1 : Shape := ⟨4, ![1, 2, 1, 1]⟩
abbrev S3x24576x72 : Shape := ⟨3, ![3, 24576, 72]⟩
abbrev S1x24576x72 : Shape := ⟨3, ![1, 24576, 72]⟩
abbrev S3x1x72 : Shape := ⟨3, ![3, 1, 72]⟩
abbrev S3x24576 : Shape := ⟨2, ![3, 24576]⟩
abbrev S3x8x2304 : Shape := ⟨3, ![3, 8, 2304]⟩

abbrev nBuf : Space → Nat
  | .hbm => 371
  | .vmem => 0
  | .smem => 0
  | _ => 0

abbrev hbmTy0_0 (i : Nat) : BufTy := match i % 128 with
  | 0 => ⟨S3x1x9216, .bf16⟩
  | 1 => ⟨S2x24576x1152, .i8⟩
  | 2 => ⟨S24576x72, .f32⟩
  | 3 => ⟨S24576x72, .f32⟩
  | 4 => ⟨S8, .f32⟩
  | 5 => ⟨S8, .f32⟩
  | 6 => ⟨S8, .f32⟩
  | 7 => ⟨S8, .f32⟩
  | 8 => ⟨S3x1x9216, .f32⟩
  | 9 => ⟨S3x2304x4, .f32⟩
  | 10 => ⟨S3x2304x1, .f32⟩
  | 11 => ⟨S1x1x8, .f32⟩
  | 12 => ⟨S3x2304x8, .f32⟩
  | 13 => ⟨S3x2304x8, .f32⟩
  | 14 => ⟨S3x2304x8, .f32⟩
  | 15 => ⟨S_, .f32⟩
  | 16 => ⟨S3x2304x8, .f32⟩
  | 17 => ⟨S3x2304x8, .f32⟩
  | 18 => ⟨S3x2304x1, .f32⟩
  | 19 => ⟨S1x1x8, .f32⟩
  | 20 => ⟨S3x2304x8, .f32⟩
  | 21 => ⟨S3x2304x8, .f32⟩
  | 22 => ⟨S3x2304x8, .f32⟩
  | 23 => ⟨S3x2304x8, .f32⟩
  | 24 => ⟨S3x2304x1, .f32⟩
  | 25 => ⟨S1x1x8, .f32⟩
  | 26 => ⟨S3x2304x8, .f32⟩
  | 27 => ⟨S3x2304x8, .f32⟩
  | 28 => ⟨S3x2304x8, .f32⟩
  | 29 => ⟨S3x2304x8, .f32⟩
  | 30 => ⟨S3x2304x1, .f32⟩
  | 31 => ⟨S1x1x8, .f32⟩
  | 32 => ⟨S3x2304x8, .f32⟩
  | 33 => ⟨S3x2304x8, .f32⟩
  | 34 => ⟨S3x2304x8, .f32⟩
  | 35 => ⟨S3x2304x8, .f32⟩
  | 36 => ⟨S3x72x32x8, .f32⟩
  | 37 => ⟨S3x72x32x8, .f32⟩
  | 38 => ⟨S_, .f32⟩
  | 39 => ⟨S3x72, .f32⟩
  | 40 => ⟨S_, .f32⟩
  | 41 => ⟨S3x72, .f32⟩
  | 42 => ⟨S3x72, .i1⟩
  | 43 => ⟨S_, .f32⟩
  | 44 => ⟨S3x72, .f32⟩
  | 45 => ⟨S3x72, .f32⟩
  | 46 => ⟨S_, .f32⟩
  | 47 => ⟨S3x72, .f32⟩
  | 48 => ⟨S3x72, .f32⟩
  | 49 => ⟨S3x72x1x1, .f32⟩
  | 50 => ⟨S3x72x32x8, .f32⟩
  | 51 => ⟨S3x72x32x8, .f32⟩
  | 52 => ⟨S3x72x32x8, .f32⟩
  | 53 => ⟨S_, .i32⟩
  | 54 => ⟨S_, .i32⟩
  | 55 => ⟨S_, .f32⟩
  | 56 => ⟨S3x72x32x8, .f32⟩
  | 57 => ⟨S3x72x32x8, .f32⟩
  | 58 => ⟨S_, .f32⟩
  | 59 => ⟨S3x72x32x8, .f32⟩
  | 60 => ⟨S3x72x32x8, .f32⟩
  | 61 => ⟨S3x72x32x8, .i32⟩
  | 62 => ⟨S3x72x32x8, .i8⟩
  | 63 => ⟨S3x72x32x1, .i8⟩
  | 64 => ⟨S3x72x32, .i8⟩
  | 65 => ⟨S3x72x32, .i32⟩
  | 66 => ⟨S_, .i32⟩
  | 67 => ⟨S3x72, .i32⟩
  | 68 => ⟨S3x72, .i32⟩
  | 69 => ⟨S2x24576x1152, .i32⟩
  | 70 => ⟨S_, .i32⟩
  | 71 => ⟨S2x24576x1152, .i32⟩
  | 72 => ⟨S2x24576x1152, .i32⟩
  | 73 => ⟨S1x2x24576x1152, .i32⟩
  | 74 => ⟨S2x24576x1152, .i32⟩
  | 75 => ⟨S_, .i32⟩
  | 76 => ⟨S2x24576x1152, .i32⟩
  | 77 => ⟨S2x24576x1152, .i32⟩
  | 78 => ⟨S1x2x24576x1152, .i32⟩
  | 79 => ⟨S3x72x32x8, .i32⟩
  | 80 => ⟨S3x1152x2x8, .i32⟩
  | 81 => ⟨S3x1152x1x8, .i32⟩
  | 82 => ⟨S3x1152x8, .i32⟩
  | 83 => ⟨S_, .i32⟩
  | 84 => ⟨S1x2x24576x1152, .i32⟩
  | 85 => ⟨S1x2x24576x1152, .i32⟩
  | 86 => ⟨S_, .i32⟩
  | 87 => ⟨S1x2x24576x1152, .i32⟩
  | 88 => ⟨S1x2x24576x1152, .i32⟩
  | 89 => ⟨S1x2x24576x1152, .i32⟩
  | 90 => ⟨S_, .i32⟩
  | 91 => ⟨S1x2x24576x1152, .i32⟩
  | 92 => ⟨S1x2x24576x1152, .i32⟩
  | 93 => ⟨S_, .i32⟩
  | 94 => ⟨S1x2x24576x1152, .i32⟩
  | 95 => ⟨S1x2x24576x1152, .i1⟩
  | 96 => ⟨S_, .i32⟩
  | 97 => ⟨S1x2x24576x1152, .i32⟩
  | 98 => ⟨S1x2x24576x1152, .i32⟩
  | 99 => ⟨S_, .i32⟩
  | 100 => ⟨S1x2x24576x1152, .i32⟩
  | 101 => ⟨S1x2x24576x1152, .i1⟩
  | 102 => ⟨S_, .i32⟩
  | 103 => ⟨S1x2x24576x1152, .i32⟩
  | 104 => ⟨S1x2x24576x1152, .i32⟩
  | 105 => ⟨S_, .i32⟩
  | 106 => ⟨S1x2x24576x1152, .i32⟩
  | 107 => ⟨S1x2x24576x1152, .i1⟩
  | 108 => ⟨S3x1152x1, .i32⟩
  | 109 => ⟨S3x1152, .i32⟩
  | 110 => ⟨S3x1x1x1152, .i32⟩
  | 111 => ⟨S3x1152x1, .i32⟩
  | 112 => ⟨S3x1152, .i32⟩
  | 113 => ⟨S3x1x1x1152, .i32⟩
  | 114 => ⟨S3x1152x1, .i32⟩
  | 115 => ⟨S3x1152, .i32⟩
  | 116 => ⟨S3x1x1x1152, .i32⟩
  | 117 => ⟨S3x1152x1, .i32⟩
  | 118 => ⟨S3x1152, .i32⟩
  | 119 => ⟨S3x1x1x1152, .i32⟩
  | 120 => ⟨S3x1152x1, .i32⟩
  | 121 => ⟨S3x1152, .i32⟩
  | 122 => ⟨S3x1x1x1152, .i32⟩
  | 123 => ⟨S3x1152x1, .i32⟩
  | 124 => ⟨S3x1152, .i32⟩
  | 125 => ⟨S3x1x1x1152, .i32⟩
  | 126 => ⟨S3x1152x1, .i32⟩
  | 127 => ⟨S3x1152, .i32⟩
  | _ => ⟨S3x1x9216, .bf16⟩

abbrev hbmTy0_1 (i : Nat) : BufTy := match i % 128 with
  | 0 => ⟨S3x1x1x1152, .i32⟩
  | 1 => ⟨S3x1152x1, .i32⟩
  | 2 => ⟨S3x1152, .i32⟩
  | 3 => ⟨S3x1x1x1152, .i32⟩
  | 4 => ⟨S3x2x24576x1152, .i1⟩
  | 5 => ⟨S3x2x24576x1152, .i32⟩
  | 6 => ⟨S3x2x24576x1152, .i32⟩
  | 7 => ⟨S3x2x24576x1152, .i32⟩
  | 8 => ⟨S3x2x24576x1152, .i1⟩
  | 9 => ⟨S3x2x24576x1152, .i32⟩
  | 10 => ⟨S3x2x24576x1152, .i32⟩
  | 11 => ⟨S3x2x24576x1152, .i32⟩
  | 12 => ⟨S3x2x24576x1152, .i1⟩
  | 13 => ⟨S3x2x24576x1152, .i32⟩
  | 14 => ⟨S3x2x24576x1152, .i32⟩
  | 15 => ⟨S3x2x24576x1152, .i32⟩
  | 16 => ⟨S3x2x24576x1152, .i1⟩
  | 17 => ⟨S3x2x24576x1152, .i32⟩
  | 18 => ⟨S3x2x24576x1152, .i32⟩
  | 19 => ⟨S3x2x24576x1152, .i32⟩
  | 20 => ⟨S3x2x24576x1152, .i1⟩
  | 21 => ⟨S3x2x24576x1152, .i32⟩
  | 22 => ⟨S3x2x24576x1152, .i1⟩
  | 23 => ⟨S3x2x24576x1152, .i32⟩
  | 24 => ⟨S3x2x24576x1152, .i1⟩
  | 25 => ⟨S3x2x24576x1152, .i32⟩
  | 26 => ⟨S_, .i32⟩
  | 27 => ⟨S1x2x24576x1152, .i32⟩
  | 28 => ⟨S1x2x24576x1152, .i1⟩
  | 29 => ⟨S3x2x24576x1152, .i32⟩
  | 30 => ⟨S3x2x24576x1152, .i1⟩
  | 31 => ⟨S3x2x24576x1152, .i32⟩
  | 32 => ⟨S3x1152x1x8, .i32⟩
  | 33 => ⟨S3x1152x8, .i32⟩
  | 34 => ⟨S_, .i32⟩
  | 35 => ⟨S1x2x24576x1152, .i32⟩
  | 36 => ⟨S1x2x24576x1152, .i32⟩
  | 37 => ⟨S_, .i32⟩
  | 38 => ⟨S1x2x24576x1152, .i32⟩
  | 39 => ⟨S1x2x24576x1152, .i32⟩
  | 40 => ⟨S1x2x24576x1152, .i32⟩
  | 41 => ⟨S_, .i32⟩
  | 42 => ⟨S1x2x24576x1152, .i32⟩
  | 43 => ⟨S1x2x24576x1152, .i32⟩
  | 44 => ⟨S_, .i32⟩
  | 45 => ⟨S1x2x24576x1152, .i32⟩
  | 46 => ⟨S1x2x24576x1152, .i1⟩
  | 47 => ⟨S_, .i32⟩
  | 48 => ⟨S1x2x24576x1152, .i32⟩
  | 49 => ⟨S1x2x24576x1152, .i32⟩
  | 50 => ⟨S_, .i32⟩
  | 51 => ⟨S1x2x24576x1152, .i32⟩
  | 52 => ⟨S1x2x24576x1152, .i1⟩
  | 53 => ⟨S_, .i32⟩
  | 54 => ⟨S1x2x24576x1152, .i32⟩
  | 55 => ⟨S1x2x24576x1152, .i32⟩
  | 56 => ⟨S_, .i32⟩
  | 57 => ⟨S1x2x24576x1152, .i32⟩
  | 58 => ⟨S1x2x24576x1152, .i1⟩
  | 59 => ⟨S3x1152x1, .i32⟩
  | 60 => ⟨S3x1152, .i32⟩
  | 61 => ⟨S3x1x1x1152, .i32⟩
  | 62 => ⟨S3x1152x1, .i32⟩
  | 63 => ⟨S3x1152, .i32⟩
  | 64 => ⟨S3x1x1x1152, .i32⟩
  | 65 => ⟨S3x1152x1, .i32⟩
  | 66 => ⟨S3x1152, .i32⟩
  | 67 => ⟨S3x1x1x1152, .i32⟩
  | 68 => ⟨S3x1152x1, .i32⟩
  | 69 => ⟨S3x1152, .i32⟩
  | 70 => ⟨S3x1x1x1152, .i32⟩
  | 71 => ⟨S3x1152x1, .i32⟩
  | 72 => ⟨S3x1152, .i32⟩
  | 73 => ⟨S3x1x1x1152, .i32⟩
  | 74 => ⟨S3x1152x1, .i32⟩
  | 75 => ⟨S3x1152, .i32⟩
  | 76 => ⟨S3x1x1x1152, .i32⟩
  | 77 => ⟨S3x1152x1, .i32⟩
  | 78 => ⟨S3x1152, .i32⟩
  | 79 => ⟨S3x1x1x1152, .i32⟩
  | 80 => ⟨S3x1152x1, .i32⟩
  | 81 => ⟨S3x1152, .i32⟩
  | 82 => ⟨S3x1x1x1152, .i32⟩
  | 83 => ⟨S3x2x24576x1152, .i1⟩
  | 84 => ⟨S3x2x24576x1152, .i32⟩
  | 85 => ⟨S3x2x24576x1152, .i32⟩
  | 86 => ⟨S3x2x24576x1152, .i32⟩
  | 87 => ⟨S3x2x24576x1152, .i1⟩
  | 88 => ⟨S3x2x24576x1152, .i32⟩
  | 89 => ⟨S3x2x24576x1152, .i32⟩
  | 90 => ⟨S3x2x24576x1152, .i32⟩
  | 91 => ⟨S3x2x24576x1152, .i1⟩
  | 92 => ⟨S3x2x24576x1152, .i32⟩
  | 93 => ⟨S3x2x24576x1152, .i32⟩
  | 94 => ⟨S3x2x24576x1152, .i32⟩
  | 95 => ⟨S3x2x24576x1152, .i1⟩
  | 96 => ⟨S3x2x24576x1152, .i32⟩
  | 97 => ⟨S3x2x24576x1152, .i32⟩
  | 98 => ⟨S3x2x24576x1152, .i32⟩
  | 99 => ⟨S3x2x24576x1152, .i1⟩
  | 100 => ⟨S3x2x24576x1152, .i32⟩
  | 101 => ⟨S3x2x24576x1152, .i1⟩
  | 102 => ⟨S3x2x24576x1152, .i32⟩
  | 103 => ⟨S3x2x24576x1152, .i1⟩
  | 104 => ⟨S3x2x24576x1152, .i32⟩
  | 105 => ⟨S_, .i32⟩
  | 106 => ⟨S1x2x24576x1152, .i32⟩
  | 107 => ⟨S1x2x24576x1152, .i1⟩
  | 108 => ⟨S3x2x24576x1152, .i32⟩
  | 109 => ⟨S3x2x24576x1152, .i1⟩
  | 110 => ⟨S3x2x24576x1152, .i32⟩
  | 111 => ⟨S3x2x24576x1152, .i32⟩
  | 112 => ⟨S3x2x24576x72x16, .i32⟩
  | 113 => ⟨S_, .i32⟩
  | 114 => ⟨S3x2x24576x72, .i32⟩
  | 115 => ⟨S2, .i32⟩
  | 116 => ⟨S_, .i32⟩
  | 117 => ⟨S_, .i32⟩
  | 118 => ⟨S_, .i1⟩
  | 119 => ⟨S_, .i32⟩
  | 120 => ⟨S2, .i32⟩
  | 121 => ⟨S2, .i1⟩
  | 122 => ⟨S2, .i1⟩
  | 123 => ⟨S2, .i1⟩
  | 124 => ⟨S_, .i32⟩
  | 125 => ⟨S_, .i32⟩
  | 126 => ⟨S2, .i32⟩
  | 127 => ⟨S2, .i32⟩
  | _ => ⟨S3x1x9216, .bf16⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i1⟩
  | 10 => ⟨S2, .i32⟩
  | 11 => ⟨S_, .i32⟩
  | 12 => ⟨S_, .i32⟩
  | 13 => ⟨S_, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i1⟩
  | 25 => ⟨S2, .i32⟩
  | 26 => ⟨S_, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i1⟩
  | 38 => ⟨S2, .i32⟩
  | 39 => ⟨S_, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i1⟩
  | 51 => ⟨S2, .i32⟩
  | 52 => ⟨S_, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i1⟩
  | 64 => ⟨S2, .i32⟩
  | 65 => ⟨S_, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i1⟩
  | 77 => ⟨S2, .i32⟩
  | 78 => ⟨S_, .i32⟩
  | 79 => ⟨S_, .i32⟩
  | 80 => ⟨S2, .i32⟩
  | 81 => ⟨S2, .i32⟩
  | 82 => ⟨S1x2x1x1, .i32⟩
  | 83 => ⟨S3x2x24576x72, .i32⟩
  | 84 => ⟨S3x2x24576x72, .i32⟩
  | 85 => ⟨S_, .i32⟩
  | 86 => ⟨S3x24576x72, .i32⟩
  | 87 => ⟨S_, .f32⟩
  | 88 => ⟨S24576x72, .f32⟩
  | 89 => ⟨S24576x72, .f32⟩
  | 90 => ⟨S_, .f32⟩
  | 91 => ⟨S24576x72, .f32⟩
  | 92 => ⟨S24576x72, .f32⟩
  | 93 => ⟨S_, .f32⟩
  | 94 => ⟨S24576x72, .f32⟩
  | 95 => ⟨S24576x72, .f32⟩
  | 96 => ⟨S3x24576x72, .f32⟩
  | 97 => ⟨S1x24576x72, .f32⟩
  | 98 => ⟨S3x72, .f32⟩
  | 99 => ⟨S3x1x72, .f32⟩
  | 100 => ⟨S3x24576x72, .f32⟩
  | 101 => ⟨S3x24576x72, .f32⟩
  | 102 => ⟨S3x24576x72, .f32⟩
  | 103 => ⟨S3x24576x72, .f32⟩
  | 104 => ⟨S1x24576x72, .f32⟩
  | 105 => ⟨S3x1x72, .f32⟩
  | 106 => ⟨S3x24576x72, .f32⟩
  | 107 => ⟨S3x24576x72, .f32⟩
  | 108 => ⟨S3x24576x72, .f32⟩
  | 109 => ⟨S3x24576x72, .f32⟩
  | 110 => ⟨S_, .f32⟩
  | 111 => ⟨S3x24576, .f32⟩
  | 112 => ⟨S3x24576, .bf16⟩
  | 113 => ⟨S3x2304x8, .i8⟩
  | 114 => ⟨S3x8x2304, .i8⟩
  | _ => ⟨S3x1x9216, .bf16⟩

abbrev hbmTy (i : Nat) : BufTy := match i / 128 with
  | 0 => hbmTy0_0 i
  | 1 => hbmTy0_1 i
  | 2 => hbmTy0_2 i
  | _ => ⟨S3x1x9216, .bf16⟩

abbrev bufTy : (tb : Table) → Fin (tcTables nBuf tb) → BufTy
  | .hbm, ⟨i, _⟩ => hbmTy i
  | _, _ => ⟨S3x1x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_c_8 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_c_17 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_c_19 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v100 : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_v101 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v102 : Ref sig .tc := ⟨.hbm, 143, rfl⟩
abbrev main_call6_v0 : Ref sig .tc := ⟨.hbm, 144, rfl⟩
abbrev main_call6_v1 : Ref sig .tc := ⟨.hbm, 145, rfl⟩
abbrev main_call6_v2 : Ref sig .tc := ⟨.hbm, 146, rfl⟩
abbrev main_v103 : Ref sig .tc := ⟨.hbm, 147, rfl⟩
abbrev main_call7_v0 : Ref sig .tc := ⟨.hbm, 148, rfl⟩
abbrev main_v104 : Ref sig .tc := ⟨.hbm, 149, rfl⟩
abbrev main_call8_v0 : Ref sig .tc := ⟨.hbm, 150, rfl⟩
abbrev main_v105 : Ref sig .tc := ⟨.hbm, 151, rfl⟩
abbrev main_call9_v0 : Ref sig .tc := ⟨.hbm, 152, rfl⟩
abbrev main_v106 : Ref sig .tc := ⟨.hbm, 153, rfl⟩
abbrev main_c_20 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_call10_v0 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_c_21 : Ref sig .tc := ⟨.hbm, 162, rfl⟩
abbrev main_v113 : Ref sig .tc := ⟨.hbm, 163, rfl⟩
abbrev main_v114 : Ref sig .tc := ⟨.hbm, 164, rfl⟩
abbrev main_c_22 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_c_23 : Ref sig .tc := ⟨.hbm, 169, rfl⟩
abbrev main_v118 : Ref sig .tc := ⟨.hbm, 170, rfl⟩
abbrev main_v119 : Ref sig .tc := ⟨.hbm, 171, rfl⟩
abbrev main_c_24 : Ref sig .tc := ⟨.hbm, 172, rfl⟩
abbrev main_v120 : Ref sig .tc := ⟨.hbm, 173, rfl⟩
abbrev main_v121 : Ref sig .tc := ⟨.hbm, 174, rfl⟩
abbrev main_c_25 : Ref sig .tc := ⟨.hbm, 175, rfl⟩
abbrev main_v122 : Ref sig .tc := ⟨.hbm, 176, rfl⟩
abbrev main_v123 : Ref sig .tc := ⟨.hbm, 177, rfl⟩
abbrev main_c_26 : Ref sig .tc := ⟨.hbm, 178, rfl⟩
abbrev main_v124 : Ref sig .tc := ⟨.hbm, 179, rfl⟩
abbrev main_v125 : Ref sig .tc := ⟨.hbm, 180, rfl⟩
abbrev main_c_27 : Ref sig .tc := ⟨.hbm, 181, rfl⟩
abbrev main_v126 : Ref sig .tc := ⟨.hbm, 182, rfl⟩
abbrev main_v127 : Ref sig .tc := ⟨.hbm, 183, rfl⟩
abbrev main_c_28 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_call11_v0 : Ref sig .tc := ⟨.hbm, 211, rfl⟩
abbrev main_call11_v1 : Ref sig .tc := ⟨.hbm, 212, rfl⟩
abbrev main_call11_v2 : Ref sig .tc := ⟨.hbm, 213, rfl⟩
abbrev main_v154 : Ref sig .tc := ⟨.hbm, 214, rfl⟩
abbrev main_call12_v0 : Ref sig .tc := ⟨.hbm, 215, rfl⟩
abbrev main_call12_v1 : Ref sig .tc := ⟨.hbm, 216, rfl⟩
abbrev main_call12_v2 : Ref sig .tc := ⟨.hbm, 217, rfl⟩
abbrev main_v155 : Ref sig .tc := ⟨.hbm, 218, rfl⟩
abbrev main_call13_v0 : Ref sig .tc := ⟨.hbm, 219, rfl⟩
abbrev main_call13_v1 : Ref sig .tc := ⟨.hbm, 220, rfl⟩
abbrev main_call13_v2 : Ref sig .tc := ⟨.hbm, 221, rfl⟩
abbrev main_v156 : Ref sig .tc := ⟨.hbm, 222, rfl⟩
abbrev main_call14_v0 : Ref sig .tc := ⟨.hbm, 223, rfl⟩
abbrev main_call14_v1 : Ref sig .tc := ⟨.hbm, 224, rfl⟩
abbrev main_call14_v2 : Ref sig .tc := ⟨.hbm, 225, rfl⟩
abbrev main_v157 : Ref sig .tc := ⟨.hbm, 226, rfl⟩
abbrev main_call15_v0 : Ref sig .tc := ⟨.hbm, 227, rfl⟩
abbrev main_v158 : Ref sig .tc := ⟨.hbm, 228, rfl⟩
abbrev main_call16_v0 : Ref sig .tc := ⟨.hbm, 229, rfl⟩
abbrev main_v159 : Ref sig .tc := ⟨.hbm, 230, rfl⟩
abbrev main_call17_v0 : Ref sig .tc := ⟨.hbm, 231, rfl⟩
abbrev main_v160 : Ref sig .tc := ⟨.hbm, 232, rfl⟩
abbrev main_c_29 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_call18_v0 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_c_30 : Ref sig .tc := ⟨.hbm, 241, rfl⟩
abbrev main_v167 : Ref sig .tc := ⟨.hbm, 242, rfl⟩
abbrev main_v168 : Ref sig .tc := ⟨.hbm, 243, rfl⟩
abbrev main_c_31 : Ref sig .tc := ⟨.hbm, 244, rfl⟩
abbrev main_c_32 : Ref sig .tc := ⟨.hbm, 245, rfl⟩
abbrev main_v169 : Ref sig .tc := ⟨.hbm, 246, rfl⟩
abbrev main_c_33 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_c_34 : Ref sig .tc := ⟨.hbm, 252, rfl⟩
abbrev main_c_35 : Ref sig .tc := ⟨.hbm, 253, rfl⟩
abbrev main_call19_v0 : Ref sig .tc := ⟨.hbm, 254, rfl⟩
abbrev main_call19_v1 : Ref sig .tc := ⟨.hbm, 255, rfl⟩
abbrev main_v174 : Ref sig .tc := ⟨.hbm, 256, rfl⟩
abbrev main_c_36 : Ref sig .tc := ⟨.hbm, 257, rfl⟩
abbrev main_v175 : Ref sig .tc := ⟨.hbm, 258, rfl⟩
abbrev main_v176 : Ref sig .tc := ⟨.hbm, 259, rfl⟩
abbrev main_c_37 : Ref sig .tc := ⟨.hbm, 260, rfl⟩
abbrev main_v177 : Ref sig .tc := ⟨.hbm, 261, rfl⟩
abbrev main_v178 : Ref sig .tc := ⟨.hbm, 262, rfl⟩
abbrev main_call20_c : Ref sig .tc := ⟨.hbm, 263, rfl⟩
abbrev main_call20_v0 : Ref sig .tc := ⟨.hbm, 264, rfl⟩
abbrev main_call20_v1 : Ref sig .tc := ⟨.hbm, 265, rfl⟩
abbrev main_v179 : Ref sig .tc := ⟨.hbm, 266, rfl⟩
abbrev main_c_38 : Ref sig .tc := ⟨.hbm, 267, rfl⟩
abbrev main_c_39 : Ref sig .tc := ⟨.hbm, 268, rfl⟩
abbrev main_v180 : Ref sig .tc := ⟨.hbm, 269, rfl⟩
abbrev main_c_40 : Ref sig .tc := ⟨.hbm, 270, rfl⟩
abbrev main_v181 : Ref sig .tc := ⟨.hbm, 271, rfl⟩
abbrev main_v182 : Ref sig .tc := ⟨.hbm, 272, rfl⟩
abbrev main_c_41 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_call21_c : Ref sig .tc := ⟨.hbm, 278, rfl⟩
abbrev main_call21_v0 : Ref sig .tc := ⟨.hbm, 279, rfl⟩
abbrev main_call21_v1 : Ref sig .tc := ⟨.hbm, 280, rfl⟩
abbrev main_v187 : Ref sig .tc := ⟨.hbm, 281, rfl⟩
abbrev main_v188 : Ref sig .tc := ⟨.hbm, 282, rfl⟩
abbrev main_c_42 : Ref sig .tc := ⟨.hbm, 283, rfl⟩
abbrev main_v189 : Ref sig .tc := ⟨.hbm, 284, rfl⟩
abbrev main_v190 : Ref sig .tc := ⟨.hbm, 285, rfl⟩
abbrev main_c_43 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_call22_c : Ref sig .tc := ⟨.hbm, 291, rfl⟩
abbrev main_call22_v0 : Ref sig .tc := ⟨.hbm, 292, rfl⟩
abbrev main_call22_v1 : Ref sig .tc := ⟨.hbm, 293, rfl⟩
abbrev main_v195 : Ref sig .tc := ⟨.hbm, 294, rfl⟩
abbrev main_v196 : Ref sig .tc := ⟨.hbm, 295, rfl⟩
abbrev main_c_44 : Ref sig .tc := ⟨.hbm, 296, rfl⟩
abbrev main_v197 : Ref sig .tc := ⟨.hbm, 297, rfl⟩
abbrev main_v198 : Ref sig .tc := ⟨.hbm, 298, rfl⟩
abbrev main_c_45 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_call23_c : Ref sig .tc := ⟨.hbm, 304, rfl⟩
abbrev main_call23_v0 : Ref sig .tc := ⟨.hbm, 305, rfl⟩
abbrev main_call23_v1 : Ref sig .tc := ⟨.hbm, 306, rfl⟩
abbrev main_v203 : Ref sig .tc := ⟨.hbm, 307, rfl⟩
abbrev main_v204 : Ref sig .tc := ⟨.hbm, 308, rfl⟩
abbrev main_c_46 : Ref sig .tc := ⟨.hbm, 309, rfl⟩
abbrev main_v205 : Ref sig .tc := ⟨.hbm, 310, rfl⟩
abbrev main_v206 : Ref sig .tc := ⟨.hbm, 311, rfl⟩
abbrev main_c_47 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_call24_c : Ref sig .tc := ⟨.hbm, 317, rfl⟩
abbrev main_call24_v0 : Ref sig .tc := ⟨.hbm, 318, rfl⟩
abbrev main_call24_v1 : Ref sig .tc := ⟨.hbm, 319, rfl⟩
abbrev main_v211 : Ref sig .tc := ⟨.hbm, 320, rfl⟩
abbrev main_v212 : Ref sig .tc := ⟨.hbm, 321, rfl⟩
abbrev main_c_48 : Ref sig .tc := ⟨.hbm, 322, rfl⟩
abbrev main_v213 : Ref sig .tc := ⟨.hbm, 323, rfl⟩
abbrev main_v214 : Ref sig .tc := ⟨.hbm, 324, rfl⟩
abbrev main_c_49 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_call25_c : Ref sig .tc := ⟨.hbm, 330, rfl⟩
abbrev main_call25_v0 : Ref sig .tc := ⟨.hbm, 331, rfl⟩
abbrev main_call25_v1 : Ref sig .tc := ⟨.hbm, 332, rfl⟩
abbrev main_v219 : Ref sig .tc := ⟨.hbm, 333, rfl⟩
abbrev main_v220 : Ref sig .tc := ⟨.hbm, 334, rfl⟩
abbrev main_c_50 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_c_51 : Ref sig .tc := ⟨.hbm, 341, rfl⟩
abbrev main_v226 : Ref sig .tc := ⟨.hbm, 342, rfl⟩
abbrev main_cst_52 : Ref sig .tc := ⟨.hbm, 343, rfl⟩
abbrev main_v227 : Ref sig .tc := ⟨.hbm, 344, rfl⟩
abbrev main_v228 : Ref sig .tc := ⟨.hbm, 345, rfl⟩
abbrev main_cst_53 : Ref sig .tc := ⟨.hbm, 346, rfl⟩
abbrev main_v229 : Ref sig .tc := ⟨.hbm, 347, rfl⟩
abbrev main_v230 : Ref sig .tc := ⟨.hbm, 348, rfl⟩
abbrev main_cst_54 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_cst_55 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩

abbrev nD : Nat := 1
abbrev τ : Topo := Topo.v7x

variable {F : FTy → Type} [FloatOps F]
-- ==== Proof.Kernel.Setup.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's one conditional, from the grid coordinates. -/
abbrev cond0_0 (i : grid0.Coords) : Prop := k0_cond1 i = 1#1

/-- It holds at the first grid point only. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

abbrev ms0_0 (t : Fin cfg0.N) : Memref sig .tc .vmem S3x9216 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x1152 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S72x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S72x1024 .f32 := win0_3.stage (cfg0.slots t 3)
abbrev hs0_3 (t : Fin cfg0.N) : (ms0_3 t).IsWhole := hstage0_3 ((cfg0.slots t 3).cast nbuf0_3)
/-- One staging buffer of output window 4, through which its contents are stated. -/
abbrev VO0_4 : View sig .tc .vmem S3x1024 .bf16 := (Memref.whole cc0_stg4_0 : Memref sig .tc .vmem S3x1024 .bf16).view
abbrev ms0_4 (t : Fin cfg0.N) : Memref sig .tc .vmem S3x1024 .bf16 := win0_4.stage (cfg0.slots t 4)
abbrev hs0_4 (t : Fin cfg0.N) : (ms0_4 t).IsWhole := hstage0_4 ((cfg0.slots t 4).cast nbuf0_4)
/-- One staging buffer of output window 5, through which its contents are stated. -/
abbrev VO0_5 : View sig .tc .vmem S3x8x2304 .i8 := (Memref.whole cc0_stg5_0 : Memref sig .tc .vmem S3x8x2304 .i8).view
abbrev ms0_5 (t : Fin cfg0.N) : Memref sig .tc .vmem S3x8x2304 .i8 := win0_5.stage (cfg0.slots t 5)
abbrev hs0_5 (t : Fin cfg0.N) : (ms0_5 t).IsWhole := hstage0_5 ((cfg0.slots t 5).cast nbuf0_5)
/-- One staging buffer of output window 6, through which its contents are stated. -/
abbrev VO0_6 : View sig .tc .vmem S3x72 .f32 := (Memref.whole cc0_stg6_0 : Memref sig .tc .vmem S3x72 .f32).view
abbrev ms0_6 (t : Fin cfg0.N) : Memref sig .tc .vmem S3x72 .f32 := win0_6.stage (cfg0.slots t 6)
abbrev hs0_6 (t : Fin cfg0.N) : (ms0_6 t).IsWhole := hstage0_6 ((cfg0.slots t 6).cast nbuf0_6)
abbrev scM0_0 : Memref sig .tc .vmem S18x24x128 .f32 := Memref.whole cc0_scratch0
abbrev scM0_1 : Memref sig .tc .vmem S216x128 .f32 := Memref.whole cc0_scratch1
abbrev scM0_2 : Memref sig .tc .vmem S4x1152x128 .f32 := Memref.whole cc0_scratch2
abbrev scM0_3 : Memref sig .tc .vmem S3x1152x512 .bf16 := Memref.whole cc0_scratch3
abbrev scM0_4 : Memref sig .tc .vmem S1152x128 .f32 := Memref.whole cc0_scratch4
abbrev scM0_5 : Memref sig .tc .vmem S1152x128 .f32 := Memref.whole cc0_scratch5
abbrev scM0_6 : Memref sig .tc .vmem S2x576x128 .f32 := Memref.whole cc0_scratch6
abbrev scM0_7 : Memref sig .tc .vmem S2x576x128 .f32 := Memref.whole cc0_scratch7
abbrev scM0_8 : Memref sig .tc .vmem S2x16x128 .f32 := Memref.whole cc0_scratch8

/-- The nine scratch operands, each whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.Kernel.Run

end
-- ==== Proof.Kernel.RunA.lean ====
module

public import proofs.«01_k».proof.Proof.Kernel.Setup

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option sl_exec.stridedRows true in
noncomputable def kernelRun0_A (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) :
    Σ' (L4 : List (View.Piece (Elt F) S3x1024 .bf16)), Σ' (L5 : List (View.Piece (Elt F) S3x8x2304 .i8)), Σ' (L6 : List (View.Piece (Elt F) S3x72 .f32)), Σ' (LS3 : List (View.Piece (Elt F) S3x1152x512 .bf16)), Σ' (LS4 : List (View.Piece (Elt F) S1152x128 .f32)), { LS5 : List (View.Piece (Elt F) S1152x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mirror_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_mirror_linear_eq_skeleton]; unfold cc0_mirror_linear_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3
    sl_exec_parts! (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists _; iexact H6
    isplitl [H7]
    · iexists _; iexists _; isplitr; swap; · iexact H7
      ipureintro; exact rfl
    isplitl [H8]
    · iexists _; iexists _; isplitr; swap; · iexact H8
      ipureintro; exact rfl
    isplitl [H9]
    · iexists _; iexists _; isplitr; swap; · iexact H9
      ipureintro; exact rfl
    isplitl [H10]
    · iexists _; iexact H10
    isplitl [H11]
    · iexists _; iexact H11
    isplitl [H12]
    · iexists _; iexact H12
    isplitl [H13]
    · iexists _; iexists _; isplitr; swap; · iexact H13
      ipureintro; exact rfl
    isplitl [H14]
    · iexists _; iexists _; isplitr; swap; · iexact H14
      ipureintro; exact rfl
    iexists _; iexists _; isplitr; swap; · iexact H15
    ipureintro; exact rfl

end Cert.Kernel.Run

end
-- ==== Proof.Kernel.RunB.lean ====
module

public import proofs.«01_k».proof.Proof.Kernel.Setup

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option sl_exec.stridedRows true in
noncomputable def kernelRun0_B (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : ¬cond0_0 i)
    (x0 : Vec F S3x9216 .bf16) (x1 : Vec F S2x1024x1152 .i8) (x2 x3 : Vec F S72x1024 .f32) (xo5 : Vec F S3x8x2304 .i8) (xo6 : Vec F S3x72 .f32) (xs3 : Vec F S3x1152x512 .bf16) (xs4 xs5 : Vec F S1152x128 .f32) :
    { L4 : List (View.Piece (Elt F) S3x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs3 ∗ owns (c : Thread nD τ) arg12 fullShare xs4 ∗ owns (c : Thread nD τ) arg13 fullShare xs5 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs3 ∗ owns (c : Thread nD τ) arg12 fullShare xs4 ∗ owns (c : Thread nD τ) arg13 fullShare xs5 ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mirror_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_mirror_linear_eq_skeleton]; unfold cc0_mirror_linear_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg11.eq_unread hf10; obtain rfl := harg12.eq_unread hf11; obtain rfl := harg13.eq_unread hf12
    sl_exec_parts! (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; isplitr; · ipureintro; exact harg6.read_unread _
      iexact H5
    isplitl [H6]
    · iexists _; isplitr; · ipureintro; exact harg7.read_unread _
      iexact H6
    isplitl [H7]
    · iexists _; iexists _; isplitr; swap; · iexact H7
      ipureintro; exact rfl
    isplitl [H8]
    · iexists _; iexists _; isplitr; swap; · iexact H8
      ipureintro; exact rfl
    isplitl [H9]
    · iexists _; iexists _; isplitr; swap; · iexact H9
      ipureintro; exact rfl
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexists _; isplitr; swap; · iexact H13
      ipureintro; exact rfl
    isplitl [H14]
    · iexists _; iexists _; isplitr; swap; · iexact H14
      ipureintro; exact rfl
    iexists _; iexists _; isplitr; swap; · iexact H15
    ipureintro; exact rfl

end Cert.Kernel.Run

end
-- ==== Proof.Kernel.Frame.lean ====
module

public import proofs.«01_k».proof.Proof.Kernel.RunA
public import proofs.«01_k».proof.Proof.Kernel.RunB

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores cover -/

/-- A rectangle that starts at zero, steps by one and has the shape's extents is the whole shape. -/
theorem mem_whole {s : Shape} (r : Rect s) (h0 : ∀ a, r.off a = 0) (h1 : ∀ a, r.size a = s.size a)
    (h2 : ∀ a, r.stride a = 1) (y : s.Idx) : y ∈ r.set := by
  rw [Rect.set_eq_univ_of_whole r fun a => ⟨h0 a, h2 a, h1 a⟩]; exact Finset.mem_univ y

theorem cover0_A_4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S3x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1, y ∈ pc.1.set := View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1 S3x128.size (by sl_kernel_rfl) y

/-- What the body leaves there: the stored pieces read back. -/
def out0_A_4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S3x1024 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1)

theorem cover0_A_5 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S3x8x2304.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.1, y ∈ pc.1.set := View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.1 S1x8x128.size (by sl_kernel_rfl) y

/-- What the body leaves there: the stored pieces read back. -/
def out0_A_5 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S3x8x2304 .i8 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.1)

theorem cover0_A_6 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S3x72.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.1, y ∈ pc.1.set := View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.1 S3x72.size (by sl_kernel_rfl) y

/-- What the body leaves there: the stored pieces read back. -/
def out0_A_6 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S3x72 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.1)

theorem cover0_A_s3 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S3x1152x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.1, y ∈ pc.1.set := View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.1 S1x1152x128.size (by sl_kernel_rfl) y

/-- What the body leaves there: the stored pieces read back. -/
def out0_A_s3 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S3x1152x512 .bf16 :=
  scM0_3.view.read (Elt F) (scM0_3.view.writes (Elt F) scM0_3.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.1)

theorem cover0_A_s4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S1152x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.1, y ∈ pc.1.set := by
  refine ⟨_, List.mem_of_getElem? (i := 12) (l := (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.1) rfl, ?_⟩
  exact mem_whole _ (fun a => by fin_cases a <;> rfl) (fun _ => rfl) (fun _ => rfl) y

/-- What the body leaves there: the stored pieces read back. -/
def out0_A_s4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S1152x128 .f32 :=
  scM0_4.view.read (Elt F) (scM0_4.view.writes (Elt F) scM0_4.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.1)

theorem cover0_A_s5 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S1152x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.1, y ∈ pc.1.set := by
  refine ⟨_, List.mem_of_getElem? (i := 12) (l := (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.1) rfl, ?_⟩
  exact mem_whole _ (fun a => by fin_cases a <;> rfl) (fun _ => rfl) (fun _ => rfl) y

/-- What the body leaves there: the stored pieces read back. -/
def out0_A_s5 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S1152x128 .f32 :=
  scM0_5.view.read (Elt F) (scM0_5.view.writes (Elt F) scM0_5.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.1)

theorem cover0_B_4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : ¬cond0_0 i)
    (x0 : Vec F S3x9216 .bf16) (x1 : Vec F S2x1024x1152 .i8) (x2 x3 : Vec F S72x1024 .f32) (xo5 : Vec F S3x8x2304 .i8) (xo6 : Vec F S3x72 .f32) (xs3 : Vec F S3x1152x512 .bf16) (xs4 xs5 : Vec F S1152x128 .f32) (y : S3x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xo5 xo6 xs3 xs4 xs5).1, y ∈ pc.1.set := View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xo5 xo6 xs3 xs4 xs5).1 S3x128.size (by sl_kernel_rfl) y

/-- What the body leaves there: the stored pieces read back. -/
def out0_B_4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : ¬cond0_0 i)
    (x0 : Vec F S3x9216 .bf16) (x1 : Vec F S2x1024x1152 .i8) (x2 x3 : Vec F S72x1024 .f32) (xo5 : Vec F S3x8x2304 .i8) (xo6 : Vec F S3x72 .f32) (xs3 : Vec F S3x1152x512 .bf16) (xs4 xs5 : Vec F S1152x128 .f32) : Vec F S3x1024 .bf16 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xo5 xo6 xs3 xs4 xs5).1)

/-! ## What the buffers hold after each point

The first point fills the two small results and the three tables the later points read; no later point stores into any of
them, so after every point they hold what the first one left. -/

/-- The first grid point. -/
abbrev t₀ : Fin cfg0.N := ⟨0, by rw [show cfg0.N = 24 from N_0]; decide⟩

/-- The codes the first point stores. -/
def codesAt (c : Dev nD) : Vec F S3x8x2304 .i8 :=
  out0_A_5 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The scales the first point stores. -/
def scaleAt (c : Dev nD) : Vec F S3x72 .f32 :=
  out0_A_6 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The activation features the first point stores. -/
def lhsAt (c : Dev nD) : Vec F S3x1152x512 .bf16 :=
  out0_A_s3 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The zero-point table the first point stores. -/
def zpAt (c : Dev nD) : Vec F S1152x128 .f32 :=
  out0_A_s4 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The table of scales, one row per token and output slot, the first point stores. -/
def scAt (c : Dev nD) : Vec F S1152x128 .f32 :=
  out0_A_s5 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The block of the product the body stores at point `t`. -/
def yAt (c : Dev nD) (t : Fin cfg0.N) : Vec F S3x1024 .bf16 :=
  if h0 : t.val % 24 = 0 then
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (iblk m c 0 t) (iblk m c 1 t) (iblk m c 2 t) (iblk m c 3 t)
  else
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (iblk m c 0 t) (iblk m c 1 t) (iblk m c 2 t) (iblk m c 3 t) (codesAt m c) (scaleAt m c) (lhsAt m c) (zpAt m c) (scAt m c)

/-- The scratch buffers after a point: the three tables at what the first point left, the others at anything. -/
abbrev PhiC (c : Dev nD) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare (lhsAt m c) ∗ owns (c : Thread nD τ) scM0_4 fullShare (zpAt m c) ∗ owns (c : Thread nD τ) scM0_5 fullShare (scAt m c) ∗ (∃ d, owns (c : Thread nD τ) scM0_6 fullShare d) ∗ (∃ d, owns (c : Thread nD τ) scM0_7 fullShare d) ∗ (∃ d, owns (c : Thread nD τ) scM0_8 fullShare d)) ∗ (∃ r, prngReg c r))

/-- The invariant before position `n`: every scratch at anything before the first point, `PhiC` afterwards. -/
def PhiS (c : Dev nD) : ℕ → sProp 𝕄
  | 0 => Pipeline.ΦA spec0 c
  | n + 1 => PhiC m c

theorem PhiS_zero (c : Dev nD) (n : ℕ) (hz : n = 0) : PhiS m c n = Pipeline.ΦA spec0 c := by
  subst hz; rfl

theorem PhiS_pos (c : Dev nD) (n : ℕ) (hz : n ≠ 0) : PhiS m c n = PhiC m c := by
  cases n with
  | zero => exact absurd rfl hz
  | succ n => rfl

/-- The proof data of the pipeline on core `c`: each input's buffer at its block, the product's at `yAt`, the two small
    results' at what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => codesAt m c
    | ⟨6, _⟩ => scaleAt m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yAt m c t := by dsimp only [dats]
theorem after0_5 (c : Dev nD) (t : Fin cfg0.N) : (dats m 0 c).after 5 t = codesAt m c := by dsimp only [dats]
theorem after0_6 (c : Dev nD) (t : Fin cfg0.N) : (dats m 0 c).after 6 t = scaleAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body stores into the two small results at the first point only. -/
theorem idle_eq (t : Fin cfg0.N) (h0 : ¬t.val % 24 = 0) : (!(k0_cond1 (grid0.coords t) == 1#1)) = true := by
  have := mt (hcond0_0 t).mp h0
  simpa [cond0_0] using this

theorem live_eq (t : Fin cfg0.N) (h0 : t.val % 24 = 0) : (!(k0_cond1 (grid0.coords t) == 1#1)) = false := by
  have : k0_cond1 (grid0.coords t) = 1#1 := (hcond0_0 t).mpr h0
  rw [this]; rfl

/-- Past the first point output 5's buffer holds what the first point left. -/
theorem before0_5 (c : Dev nD) : ∀ (n : ℕ) (hn : n + 1 < cfg0.N) (d),
    (dats m 0 c).before 5 ⟨n + 1, hn⟩ d = codesAt m c
  | 0, hn, d => by
    rw [Dat.before_of_pos _ 5 _ (Nat.succ_ne_zero 0) (Window.fetch_out _ rfl _),
      show (cfg0.win 5).flush ⟨0 + 1 - 1, Nat.lt_of_le_of_lt (Nat.sub_le _ _) hn⟩ = false from
        Bool.eq_false_iff.mpr fun h => by have := (flush0_5 _).mp h; dsimp only at this; omega, if_neg Bool.false_ne_true]
    unfold Dat.left
    rw [show cfg0.idle 5 (cfg0.grid.coords ⟨0 + 1 - 1, Nat.lt_of_le_of_lt (Nat.sub_le _ _) hn⟩) = false from live_eq _ rfl]
    dsimp only
    unfold Dat.kept
    rw [Pipeline.fill_of_clip_none 5 _ (fun _ => rfl) d ((dats m 0 c).after 5 _), Window.fill_cut]
    dsimp only [dats]
  | n + 1, hn, d => by
    have hN : n + 1 + 1 < 24 := lt_of_lt_of_eq hn (show cfg0.N = 24 from N_0)
    rw [Dat.before_of_pos _ 5 _ (Nat.succ_ne_zero (n + 1)) (Window.fetch_out _ rfl _),
      show (cfg0.win 5).flush ⟨n + 1 + 1 - 1, Nat.lt_of_le_of_lt (Nat.sub_le _ _) hn⟩ = false from
        Bool.eq_false_iff.mpr fun h => by have := (flush0_5 _).mp h; dsimp only at this; omega, if_neg Bool.false_ne_true]
    unfold Dat.left
    rw [show cfg0.idle 5 (cfg0.grid.coords ⟨n + 1 + 1 - 1, Nat.lt_of_le_of_lt (Nat.sub_le _ _) hn⟩) = true from
      idle_eq _ (by dsimp only; omega)]
    exact before0_5 c n (Nat.lt_of_succ_lt hn) d

/-- The same, at a point given by its number. -/
theorem before0_5' (c : Dev nD) (t : Fin cfg0.N) (h0 : t.val ≠ 0) (d) :
    (dats m 0 c).before 5 t d = codesAt m c := by
  obtain ⟨n, hn⟩ := t
  obtain ⟨k, rfl⟩ := Nat.exists_eq_succ_of_ne_zero h0
  exact before0_5 m c k hn d

/-- What the body leaves in output 5's buffer meets the obligation, the point storing into it or not. -/
theorem leaves_5 (c : Dev nD) (t : Fin cfg0.N) :
    (owns (c : Thread nD τ) (ms0_5 t) fullShare ((dats m 0 c).after 5 t) : sProp 𝕄)
    ⊢ (match cfg0.idle 5 (cfg0.grid.coords t) with
        | true =>
          match (cfg0.win 5).flush t with
          | false => iprop(∃ d, owns (c : Thread nD τ) ((cfg0.win 5).stage (cfg0.slots t 5)) fullShare ((dats m 0 c).before 5 t d))
          | true => owns (c : Thread nD τ) ((cfg0.win 5).stage (cfg0.slots t 5)) fullShare ((dats m 0 c).after 5 t)
        | false => owns (c : Thread nD τ) ((cfg0.win 5).stage (cfg0.slots t 5)) fullShare ((dats m 0 c).after 5 t)) := by
  by_cases hz : t.val = 0
  · obtain rfl : t = t₀ := Fin.ext hz
    rw [show cfg0.idle 5 (cfg0.grid.coords t₀) = false from live_eq t₀ rfl]
  · have hN : t.val < 24 := lt_of_lt_of_eq t.isLt (show cfg0.N = 24 from N_0)
    rw [show cfg0.idle 5 (cfg0.grid.coords t) = true from idle_eq t (by omega)]
    dsimp only
    cases (cfg0.win 5).flush t with
    | true => exact .rfl
    | false =>
      dsimp only
      rw [after0_5]
      iintro H
      iexists (fun _ => Classical.arbitrary _)
      rw [before0_5' m c t hz]
      iexact H

/-- Past the first point output 6's buffer holds what the first point left. -/
theorem before0_6 (c : Dev nD) : ∀ (n : ℕ) (hn : n + 1 < cfg0.N) (d),
    (dats m 0 c).before 6 ⟨n + 1, hn⟩ d = scaleAt m c
  | 0, hn, d => by
    rw [Dat.before_of_pos _ 6 _ (Nat.succ_ne_zero 0) (Window.fetch_out _ rfl _),
      show (cfg0.win 6).flush ⟨0 + 1 - 1, Nat.lt_of_le_of_lt (Nat.sub_le _ _) hn⟩ = false from
        Bool.eq_false_iff.mpr fun h => by have := (flush0_6 _).mp h; dsimp only at this; omega, if_neg Bool.false_ne_true]
    unfold Dat.left
    rw [show cfg0.idle 6 (cfg0.grid.coords ⟨0 + 1 - 1, Nat.lt_of_le_of_lt (Nat.sub_le _ _) hn⟩) = false from live_eq _ rfl]
    dsimp only
    unfold Dat.kept
    rw [Pipeline.fill_of_clip_none 6 _ (fun _ => rfl) d ((dats m 0 c).after 6 _), Window.fill_cut]
    dsimp only [dats]
  | n + 1, hn, d => by
    have hN : n + 1 + 1 < 24 := lt_of_lt_of_eq hn (show cfg0.N = 24 from N_0)
    rw [Dat.before_of_pos _ 6 _ (Nat.succ_ne_zero (n + 1)) (Window.fetch_out _ rfl _),
      show (cfg0.win 6).flush ⟨n + 1 + 1 - 1, Nat.lt_of_le_of_lt (Nat.sub_le _ _) hn⟩ = false from
        Bool.eq_false_iff.mpr fun h => by have := (flush0_6 _).mp h; dsimp only at this; omega, if_neg Bool.false_ne_true]
    unfold Dat.left
    rw [show cfg0.idle 6 (cfg0.grid.coords ⟨n + 1 + 1 - 1, Nat.lt_of_le_of_lt (Nat.sub_le _ _) hn⟩) = true from
      idle_eq _ (by dsimp only; omega)]
    exact before0_6 c n (Nat.lt_of_succ_lt hn) d

/-- The same, at a point given by its number. -/
theorem before0_6' (c : Dev nD) (t : Fin cfg0.N) (h0 : t.val ≠ 0) (d) :
    (dats m 0 c).before 6 t d = scaleAt m c := by
  obtain ⟨n, hn⟩ := t
  obtain ⟨k, rfl⟩ := Nat.exists_eq_succ_of_ne_zero h0
  exact before0_6 m c k hn d

/-- What the body leaves in output 6's buffer meets the obligation, the point storing into it or not. -/
theorem leaves_6 (c : Dev nD) (t : Fin cfg0.N) :
    (owns (c : Thread nD τ) (ms0_6 t) fullShare ((dats m 0 c).after 6 t) : sProp 𝕄)
    ⊢ (match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t)) := by
  by_cases hz : t.val = 0
  · obtain rfl : t = t₀ := Fin.ext hz
    rw [show cfg0.idle 6 (cfg0.grid.coords t₀) = false from live_eq t₀ rfl]
  · have hN : t.val < 24 := lt_of_lt_of_eq t.isLt (show cfg0.N = 24 from N_0)
    rw [show cfg0.idle 6 (cfg0.grid.coords t) = true from idle_eq t (by omega)]
    dsimp only
    cases (cfg0.win 6).flush t with
    | true => exact .rfl
    | false =>
      dsimp only
      rw [after0_6]
      iintro H
      iexists (fun _ => Classical.arbitrary _)
      rw [before0_6' m c t hz]
      iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t))

set_option maxHeartbeats 3200000 in
/-- The body at any point, from the two cases' runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = PhiC m c from rfl]
  have hN : t.val < 24 := lt_of_lt_of_eq t.isLt (show cfg0.N = 24 from N_0)
  by_cases hz : t.val = 0
  · obtain rfl : t = t₀ := Fin.ext hz
    rw [PhiS_castSucc m c t₀, PhiS_zero m c _ rfl, PhiA0_eq]
    rw [show yAt m c t₀ = _ from dif_pos (rfl : (t₀ : Fin cfg0.N).val % 24 = 0)]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t₀) _ _ _ _ _ _ _ _ _ _ _ _ _ _ _ _ _ _ _ _ _ _ _ _ _ _ _ _ _ _ _ _ ((hcond0_0 t₀).mpr rfl) (iblk m c 0 t₀) (iblk m c 1 t₀) (iblk m c 2 t₀) (iblk m c 3 t₀)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, ⟨%e4, H4⟩, ⟨%e5, H5⟩, ⟨%e6, H6⟩, HS0, HS1, HS2, ⟨%es3, HS3⟩, ⟨%es4, HS4⟩, ⟨%es5, HS5⟩, HS6, HS7, HS8⟩
    isplitl [HS0 HS1 HS2 HS3 HS4 HS5 HS6 HS7 HS8 Hg]
    · isplitr [Hg]
      · isplitl [HS0]; · iexact HS0
        isplitl [HS1]; · iexact HS1
        isplitl [HS2]; · iexact HS2
        isplitl [HS3]
        · unfold owns; iexists _; isplitr
          swap; · iexact HS3
          ipureintro; unfold lhsAt out0_A_s3; exact View.read_writes_of_cover _ _ _ _ _ (cover0_A_s3 c _ _ _ _ _ _ _ _ _ _ _ _ _ _ _ _ _ _ _ _ _ _ _ _ _ _ _ _ _ _ _ _ _ _ _ _ _ _)
        isplitl [HS4]
        · unfold owns; iexists _; isplitr
          swap; · iexact HS4
          ipureintro; unfold zpAt out0_A_s4; exact View.read_writes_of_cover _ _ _ _ _ (cover0_A_s4 c _ _ _ _ _ _ _ _ _ _ _ _ _ _ _ _ _ _ _ _ _ _ _ _ _ _ _ _ _ _ _ _ _ _ _ _ _ _)
        isplitl [HS5]
        · unfold owns; iexists _; isplitr
          swap; · iexact HS5
          ipureintro; unfold scAt out0_A_s5; exact View.read_writes_of_cover _ _ _ _ _ (cover0_A_s5 c _ _ _ _ _ _ _ _ _ _ _ _ _ _ _ _ _ _ _ _ _ _ _ _ _ _ _ _ _ _ _ _ _ _ _ _ _ _)
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; unfold out0_A_4; exact View.read_writes_of_cover _ _ _ _ _ (cover0_A_4 c _ _ _ _ _ _ _ _ _ _ _ _ _ _ _ _ _ _ _ _ _ _ _ _ _ _ _ _ _ _ _ _ _ _ _ _ _ _)
    isplitl [H5]
    · unfold owns; iexists _; isplitr
      swap; · iexact H5
      ipureintro; unfold codesAt out0_A_5; exact View.read_writes_of_cover _ _ _ _ _ (cover0_A_5 c _ _ _ _ _ _ _ _ _ _ _ _ _ _ _ _ _ _ _ _ _ _ _ _ _ _ _ _ _ _ _ _ _ _ _ _ _ _)
    unfold owns; iexists _; isplitr
    swap; · iexact H6
    ipureintro; unfold scaleAt out0_A_6; exact View.read_writes_of_cover _ _ _ _ _ (cover0_A_6 c _ _ _ _ _ _ _ _ _ _ _ _ _ _ _ _ _ _ _ _ _ _ _ _ _ _ _ _ _ _ _ _ _ _ _ _ _ _)
  · have h0 : ¬ t.val % 24 = 0 := by omega
    rw [PhiS_castSucc m c t, PhiS_pos m c _ hz]
    rw [show yAt m c t = _ from dif_neg h0]
    simp only [before0_5' m c t hz, before0_6' m c t hz]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (codesAt m c) (scaleAt m c) (lhsAt m c) (zpAt m c) (scAt m c)).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, ⟨%e4, H4⟩, H5, H6, HS0, HS1, HS2, HS3, HS4, HS5, HS6, HS7, HS8⟩
    isplitl [HS0 HS1 HS2 HS3 HS4 HS5 HS6 HS7 HS8 Hg]
    · isplitr [Hg]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; unfold out0_B_4; exact View.read_writes_of_cover _ _ _ _ _ (cover0_B_4 c _ _ _ _ _ _ _ _ _ _ _ _ _ _ _ _ _ _ _ _ _ _ _ _ _ _ _ _ _ _ _ _ _ _ _ _ _ _ _ _ _ _ _)
    isplitl [H5]; · iexact H5
    iexact H6
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_5 m c t); iexact H5
  iapply (leaves_6 m c t); iexact H6

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2, HS3, HS4, HS5, HS6, HS7, HS8⟩, Hg⟩
  isplitr [Hg]
  · isplitl [HS0]; · iexact HS0
    isplitl [HS1]; · iexact HS1
    isplitl [HS2]; · iexact HS2
    isplitl [HS3]; · iexists _; iexact HS3
    isplitl [HS4]; · iexists _; iexact HS4
    isplitl [HS5]; · iexists _; iexact HS5
    isplitl [HS6]; · iexact HS6
    isplitl [HS7]; · iexact HS7
    iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.frame`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Run

end
-- ==== Proof.KernelIdeal.Setup.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's one conditional, from the grid coordinates. -/
abbrev cond0_0 (i : grid0.Coords) : Prop := k0_cond1 i = 1#1

/-- It holds at the first grid point only. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

abbrev ms0_0 (t : Fin cfg0.N) : Memref sig .tc .vmem S3x9216 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x1152 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S72x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S72x1024 .f32 := win0_3.stage (cfg0.slots t 3)
abbrev hs0_3 (t : Fin cfg0.N) : (ms0_3 t).IsWhole := hstage0_3 ((cfg0.slots t 3).cast nbuf0_3)
/-- One staging buffer of output window 4, through which its contents are stated. -/
abbrev VO0_4 : View sig .tc .vmem S3x1024 .bf16 := (Memref.whole cc0_stg4_0 : Memref sig .tc .vmem S3x1024 .bf16).view
abbrev ms0_4 (t : Fin cfg0.N) : Memref sig .tc .vmem S3x1024 .bf16 := win0_4.stage (cfg0.slots t 4)
abbrev hs0_4 (t : Fin cfg0.N) : (ms0_4 t).IsWhole := hstage0_4 ((cfg0.slots t 4).cast nbuf0_4)
/-- One staging buffer of output window 5, through which its contents are stated. -/
abbrev VO0_5 : View sig .tc .vmem S3x8x2304 .i8 := (Memref.whole cc0_stg5_0 : Memref sig .tc .vmem S3x8x2304 .i8).view
abbrev ms0_5 (t : Fin cfg0.N) : Memref sig .tc .vmem S3x8x2304 .i8 := win0_5.stage (cfg0.slots t 5)
abbrev hs0_5 (t : Fin cfg0.N) : (ms0_5 t).IsWhole := hstage0_5 ((cfg0.slots t 5).cast nbuf0_5)
/-- One staging buffer of output window 6, through which its contents are stated. -/
abbrev VO0_6 : View sig .tc .vmem S3x72 .f32 := (Memref.whole cc0_stg6_0 : Memref sig .tc .vmem S3x72 .f32).view
abbrev ms0_6 (t : Fin cfg0.N) : Memref sig .tc .vmem S3x72 .f32 := win0_6.stage (cfg0.slots t 6)
abbrev hs0_6 (t : Fin cfg0.N) : (ms0_6 t).IsWhole := hstage0_6 ((cfg0.slots t 6).cast nbuf0_6)
abbrev scM0_0 : Memref sig .tc .vmem S18x24x128 .f32 := Memref.whole cc0_scratch0
abbrev scM0_1 : Memref sig .tc .vmem S216x128 .f32 := Memref.whole cc0_scratch1
abbrev scM0_2 : Memref sig .tc .vmem S4x1152x128 .f32 := Memref.whole cc0_scratch2
abbrev scM0_3 : Memref sig .tc .vmem S3x1152x512 .bf16 := Memref.whole cc0_scratch3
abbrev scM0_4 : Memref sig .tc .vmem S1152x128 .f32 := Memref.whole cc0_scratch4
abbrev scM0_5 : Memref sig .tc .vmem S1152x128 .f32 := Memref.whole cc0_scratch5
abbrev scM0_6 : Memref sig .tc .vmem S2x576x128 .f32 := Memref.whole cc0_scratch6
abbrev scM0_7 : Memref sig .tc .vmem S2x576x128 .f32 := Memref.whole cc0_scratch7
abbrev scM0_8 : Memref sig .tc .vmem S2x16x128 .f32 := Memref.whole cc0_scratch8

/-- The nine scratch operands, each whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Run

end
-- ==== Proof.KernelIdeal.RunA.lean ====
module

public import proofs.«01_k».proof.Proof.KernelIdeal.Setup

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option sl_exec.stridedRows true in
noncomputable def kernelRun0_A (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) :
    Σ' (L4 : List (View.Piece (Elt F) S3x1024 .bf16)), Σ' (L5 : List (View.Piece (Elt F) S3x8x2304 .i8)), Σ' (L6 : List (View.Piece (Elt F) S3x72 .f32)), Σ' (LS3 : List (View.Piece (Elt F) S3x1152x512 .bf16)), Σ' (LS4 : List (View.Piece (Elt F) S1152x128 .f32)), { LS5 : List (View.Piece (Elt F) S1152x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mirror_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_mirror_linear_eq_skeleton]; unfold cc0_mirror_linear_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3
    sl_exec_parts! (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists _; iexact H6
    isplitl [H7]
    · iexists _; iexists _; isplitr; swap; · iexact H7
      ipureintro; exact rfl
    isplitl [H8]
    · iexists _; iexists _; isplitr; swap; · iexact H8
      ipureintro; exact rfl
    isplitl [H9]
    · iexists _; iexists _; isplitr; swap; · iexact H9
      ipureintro; exact rfl
    isplitl [H10]
    · iexists _; iexact H10
    isplitl [H11]
    · iexists _; iexact H11
    isplitl [H12]
    · iexists _; iexact H12
    isplitl [H13]
    · iexists _; iexists _; isplitr; swap; · iexact H13
      ipureintro; exact rfl
    isplitl [H14]
    · iexists _; iexists _; isplitr; swap; · iexact H14
      ipureintro; exact rfl
    iexists _; iexists _; isplitr; swap; · iexact H15
    ipureintro; exact rfl

end Cert.KernelIdeal.Run

end
-- ==== Proof.KernelIdeal.RunB.lean ====
module

public import proofs.«01_k».proof.Proof.KernelIdeal.Setup

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option sl_exec.stridedRows true in
noncomputable def kernelRun0_B (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : ¬cond0_0 i)
    (x0 : Vec F S3x9216 .bf16) (x1 : Vec F S2x1024x1152 .i8) (x2 x3 : Vec F S72x1024 .f32) (xo5 : Vec F S3x8x2304 .i8) (xo6 : Vec F S3x72 .f32) (xs3 : Vec F S3x1152x512 .bf16) (xs4 xs5 : Vec F S1152x128 .f32) :
    { L4 : List (View.Piece (Elt F) S3x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs3 ∗ owns (c : Thread nD τ) arg12 fullShare xs4 ∗ owns (c : Thread nD τ) arg13 fullShare xs5 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xo5 ∗ owns (c : Thread nD τ) arg7 fullShare xo6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs3 ∗ owns (c : Thread nD τ) arg12 fullShare xs4 ∗ owns (c : Thread nD τ) arg13 fullShare xs5 ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mirror_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_mirror_linear_eq_skeleton]; unfold cc0_mirror_linear_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg11.eq_unread hf10; obtain rfl := harg12.eq_unread hf11; obtain rfl := harg13.eq_unread hf12
    sl_exec_parts! (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; isplitr; · ipureintro; exact harg6.read_unread _
      iexact H5
    isplitl [H6]
    · iexists _; isplitr; · ipureintro; exact harg7.read_unread _
      iexact H6
    isplitl [H7]
    · iexists _; iexists _; isplitr; swap; · iexact H7
      ipureintro; exact rfl
    isplitl [H8]
    · iexists _; iexists _; isplitr; swap; · iexact H8
      ipureintro; exact rfl
    isplitl [H9]
    · iexists _; iexists _; isplitr; swap; · iexact H9
      ipureintro; exact rfl
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexists _; isplitr; swap; · iexact H13
      ipureintro; exact rfl
    isplitl [H14]
    · iexists _; iexists _; isplitr; swap; · iexact H14
      ipureintro; exact rfl
    iexists _; iexists _; isplitr; swap; · iexact H15
    ipureintro; exact rfl

end Cert.KernelIdeal.Run

end
-- ==== Proof.KernelIdeal.Frame.lean ====
module

public import proofs.«01_k».proof.Proof.KernelIdeal.RunA
public import proofs.«01_k».proof.Proof.KernelIdeal.RunB

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores cover -/

/-- A rectangle that starts at zero, steps by one and has the shape's extents is the whole shape. -/
theorem mem_whole {s : Shape} (r : Rect s) (h0 : ∀ a, r.off a = 0) (h1 : ∀ a, r.size a = s.size a)
    (h2 : ∀ a, r.stride a = 1) (y : s.Idx) : y ∈ r.set := by
  rw [Rect.set_eq_univ_of_whole r fun a => ⟨h0 a, h2 a, h1 a⟩]; exact Finset.mem_univ y

theorem cover0_A_4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S3x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1, y ∈ pc.1.set := View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1 S3x128.size (by sl_kernel_rfl) y

/-- What the body leaves there: the stored pieces read back. -/
def out0_A_4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S3x1024 .bf16 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1)

theorem cover0_A_5 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S3x8x2304.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.1, y ∈ pc.1.set := View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.1 S1x8x128.size (by sl_kernel_rfl) y

/-- What the body leaves there: the stored pieces read back. -/
def out0_A_5 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S3x8x2304 .i8 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.1)

theorem cover0_A_6 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S3x72.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.1, y ∈ pc.1.set := View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.1 S3x72.size (by sl_kernel_rfl) y

/-- What the body leaves there: the stored pieces read back. -/
def out0_A_6 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S3x72 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.1)

theorem cover0_A_s3 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S3x1152x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.1, y ∈ pc.1.set := View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.1 S1x1152x128.size (by sl_kernel_rfl) y

/-- What the body leaves there: the stored pieces read back. -/
def out0_A_s3 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S3x1152x512 .bf16 :=
  scM0_3.view.read (Elt F) (scM0_3.view.writes (Elt F) scM0_3.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.1)

theorem cover0_A_s4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S1152x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.1, y ∈ pc.1.set := by
  refine ⟨_, List.mem_of_getElem? (i := 12) (l := (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.1) rfl, ?_⟩
  exact mem_whole _ (fun a => by fin_cases a <;> rfl) (fun _ => rfl) (fun _ => rfl) y

/-- What the body leaves there: the stored pieces read back. -/
def out0_A_s4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S1152x128 .f32 :=
  scM0_4.view.read (Elt F) (scM0_4.view.writes (Elt F) scM0_4.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.1)

theorem cover0_A_s5 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) (y : S1152x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.1, y ∈ pc.1.set := by
  refine ⟨_, List.mem_of_getElem? (i := 12) (l := (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.1) rfl, ?_⟩
  exact mem_whole _ (fun a => by fin_cases a <;> rfl) (fun _ => rfl) (fun _ => rfl) y

/-- What the body leaves there: the stored pieces read back. -/
def out0_A_s5 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32) : Vec F S1152x128 .f32 :=
  scM0_5.view.read (Elt F) (scM0_5.view.writes (Elt F) scM0_5.view.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.1)

theorem cover0_B_4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : ¬cond0_0 i)
    (x0 : Vec F S3x9216 .bf16) (x1 : Vec F S2x1024x1152 .i8) (x2 x3 : Vec F S72x1024 .f32) (xo5 : Vec F S3x8x2304 .i8) (xo6 : Vec F S3x72 .f32) (xs3 : Vec F S3x1152x512 .bf16) (xs4 xs5 : Vec F S1152x128 .f32) (y : S3x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xo5 xo6 xs3 xs4 xs5).1, y ∈ pc.1.set := View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xo5 xo6 xs3 xs4 xs5).1 S3x128.size (by sl_kernel_rfl) y

/-- What the body leaves there: the stored pieces read back. -/
def out0_B_4 (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : ¬cond0_0 i)
    (x0 : Vec F S3x9216 .bf16) (x1 : Vec F S2x1024x1152 .i8) (x2 x3 : Vec F S72x1024 .f32) (xo5 : Vec F S3x8x2304 .i8) (xo6 : Vec F S3x72 .f32) (xs3 : Vec F S3x1152x512 .bf16) (xs4 xs5 : Vec F S1152x128 .f32) : Vec F S3x1024 .bf16 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xo5 xo6 xs3 xs4 xs5).1)

/-! ## What the buffers hold after each point

The first point fills the two small results and the three tables the later points read; no later point stores into any of
them, so after every point they hold what the first one left. -/

/-- The first grid point. -/
abbrev t₀ : Fin cfg0.N := ⟨0, by rw [show cfg0.N = 24 from N_0]; decide⟩

/-- The codes the first point stores. -/
def codesAt (c : Dev nD) : Vec F S3x8x2304 .i8 :=
  out0_A_5 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The scales the first point stores. -/
def scaleAt (c : Dev nD) : Vec F S3x72 .f32 :=
  out0_A_6 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The activation features the first point stores. -/
def lhsAt (c : Dev nD) : Vec F S3x1152x512 .bf16 :=
  out0_A_s3 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The zero-point table the first point stores. -/
def zpAt (c : Dev nD) : Vec F S1152x128 .f32 :=
  out0_A_s4 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The table of scales, one row per token and output slot, the first point stores. -/
def scAt (c : Dev nD) : Vec F S1152x128 .f32 :=
  out0_A_s5 c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t₀).mpr rfl) (iblk m c 0 t₀) (iblk m c 1 t₀) (iblk m c 2 t₀) (iblk m c 3 t₀)

/-- The block of the product the body stores at point `t`. -/
def yAt (c : Dev nD) (t : Fin cfg0.N) : Vec F S3x1024 .bf16 :=
  if h0 : t.val % 24 = 0 then
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (iblk m c 0 t) (iblk m c 1 t) (iblk m c 2 t) (iblk m c 3 t)
  else
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (iblk m c 0 t) (iblk m c 1 t) (iblk m c 2 t) (iblk m c 3 t) (codesAt m c) (scaleAt m c) (lhsAt m c) (zpAt m c) (scAt m c)

/-- The scratch buffers after a point: the three tables at what the first point left, the others at anything. -/
abbrev PhiC (c : Dev nD) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare (lhsAt m c) ∗ owns (c : Thread nD τ) scM0_4 fullShare (zpAt m c) ∗ owns (c : Thread nD τ) scM0_5 fullShare (scAt m c) ∗ (∃ d, owns (c : Thread nD τ) scM0_6 fullShare d) ∗ (∃ d, owns (c : Thread nD τ) scM0_7 fullShare d) ∗ (∃ d, owns (c : Thread nD τ) scM0_8 fullShare d)) ∗ (∃ r, prngReg c r))

/-- The invariant before position `n`: every scratch at anything before the first point, `PhiC` afterwards. -/
def PhiS (c : Dev nD) : ℕ → sProp 𝕄
  | 0 => Pipeline.ΦA spec0 c
  | n + 1 => PhiC m c

theorem PhiS_zero (c : Dev nD) (n : ℕ) (hz : n = 0) : PhiS m c n = Pipeline.ΦA spec0 c := by
  subst hz; rfl

theorem PhiS_pos (c : Dev nD) (n : ℕ) (hz : n ≠ 0) : PhiS m c n = PhiC m c := by
  cases n with
  | zero => exact absurd rfl hz
  | succ n => rfl

/-- The proof data of the pipeline on core `c`: each input's buffer at its block, the product's at `yAt`, the two small
    results' at what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => codesAt m c
    | ⟨6, _⟩ => scaleAt m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yAt m c t := by dsimp only [dats]
theorem after0_5 (c : Dev nD) (t : Fin cfg0.N) : (dats m 0 c).after 5 t = codesAt m c := by dsimp only [dats]
theorem after0_6 (c : Dev nD) (t : Fin cfg0.N) : (dats m 0 c).after 6 t = scaleAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body stores into the two small results at the first point only. -/
theorem idle_eq (t : Fin cfg0.N) (h0 : ¬t.val % 24 = 0) : (!(k0_cond1 (grid0.coords t) == 1#1)) = true := by
  have := mt (hcond0_0 t).mp h0
  simpa [cond0_0] using this

theorem live_eq (t : Fin cfg0.N) (h0 : t.val % 24 = 0) : (!(k0_cond1 (grid0.coords t) == 1#1)) = false := by
  have : k0_cond1 (grid0.coords t) = 1#1 := (hcond0_0 t).mpr h0
  rw [this]; rfl

/-- Past the first point output 5's buffer holds what the first point left. -/
theorem before0_5 (c : Dev nD) : ∀ (n : ℕ) (hn : n + 1 < cfg0.N) (d),
    (dats m 0 c).before 5 ⟨n + 1, hn⟩ d = codesAt m c
  | 0, hn, d => by
    rw [Dat.before_of_pos _ 5 _ (Nat.succ_ne_zero 0) (Window.fetch_out _ rfl _),
      show (cfg0.win 5).flush ⟨0 + 1 - 1, Nat.lt_of_le_of_lt (Nat.sub_le _ _) hn⟩ = false from
        Bool.eq_false_iff.mpr fun h => by have := (flush0_5 _).mp h; dsimp only at this; omega, if_neg Bool.false_ne_true]
    unfold Dat.left
    rw [show cfg0.idle 5 (cfg0.grid.coords ⟨0 + 1 - 1, Nat.lt_of_le_of_lt (Nat.sub_le _ _) hn⟩) = false from live_eq _ rfl]
    dsimp only
    unfold Dat.kept
    rw [Pipeline.fill_of_clip_none 5 _ (fun _ => rfl) d ((dats m 0 c).after 5 _), Window.fill_cut]
    dsimp only [dats]
  | n + 1, hn, d => by
    have hN : n + 1 + 1 < 24 := lt_of_lt_of_eq hn (show cfg0.N = 24 from N_0)
    rw [Dat.before_of_pos _ 5 _ (Nat.succ_ne_zero (n + 1)) (Window.fetch_out _ rfl _),
      show (cfg0.win 5).flush ⟨n + 1 + 1 - 1, Nat.lt_of_le_of_lt (Nat.sub_le _ _) hn⟩ = false from
        Bool.eq_false_iff.mpr fun h => by have := (flush0_5 _).mp h; dsimp only at this; omega, if_neg Bool.false_ne_true]
    unfold Dat.left
    rw [show cfg0.idle 5 (cfg0.grid.coords ⟨n + 1 + 1 - 1, Nat.lt_of_le_of_lt (Nat.sub_le _ _) hn⟩) = true from
      idle_eq _ (by dsimp only; omega)]
    exact before0_5 c n (Nat.lt_of_succ_lt hn) d

/-- The same, at a point given by its number. -/
theorem before0_5' (c : Dev nD) (t : Fin cfg0.N) (h0 : t.val ≠ 0) (d) :
    (dats m 0 c).before 5 t d = codesAt m c := by
  obtain ⟨n, hn⟩ := t
  obtain ⟨k, rfl⟩ := Nat.exists_eq_succ_of_ne_zero h0
  exact before0_5 m c k hn d

/-- What the body leaves in output 5's buffer meets the obligation, the point storing into it or not. -/
theorem leaves_5 (c : Dev nD) (t : Fin cfg0.N) :
    (owns (c : Thread nD τ) (ms0_5 t) fullShare ((dats m 0 c).after 5 t) : sProp 𝕄)
    ⊢ (match cfg0.idle 5 (cfg0.grid.coords t) with
        | true =>
          match (cfg0.win 5).flush t with
          | false => iprop(∃ d, owns (c : Thread nD τ) ((cfg0.win 5).stage (cfg0.slots t 5)) fullShare ((dats m 0 c).before 5 t d))
          | true => owns (c : Thread nD τ) ((cfg0.win 5).stage (cfg0.slots t 5)) fullShare ((dats m 0 c).after 5 t)
        | false => owns (c : Thread nD τ) ((cfg0.win 5).stage (cfg0.slots t 5)) fullShare ((dats m 0 c).after 5 t)) := by
  by_cases hz : t.val = 0
  · obtain rfl : t = t₀ := Fin.ext hz
    rw [show cfg0.idle 5 (cfg0.grid.coords t₀) = false from live_eq t₀ rfl]
  · have hN : t.val < 24 := lt_of_lt_of_eq t.isLt (show cfg0.N = 24 from N_0)
    rw [show cfg0.idle 5 (cfg0.grid.coords t) = true from idle_eq t (by omega)]
    dsimp only
    cases (cfg0.win 5).flush t with
    | true => exact .rfl
    | false =>
      dsimp only
      rw [after0_5]
      iintro H
      iexists (fun _ => Classical.arbitrary _)
      rw [before0_5' m c t hz]
      iexact H

/-- Past the first point output 6's buffer holds what the first point left. -/
theorem before0_6 (c : Dev nD) : ∀ (n : ℕ) (hn : n + 1 < cfg0.N) (d),
    (dats m 0 c).before 6 ⟨n + 1, hn⟩ d = scaleAt m c
  | 0, hn, d => by
    rw [Dat.before_of_pos _ 6 _ (Nat.succ_ne_zero 0) (Window.fetch_out _ rfl _),
      show (cfg0.win 6).flush ⟨0 + 1 - 1, Nat.lt_of_le_of_lt (Nat.sub_le _ _) hn⟩ = false from
        Bool.eq_false_iff.mpr fun h => by have := (flush0_6 _).mp h; dsimp only at this; omega, if_neg Bool.false_ne_true]
    unfold Dat.left
    rw [show cfg0.idle 6 (cfg0.grid.coords ⟨0 + 1 - 1, Nat.lt_of_le_of_lt (Nat.sub_le _ _) hn⟩) = false from live_eq _ rfl]
    dsimp only
    unfold Dat.kept
    rw [Pipeline.fill_of_clip_none 6 _ (fun _ => rfl) d ((dats m 0 c).after 6 _), Window.fill_cut]
    dsimp only [dats]
  | n + 1, hn, d => by
    have hN : n + 1 + 1 < 24 := lt_of_lt_of_eq hn (show cfg0.N = 24 from N_0)
    rw [Dat.before_of_pos _ 6 _ (Nat.succ_ne_zero (n + 1)) (Window.fetch_out _ rfl _),
      show (cfg0.win 6).flush ⟨n + 1 + 1 - 1, Nat.lt_of_le_of_lt (Nat.sub_le _ _) hn⟩ = false from
        Bool.eq_false_iff.mpr fun h => by have := (flush0_6 _).mp h; dsimp only at this; omega, if_neg Bool.false_ne_true]
    unfold Dat.left
    rw [show cfg0.idle 6 (cfg0.grid.coords ⟨n + 1 + 1 - 1, Nat.lt_of_le_of_lt (Nat.sub_le _ _) hn⟩) = true from
      idle_eq _ (by dsimp only; omega)]
    exact before0_6 c n (Nat.lt_of_succ_lt hn) d

/-- The same, at a point given by its number. -/
theorem before0_6' (c : Dev nD) (t : Fin cfg0.N) (h0 : t.val ≠ 0) (d) :
    (dats m 0 c).before 6 t d = scaleAt m c := by
  obtain ⟨n, hn⟩ := t
  obtain ⟨k, rfl⟩ := Nat.exists_eq_succ_of_ne_zero h0
  exact before0_6 m c k hn d

/-- What the body leaves in output 6's buffer meets the obligation, the point storing into it or not. -/
theorem leaves_6 (c : Dev nD) (t : Fin cfg0.N) :
    (owns (c : Thread nD τ) (ms0_6 t) fullShare ((dats m 0 c).after 6 t) : sProp 𝕄)
    ⊢ (match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t)) := by
  by_cases hz : t.val = 0
  · obtain rfl : t = t₀ := Fin.ext hz
    rw [show cfg0.idle 6 (cfg0.grid.coords t₀) = false from live_eq t₀ rfl]
  · have hN : t.val < 24 := lt_of_lt_of_eq t.isLt (show cfg0.N = 24 from N_0)
    rw [show cfg0.idle 6 (cfg0.grid.coords t) = true from idle_eq t (by omega)]
    dsimp only
    cases (cfg0.win 6).flush t with
    | true => exact .rfl
    | false =>
      dsimp only
      rw [after0_6]
      iintro H
      iexists (fun _ => Classical.arbitrary _)
      rw [before0_6' m c t hz]
      iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t))

set_option maxHeartbeats 3200000 in
/-- The body at any point, from the two cases' runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = PhiC m c from rfl]
  have hN : t.val < 24 := lt_of_lt_of_eq t.isLt (show cfg0.N = 24 from N_0)
  by_cases hz : t.val = 0
  · obtain rfl : t = t₀ := Fin.ext hz
    rw [PhiS_castSucc m c t₀, PhiS_zero m c _ rfl, PhiA0_eq]
    rw [show yAt m c t₀ = _ from dif_pos (rfl : (t₀ : Fin cfg0.N).val % 24 = 0)]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t₀) _ _ _ _ _ _ _ _ _ _ _ _ _ _ _ _ _ _ _ _ _ _ _ _ _ _ _ _ _ _ _ _ ((hcond0_0 t₀).mpr rfl) (iblk m c 0 t₀) (iblk m c 1 t₀) (iblk m c 2 t₀) (iblk m c 3 t₀)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, ⟨%e4, H4⟩, ⟨%e5, H5⟩, ⟨%e6, H6⟩, HS0, HS1, HS2, ⟨%es3, HS3⟩, ⟨%es4, HS4⟩, ⟨%es5, HS5⟩, HS6, HS7, HS8⟩
    isplitl [HS0 HS1 HS2 HS3 HS4 HS5 HS6 HS7 HS8 Hg]
    · isplitr [Hg]
      · isplitl [HS0]; · iexact HS0
        isplitl [HS1]; · iexact HS1
        isplitl [HS2]; · iexact HS2
        isplitl [HS3]
        · unfold owns; iexists _; isplitr
          swap; · iexact HS3
          ipureintro; unfold lhsAt out0_A_s3; exact View.read_writes_of_cover _ _ _ _ _ (cover0_A_s3 c _ _ _ _ _ _ _ _ _ _ _ _ _ _ _ _ _ _ _ _ _ _ _ _ _ _ _ _ _ _ _ _ _ _ _ _ _ _)
        isplitl [HS4]
        · unfold owns; iexists _; isplitr
          swap; · iexact HS4
          ipureintro; unfold zpAt out0_A_s4; exact View.read_writes_of_cover _ _ _ _ _ (cover0_A_s4 c _ _ _ _ _ _ _ _ _ _ _ _ _ _ _ _ _ _ _ _ _ _ _ _ _ _ _ _ _ _ _ _ _ _ _ _ _ _)
        isplitl [HS5]
        · unfold owns; iexists _; isplitr
          swap; · iexact HS5
          ipureintro; unfold scAt out0_A_s5; exact View.read_writes_of_cover _ _ _ _ _ (cover0_A_s5 c _ _ _ _ _ _ _ _ _ _ _ _ _ _ _ _ _ _ _ _ _ _ _ _ _ _ _ _ _ _ _ _ _ _ _ _ _ _)
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; unfold out0_A_4; exact View.read_writes_of_cover _ _ _ _ _ (cover0_A_4 c _ _ _ _ _ _ _ _ _ _ _ _ _ _ _ _ _ _ _ _ _ _ _ _ _ _ _ _ _ _ _ _ _ _ _ _ _ _)
    isplitl [H5]
    · unfold owns; iexists _; isplitr
      swap; · iexact H5
      ipureintro; unfold codesAt out0_A_5; exact View.read_writes_of_cover _ _ _ _ _ (cover0_A_5 c _ _ _ _ _ _ _ _ _ _ _ _ _ _ _ _ _ _ _ _ _ _ _ _ _ _ _ _ _ _ _ _ _ _ _ _ _ _)
    unfold owns; iexists _; isplitr
    swap; · iexact H6
    ipureintro; unfold scaleAt out0_A_6; exact View.read_writes_of_cover _ _ _ _ _ (cover0_A_6 c _ _ _ _ _ _ _ _ _ _ _ _ _ _ _ _ _ _ _ _ _ _ _ _ _ _ _ _ _ _ _ _ _ _ _ _ _ _)
  · have h0 : ¬ t.val % 24 = 0 := by omega
    rw [PhiS_castSucc m c t, PhiS_pos m c _ hz]
    rw [show yAt m c t = _ from dif_neg h0]
    simp only [before0_5' m c t hz, before0_6' m c t hz]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (codesAt m c) (scaleAt m c) (lhsAt m c) (zpAt m c) (scAt m c)).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, ⟨%e4, H4⟩, H5, H6, HS0, HS1, HS2, HS3, HS4, HS5, HS6, HS7, HS8⟩
    isplitl [HS0 HS1 HS2 HS3 HS4 HS5 HS6 HS7 HS8 Hg]
    · isplitr [Hg]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; unfold out0_B_4; exact View.read_writes_of_cover _ _ _ _ _ (cover0_B_4 c _ _ _ _ _ _ _ _ _ _ _ _ _ _ _ _ _ _ _ _ _ _ _ _ _ _ _ _ _ _ _ _ _ _ _ _ _ _ _ _ _ _ _)
    isplitl [H5]; · iexact H5
    iexact H6
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, Ho, H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_5 m c t); iexact H5
  iapply (leaves_6 m c t); iexact H6

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2, HS3, HS4, HS5, HS6, HS7, HS8⟩, Hg⟩
  isplitr [Hg]
  · isplitl [HS0]; · iexact HS0
    isplitl [HS1]; · iexact HS1
    isplitl [HS2]; · iexact HS2
    isplitl [HS3]; · iexists _; iexact HS3
    isplitl [HS4]; · iexists _; iexact HS4
    isplitl [HS5]; · iexists _; iexact HS5
    isplitl [HS6]; · iexact HS6
    isplitl [HS7]; · iexact HS7
    iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.frame`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Run

end
-- ==== Proof.KernelIdeal.Model.lean ====
module

public import proofs.«01_k».proof.Proof.KernelIdeal.Setup

/-!
The kernel's own vector computations, written once as functions: each takes the vectors it reads and returns the vector
the body computes from them, in the body's order of operations. A run's stored values are instances of these.
-/

@[expose] public section

set_option maxRecDepth 16384

noncomputable section

namespace Cert.KernelIdeal.Model

open Cert.KernelIdeal Cert.KernelIdeal.Gen
open Idealize.ShloMosaic Idealize.ShloMosaic.TcCoe

variable {F : FTy → Type} [FloatOps F]

/-- `r` rows of 128 lanes. -/
abbrev Ln (r : ℕ) : Shape := ⟨2, ![r, 128]⟩
abbrev Ln1 (r : ℕ) : Shape := ⟨3, ![r, 128, 1]⟩

/-- What the lane operations ask of a row count. -/
structure Rows (r : ℕ) : Prop where
  io : (Ln r).Iotas .tc 32 [1]
  c1 : (Ln r).ShapeCasts (Ln1 r)
  c2 : (Ln1 r).ShapeCasts (Ln r)
  ro : (Ln r).Rotates 1 none
  id : (Ln r).ShapeCasts (Ln r)

theorem rows3 : Rows 3 := ⟨by decide, by decide, by decide, by decide, by decide⟩
theorem rows72 : Rows 72 := ⟨by decide, by decide, by decide, by decide, by decide⟩

/-- The list `f (n - 1), …, f 0`. -/
def rev {α : Type*} : (n : ℕ) → (Fin n → α) → List α
  | 0, _ => []
  | n + 1, f => f (Fin.last n) :: rev n (fun k => f k.castSucc)

section Lanes
variable {r : ℕ} (g : Rows r)

abbrev bc {α : Type} (x : α) : (Ln r).Idx → α := broadcast (Ln r) x

def lane : IVec (Ln r) 32 := iota .tc (Ln r) 32 [1] g.io

/-- The lanes of `x` at the indices `idx`, negative ones counted from the end. -/
def gat (x : FVec F (Ln r) .f32) (idx : IVec (Ln r) 32) : FVec F (Ln r) .f32 :=
  dynamicGather 1 x (shapeCast (Ln r) (shapeCast (Ln1 r)
    (select (cmpi .slt idx (bc 0#32)) (addi idx (bc 128#32)) idx) g.c1) g.c2)

def src : IVec (Ln r) 32 := ori (shli (andi (lane g) (bc 31#32)) (bc 2#32)) (shrsi (lane g) (bc 5#32))
def blk : IVec (Ln r) 32 := shrsi (lane g) (bc 5#32)

/-- Quarter `b` of the lanes from `p b`. -/
def pick (p : Fin 4 → FVec F (Ln r) .f32) : FVec F (Ln r) .f32 :=
  select (cmpi .eq (blk g) (bc 3#32)) (p 3)
    (select (cmpi .eq (blk g) (bc 2#32)) (p 2) (select (cmpi .eq (blk g) (bc 1#32)) (p 1) (p 0)))

def rot (p : Fin 4 → FVec F (Ln r) .f32) : Fin 4 → FVec F (Ln r) .f32
  | 0 => pick g fun b => gat g (p b) (src g)
  | 1 => dynamicRotate 1 32#32 none (pick g fun b => gat g (p (b + 1)) (src g)) g.ro
  | 2 => dynamicRotate 1 64#32 none (pick g fun b => gat g (p (b + 2)) (src g)) g.ro
  | 3 => dynamicRotate 1 96#32 none (pick g fun b => gat g (p (b + 3)) (src g)) g.ro

/-- Part `b` of the four-way split of the 512 lanes `p` by lane number modulo four. -/
def deint (p : Fin 4 → FVec F (Ln r) .f32) (b : Fin 4) : FVec F (Ln r) .f32 := pick g fun i => rot g p (i - b)

/-- The bits of the sign of input `i` in row `e` of the table. -/
def sgnB (e : Fin 8) (i : Fin 4) : BitVec 32 := if e.val.testBit i.val then 0x3F800000#32 else 0xBF800000#32

def mir (a : Fin 4 → FVec F (Ln r) .f32) (e : Fin 8) : FVec F (Ln r) .f32 :=
  addf (addf (addf (mulf (a 0) (bc (Scalar.ofBits .f32 (sgnB e 0)))) (mulf (a 1) (bc (Scalar.ofBits .f32 (sgnB e 1)))))
    (mulf (a 2) (bc (Scalar.ofBits .f32 (sgnB e 2))))) (mulf (a 3) (bc (Scalar.ofBits .f32 (sgnB e 3))))

def top (t : Fin 8 → FVec F (Ln r) .f32) : FVec F (Ln r) .f32 :=
  maximumf (maximumf (maximumf (maximumf (maximumf (maximumf (maximumf (absf (t 0)) (absf (t 1))) (absf (t 2))) (absf (t 3)))
    (absf (t 4))) (absf (t 5))) (absf (t 6))) (absf (t 7))

/-- One step of the maximum over 32 neighbouring lanes: each lane against the one whose number differs in bit `k`. -/
def fly (k up : BitVec 32) (m : FVec F (Ln r) .f32) : FVec F (Ln r) .f32 :=
  maximumf m (select (cmpi .eq (andi (lane g) (bc k)) (bc 0#32)) (dynamicRotate 1 up none m g.ro) (dynamicRotate 1 k none m g.ro))

def group (m : FVec F (Ln r) .f32) : FVec F (Ln r) .f32 :=
  fly g 16#32 112#32 (fly g 8#32 120#32 (fly g 4#32 124#32 (fly g 2#32 126#32 (fly g 1#32 127#32 m))))

end Lanes

/-- The scale of a group whose greatest magnitude is `m`. -/
def scl {s : Shape} (m : FVec F s .f32) : FVec F s .f32 :=
  select (cmpf .oeq m (broadcast s (Scalar.ofBits .f32 0x00000000#32))) (broadcast s (Scalar.ofBits .f32 0x3F800000#32))
    (divf m (broadcast s (Scalar.ofBits .f32 0x42FE0000#32)))

def cod {s : Shape} (t sc : FVec F s .f32) : FVec F s .f32 :=
  minimumf (broadcast s (Scalar.ofBits .f32 0x42FE0000#32))
    (maximumf (broadcast s (Scalar.ofBits .f32 0xC2FE0000#32)) (roundeven (divf t sc)))

/-! ## The table, its codes and its scales -/

section Table
variable (ld : Fin 72 → Vec F S3x128 .bf16)

/-- Columns `128 k …` of the input. -/
def col (k : Fin 72) : FVec F (Ln 3) .f32 := extf .f32 (shapeCast S3x128 (ld k) rows3.id) bitsLt_bf16_f32

def quad (j : Fin 18) (k : Fin 4) : FVec F (Ln 3) .f32 := deint rows3 (fun i => col ld ⟨4 * j.val + i.val, by omega⟩) k

def tab (j : Fin 18) (e : Fin 8) : FVec F (Ln 3) .f32 := mir (quad ld j) e

def tabScale (j : Fin 18) : FVec F (Ln 3) .f32 := scl (group rows3 (top (tab ld j)))

def tabCode (j : Fin 18) (e : Fin 8) : FVec F (Ln 3) .f32 := cod (tab ld j e) (tabScale ld j)

theorem inbCs (n : Fin 144) : ∀ a, S1x3x128.size a = 0 ∨ (![n.val / 8, n.val % 8, 0] : Fin 3 → Nat) a + (![1, 8, 1] : Fin 3 → Nat) a * (S1x3x128.size a - 1) < S18x24x128.size a := by
  have := n.isLt
  intro a; right
  match a with
  | 0 => show n.val / 8 + 1 * 0 < 18; omega
  | 1 => show n.val % 8 + 8 * 2 < 24; omega
  | 2 => show 0 + 1 * 127 < 128; omega

def csPieces : List (View.Piece (Elt F) S18x24x128 .f32) :=
  rev 144 fun n => ⟨{ off := ![n.val / 8, n.val % 8, 0], size := S1x3x128.size, stride := ![1, 8, 1], inb := inbCs n, stride_pos := spos_1_8_1 },
    shapeCast S1x3x128 (tabCode ld ⟨n.val / 8, by omega⟩ ⟨n.val % 8, by omega⟩) shapeCasts_S3x128_S1x3x128⟩

theorem inbCsRd (n : Fin 54) : ∀ a, (![n.val / 3, 8 * (n.val % 3), 0] : Fin 3 → Nat) a + S1x8x128.size a ≤ S18x24x128.size a := by
  have := n.isLt
  intro a
  match a with
  | 0 => show n.val / 3 + 1 ≤ 18; omega
  | 1 => show 8 * (n.val % 3) + 8 ≤ 24; omega
  | 2 => show 0 + 128 ≤ 128; omega

theorem inbCode (n : Fin 54) : ∀ a, (![n.val % 3, 0, 128 * (n.val / 3)] : Fin 3 → Nat) a + S1x8x128.size a ≤ S3x8x2304.size a := by
  have := n.isLt
  intro a
  match a with
  | 0 => show n.val % 3 + 1 ≤ 3; omega
  | 1 => show 0 + 8 ≤ 8; omega
  | 2 => show 128 * (n.val / 3) + 128 ≤ 2304; omega

def codePieces (arg8 : Memref sig .tc .vmem S18x24x128 .f32) : List (View.Piece (Elt F) S3x8x2304 .i8) :=
  rev 54 fun n => ⟨Rect.unit ![n.val % 3, 0, 128 * (n.val / 3)] S1x8x128.size (inbCode n),
    shapeCast S1x8x128 (trunci 8 (fptosi 32 (shapeCast S8x128
      (arg8.view.readCov (csPieces ld) (Rect.unit (s := S18x24x128) ![n.val / 3, 8 * (n.val % 3), 0] S1x8x128.size (inbCsRd n)).toLoadRect)
      shapeCasts_S1x8x128_S8x128)) natLt_8_32) shapeCasts_S8x128_S1x8x128⟩

/-- The row of scales after the first `n` steps: step `j` fills lanes `4 j … 4 j + 3`. -/
def scaleRow : (n : ℕ) → n ≤ 18 → FVec F (Ln 3) .f32
  | 0, _ => bc (Scalar.ofBits .f32 0x00000000#32)
  | n + 1, h =>
    select (cmpi .eq (shrsi (lane rows3) (bc 2#32)) (bc (BitVec.ofNat 32 n)))
      (gat rows3 (tabScale ld ⟨n, h⟩) (shli (andi (subi (lane rows3) (bc (BitVec.ofNat 32 (4 * n)))) (bc 3#32)) (bc 5#32)))
      (scaleRow n (Nat.le_of_succ_le h))

def scaleOut : FVec F S3x72 .f32 := extractStridedSlice S3x72 ![0, 0] (scaleRow ld 18 le_rfl) slices_S3x128_o0_0_S3x72

def scalePieces : List (View.Piece (Elt F) S3x72 .f32) :=
  [⟨Rect.unit ![0, 0] S3x72.size inb_S3x72_S3x72_0_0, scaleOut ld⟩]

end Table

end Cert.KernelIdeal.Model

end
-- ==== Proof.KernelIdeal.Model2.lean ====
module

public import proofs.«01_k».proof.Proof.KernelIdeal.Model

/-!
The left operand of the body's products, the scale and zero-point rows, one trip of the loop over the chunks, and the
final gather: as functions of the vectors they read.
-/

@[expose] public section

set_option maxRecDepth 16384

noncomputable section

namespace Cert.KernelIdeal.Model

open Cert.KernelIdeal Cert.KernelIdeal.Gen
open Idealize.ShloMosaic Idealize.ShloMosaic.TcCoe

variable {F : FTy → Type} [FloatOps F]

/-! ## The input, one row per token and group -/

theorem inbXb (n : Fin 72) : ∀ a, S3x128.size a = 0 ∨ (![n.val, 0] : Fin 2 → Nat) a + (![72, 1] : Fin 2 → Nat) a * (S3x128.size a - 1) < S216x128.size a := by
  have := n.isLt
  intro a; right
  match a with
  | 0 => show n.val + 72 * 2 < 216; omega
  | 1 => show 0 + 1 * 127 < 128; omega

def xbPieces (ld : Fin 72 → Vec F S3x128 .bf16) : List (View.Piece (Elt F) S216x128 .f32) :=
  rev 72 fun n => ⟨{ off := ![n.val, 0], size := S3x128.size, stride := ![72, 1], inb := inbXb n, stride_pos := spos_72_1 },
    shapeCast S3x128 (col ld n) shapeCasts_S3x128_S3x128⟩

theorem inbXbRd (t : Fin 3) : ∀ a, (![72 * t.val, 0] : Fin 2 → Nat) a + S72x128.size a ≤ S216x128.size a := by
  have := t.isLt
  intro a
  match a with
  | 0 => show 72 * t.val + 72 ≤ 216; omega
  | 1 => show 0 + 128 ≤ 128; omega

/-- Token `t`'s 72 groups. -/
def xbRows (arg9 : Memref sig .tc .vmem S216x128 .f32) (ld : Fin 72 → Vec F S3x128 .bf16) (t : Fin 3) : FVec F (Ln 72) .f32 :=
  arg9.view.readCov (xbPieces ld) (Rect.unit (s := S216x128) ![72 * t.val, 0] S72x128.size (inbXbRd t)).toLoadRect

/-! ## One token's coefficients -/

section Coef
variable (x : FVec F (Ln 72) .f32)

def quadG (i : Fin 4) : FVec F (Ln 72) .f32 :=
  gat rows72 x (addi (andi (lane rows72) (bc 4294967292#32)) (bc (BitVec.ofNat 32 i.val)))

def tabG (e : Fin 8) : FVec F (Ln 72) .f32 := mir (quadG x) e

def topG : FVec F S72x1 .f32 :=
  shapeCast S72x1 (multiReduction .maximumf [1] S72 (top (tabG x)) 0xFF800000#32 reduces_S72x128_S72 (.inl rfl) rfl) shapeCasts_S72_S72x1

def sclG : FVec F S72x1 .f32 := scl (topG x)

def codG (e : Fin 8) : FVec F (Ln 72) .f32 := cod (tabG x e) (broadcastTo S72x128 (sclG x) broadcasts_S72x1_S72x128)

def quadBit : IVec (Ln 72) 32 := andi (lane rows72) (bc 3#32)

/-- The sign of row `e` that each lane's input carries. -/
def sgnG (e : Fin 8) : FVec F (Ln 72) .f32 :=
  select (cmpi .eq quadBit (bc 2#32)) (bc (Scalar.ofBits .f32 (sgnB e 2)))
    (select (cmpi .eq quadBit (bc 1#32)) (bc (Scalar.ofBits .f32 (sgnB e 1)))
      (select (cmpi .eq quadBit (bc 0#32)) (bc (Scalar.ofBits .f32 (sgnB e 0))) (bc (Scalar.ofBits .f32 (sgnB e 3)))))

/-- The bits of the product of row `e`'s four signs. -/
def prodB (e : Fin 8) : BitVec 32 :=
  if (e.val.testBit 0 != e.val.testBit 1) != e.val.testBit 2 then 0xBF800000#32 else 0x3F800000#32

def linG : (n : ℕ) → n ≤ 8 → FVec F (Ln 72) .f32
  | 0, _ => bc (Scalar.ofBits .f32 0x00000000#32)
  | n + 1, h => addf (linG n (Nat.le_of_succ_le h)) (mulf (codG x ⟨n, h⟩) (sgnG ⟨n, h⟩))

def cubG : (n : ℕ) → n ≤ 8 → FVec F (Ln 72) .f32
  | 0, _ => bc (Scalar.ofBits .f32 0x00000000#32)
  | n + 1, h => addf (cubG n (Nat.le_of_succ_le h)) (mulf (codG x ⟨n, h⟩) (mulf (sgnG ⟨n, h⟩) (bc (Scalar.ofBits .f32 (prodB ⟨n, h⟩)))))

def hiG : FVec F (Ln 72) .f32 :=
  mulf (roundeven (mulf (linG x 8 le_rfl) (bc (Scalar.ofBits .f32 0x3E000000#32)))) (bc (Scalar.ofBits .f32 0x41000000#32))

/-- The three terms of the coefficients. -/
def coef : Fin 3 → FVec F (Ln 72) .f32
  | 0 => hiG x
  | 1 => subf (linG x 8 le_rfl) (hiG x)
  | 2 => cubG x 8 le_rfl

def zpG : FVec F (Ln 72) .f32 :=
  broadcastTo S72x128 (shapeCast S72x1 (mulf (shapeCast S72x1 (multiReduction .add [1] S72 (codG x 0) 0x00000000#32 reduces_S72x128_S72 (.inl rfl) rfl)
    shapeCasts_S72_S72x1) (broadcast S72x1 (Scalar.ofBits .f32 0xBF000000#32))) shapeCasts_S72x1_S72x1) broadcasts_S72x1_S72x128

def scG : FVec F (Ln 72) .f32 :=
  broadcastTo S72x128 (shapeCast S72x1 (mulf (sclG x) (broadcast S72x1 (Scalar.ofBits .f32 0x3F000000#32))) shapeCasts_S72x1_S72x1) broadcasts_S72x1_S72x128

end Coef

/-! ## The zero-point and scale rows -/

section Rows
variable (x : Fin 3 → FVec F (Ln 72) .f32)

theorem inbZ (n : Fin 12) : ∀ a, S72x128.size a = 0 ∨ (![n.val, 0] : Fin 2 → Nat) a + (![16, 1] : Fin 2 → Nat) a * (S72x128.size a - 1) < S1152x128.size a := by
  have := n.isLt
  intro a; right
  match a with
  | 0 => show n.val + 16 * 71 < 1152; omega
  | 1 => show 0 + 1 * 127 < 128; omega

/-- Row `16 g + 4 t + b` of the buffer is row `g` of `f t`; the other rows are zero. -/
def rowPieces (f : Fin 3 → FVec F (Ln 72) .f32) : List (View.Piece (Elt F) S1152x128 .f32) :=
  rev 12 (fun n => ⟨{ off := ![n.val, 0], size := S72x128.size, stride := ![16, 1], inb := inbZ n, stride_pos := spos_16_1 },
    shapeCast S72x128 (f ⟨n.val / 4, by omega⟩) shapeCasts_S72x128_S72x128⟩)
  ++ [⟨Rect.unit ![0, 0] S1152x128.size inb_S1152x128_S1152x128_0_0,
    shapeCast S1152x128 (broadcast S1152x128 (Scalar.ofBits .f32 0x00000000#32)) shapeCasts_S1152x128_S1152x128⟩]

def zpPieces : List (View.Piece (Elt F) S1152x128 .f32) := rowPieces fun t => zpG (x t)
def scPieces : List (View.Piece (Elt F) S1152x128 .f32) := rowPieces fun t => scG (x t)

/-! ## The left operand -/

def rowI : IVec S128x512 32 := iota .tc S128x512 32 [0] iota_S128x512_d0_w32
def colI : IVec S128x512 32 := iota .tc S128x512 32 [1] iota_S128x512_d1_w32
def slot : IVec S128x512 32 := andi (shrsi colI (broadcast S128x512 5#32)) (broadcast S128x512 7#32)
def base : IVec S128x512 32 :=
  addi (muli (shrsi colI (broadcast S128x512 8#32)) (broadcast S128x512 64#32))
    (muli (andi (shrsi colI (broadcast S128x512 2#32)) (broadcast S128x512 7#32)) (broadcast S128x512 8#32))
def unit : FVec F S128x512 .f32 :=
  select (cmpi .eq (andi slot (broadcast S128x512 1#32)) (broadcast S128x512 0#32))
    (broadcast S128x512 (Scalar.ofBits .f32 0x43000000#32)) (broadcast S128x512 (Scalar.ofBits .f32 0x42000000#32))

/-- Which of a byte's eight inputs each slot reads, for the linear and for the cubic coefficients. -/
def linBit : Fin 8 → ℕ := ![0, 2, 4, 6, 1, 3, 5, 7]
def cubBit : Fin 8 → ℕ := ![1, 3, 5, 7, 0, 2, 4, 6]

def from_ (bits : Fin 8 → ℕ) : (n : ℕ) → n ≤ 8 → IVec S128x512 32
  | 0, _ => base
  | n + 1, h => select (cmpi .eq slot (broadcast S128x512 (BitVec.ofNat 32 n)))
      (addi base (broadcast S128x512 (BitVec.ofNat 32 (bits ⟨n, h⟩)))) (from_ bits n (Nat.le_of_succ_le h))

def spread (bits : Fin 8 → ℕ) : FVec F S128x512 .bf16 :=
  truncf .bf16 (select (cmpi .eq rowI (from_ bits 8 le_rfl)) unit (broadcast S128x512 (Scalar.ofBits .f32 0x00000000#32))) bitsLt_bf16_f32

def spreads : Fin 3 → FVec F S128x512 .bf16
  | 0 => spread linBit
  | 1 => spread linBit
  | 2 => spread cubBit

def ex (d : Fin 3) (t : Fin 3) : FVec F S72x512 .f32 :=
  matmul dot_S72x128_S128x512_S72x512_1_0_0_1_n_n none (truncf .bf16 (coef (x t) d) bitsLt_bf16_f32) (spreads d)
    (constant S72x512 .f32 0x00000000#32)

def byteI : IVec S72x512 32 := andi (iota .tc S72x512 32 [1] iota_S72x512_d1_w32) (broadcast S72x512 3#32)

def masked (d : Fin 3) (t : Fin 3) (b : Fin 4) : FVec F S72x512 .f32 :=
  select (cmpi .eq byteI (broadcast S72x512 (BitVec.ofNat 32 b.val))) (ex x d t) (broadcast S72x512 (Scalar.ofBits .f32 0x00000000#32))

theorem slEx : ∀ v : Fin 4, S72x512.Slices ![0, 128 * v.val] S72x128 := by decide

theorem inbEx (n : Fin 48) : ∀ a, S1x72x128.size a = 0 ∨ (![n.val % 4, n.val / 4, 0] : Fin 3 → Nat) a + (![1, 16, 1] : Fin 3 → Nat) a * (S1x72x128.size a - 1) < S4x1152x128.size a := by
  have := n.isLt
  intro a; right
  match a with
  | 0 => show n.val % 4 + 1 * 0 < 4; omega
  | 1 => show n.val / 4 + 16 * 71 < 1152; omega
  | 2 => show 0 + 1 * 127 < 128; omega

/-- The stores of term `d`: lane chunk `v`, row `16 g + 4 t + b`. -/
def exStage (d : Fin 3) : List (View.Piece (Elt F) S4x1152x128 .f32) :=
  rev 48 fun n => ⟨{ off := ![n.val % 4, n.val / 4, 0], size := S1x72x128.size, stride := ![1, 16, 1], inb := inbEx n, stride_pos := spos_1_16_1 },
    shapeCast S1x72x128 (extractStridedSlice S72x128 ![0, 128 * (n.val % 4)]
      (masked x d ⟨n.val / 16, by omega⟩ ⟨n.val / 4 % 4, by omega⟩) (slEx ⟨n.val % 4, by omega⟩)) shapeCasts_S72x128_S1x72x128⟩

def exInit : List (View.Piece (Elt F) S4x1152x128 .f32) :=
  [⟨Rect.unit ![0, 0, 0] S4x1152x128.size inb_S4x1152x128_S4x1152x128_0_0_0,
    shapeCast S4x1152x128 (broadcast S4x1152x128 (Scalar.ofBits .f32 0x00000000#32)) shapeCasts_S4x1152x128_S4x1152x128⟩]

def exPieces : Fin 3 → List (View.Piece (Elt F) S4x1152x128 .f32)
  | 0 => exStage x 0 ++ exInit
  | 1 => exStage x 1 ++ (exStage x 0 ++ exInit)
  | 2 => exStage x 2 ++ (exStage x 1 ++ (exStage x 0 ++ exInit))

theorem inbExRd (v : Fin 4) : ∀ a, (![v.val, 0, 0] : Fin 3 → Nat) a + S1x1152x128.size a ≤ S4x1152x128.size a := by
  have := v.isLt
  intro a
  match a with
  | 0 => show v.val + 1 ≤ 4; omega
  | 1 => show 0 + 1152 ≤ 1152; omega
  | 2 => show 0 + 128 ≤ 128; omega

theorem inbLhs (n : Fin 12) : ∀ a, (![n.val / 4, 0, 128 * (n.val % 4)] : Fin 3 → Nat) a + S1x1152x128.size a ≤ S3x1152x512.size a := by
  have := n.isLt
  intro a
  match a with
  | 0 => show n.val / 4 + 1 ≤ 3; omega
  | 1 => show 0 + 1152 ≤ 1152; omega
  | 2 => show 128 * (n.val % 4) + 128 ≤ 512; omega

def lhsPieces (arg10 : Memref sig .tc .vmem S4x1152x128 .f32) : List (View.Piece (Elt F) S3x1152x512 .bf16) :=
  rev 12 fun n => ⟨Rect.unit ![n.val / 4, 0, 128 * (n.val % 4)] S1x1152x128.size (inbLhs n),
    shapeCast S1x1152x128 (truncf .bf16 (shapeCast S1152x128
      (arg10.view.readCov (exPieces x ⟨n.val / 4, by omega⟩)
        (Rect.unit (s := S4x1152x128) ![n.val % 4, 0, 0] S1x1152x128.size (inbExRd ⟨n.val % 4, by omega⟩)).toLoadRect)
      shapeCasts_S1x1152x128_S1152x128) bitsLt_bf16_f32) shapeCasts_S1152x128_S1x1152x128⟩

end Rows

/-! ## The weights' scale rows -/

theorem inbHs (n : Fin 16) : ∀ a, S1x72x128.size a = 0 ∨ (![n.val / 8, n.val / 2 % 4 + 4 * (n.val % 2), 0] : Fin 3 → Nat) a + (![1, 8, 1] : Fin 3 → Nat) a * (S1x72x128.size a - 1) < S2x576x128.size a := by
  have := n.isLt
  intro a; right
  match a with
  | 0 => show n.val / 8 + 1 * 0 < 2; omega
  | 1 => show n.val / 2 % 4 + 4 * (n.val % 2) + 8 * 71 < 576; omega
  | 2 => show 0 + 1 * 127 < 128; omega

def part4 (w : Fin 8 → Vec F S72x128 .f32) (h : Fin 2) (i : Fin 4) : FVec F (Ln 72) .f32 :=
  shapeCast S72x128 (w ⟨4 * h.val + i.val, by omega⟩) shapeCasts_S72x128_S72x128

def hsPieces (w : Fin 8 → Vec F S72x128 .f32) : List (View.Piece (Elt F) S2x576x128 .f32) :=
  rev 16 fun n => ⟨{ off := ![n.val / 8, n.val / 2 % 4 + 4 * (n.val % 2), 0], size := S1x72x128.size, stride := ![1, 8, 1], inb := inbHs n, stride_pos := spos_1_8_1 },
    shapeCast S1x72x128 (deint rows72 (part4 w ⟨n.val / 8, by omega⟩) ⟨n.val / 2 % 4, by omega⟩) shapeCasts_S72x128_S1x72x128⟩

/-! ## One trip -/

section Trip

/-- Eight rows of both planes' words give the fields of the linear and of the cubic features. -/
def wT (w0 w1 : IVec S8x256 32) : IVec S8x256 32 := andi (xori (shrui w0 (broadcast S8x256 1#32)) w1) (broadcast S8x256 0x55555555#32)
def wOdd (w0 w1 : IVec S8x256 32) : IVec S8x256 32 := xori w1 (wT w0 w1)
def wEven (w0 w1 : IVec S8x256 32) : IVec S8x256 32 := xori w0 (shli (wT w0 w1) (broadcast S8x256 1#32))
def wSel (w0 w1 : IVec S8x256 32) : IVec S8x256 32 :=
  ori (andi (shrui (xori (wEven w0 w1) (wOdd w0 w1)) (broadcast S8x256 2#32)) (broadcast S8x256 0x33333333#32))
    (andi (shli (xori (wEven w0 w1) (wOdd w0 w1)) (broadcast S8x256 2#32)) (broadcast S8x256 0xCCCCCCCC#32))

def field (x : IVec S8x256 32) : Fin 4 → IVec S8x256 32
  | 0 => andi x (broadcast S8x256 0x03030303#32)
  | 1 => andi x (broadcast S8x256 0x0C0C0C0C#32)
  | 2 => andi (shrui x (broadcast S8x256 4#32)) (broadcast S8x256 0x03030303#32)
  | 3 => andi (shrui x (broadcast S8x256 4#32)) (broadcast S8x256 0x0C0C0C0C#32)

def f8 (x : IVec S8x256 32) : FVec F S32x256 .fp8e4m3 :=
  bitcastToFloat .fp8e4m3 (bitcast S32x256 8 x bitcasts_S8x256_w32_S32x256_w8)

def feat (x y : IVec S8x256 32) : FVec F S256x256 .fp8e4m3 :=
  concatenate S256x256 0 [⟨S32x256, f8 (field x 0)⟩, ⟨S32x256, f8 (field x 1)⟩, ⟨S32x256, f8 (field x 2)⟩, ⟨S32x256, f8 (field x 3)⟩,
    ⟨S32x256, f8 (field y 0)⟩, ⟨S32x256, f8 (field y 1)⟩, ⟨S32x256, f8 (field y 2)⟩, ⟨S32x256, f8 (field y 3)⟩]
    concatenates_S32x256_S32x256_S32x256_S32x256_S32x256_S32x256_S32x256_S32x256_S256x256_d0

def rhs (w0 w1 : IVec S8x256 32) : Fin 3 → FVec F S256x256 .fp8e4m3
  | 0 => feat (wEven w0 w1) (wOdd w0 w1)
  | 1 => feat (wEven w0 w1) (wOdd w0 w1)
  | 2 => feat (xori (wEven w0 w1) (wSel w0 w1)) (xori (wOdd w0 w1) (wSel w0 w1))

theorem slW : ∀ n : Fin 16, S128x256.Slices ![8 * n.val, 0] S8x256 := by decide

variable (W : Fin 2 → Vec F S1x1024x128 .i8)

def words (p : Fin 2) : IVec S128x256 32 :=
  transpose S128x256 [1, 0] (bitcast S256x128 32 (shapeCast S1024x128 (W p) shapeCasts_S1x1024x128_S1024x128) bitcasts_S1024x128_w8_S256x128_w32)
    transposes_S256x128_p1_0_S128x256

def word (p : Fin 2) (n : Fin 16) : IVec S8x256 32 := extractStridedSlice S8x256 ![8 * n.val, 0] (words W p) (slW n)

variable (L : Fin 8 → Fin 2 → Fin 3 → Vec F S1x16x256 .bf16)

def prod1 (k : Fin 8) (m : Fin 2) (d : Fin 3) : FVec F S16x256 .f32 :=
  matmul dot_S16x256_S256x256_S16x256_1_0_0_1_n_n none (shapeCast S16x256 (L k m d) shapeCasts_S1x16x256_S16x256)
    (rhs (word W 0 ⟨2 * k.val + m.val, by omega⟩) (word W 1 ⟨2 * k.val + m.val, by omega⟩) d) (constant S16x256 .f32 0x00000000#32)

/-- Group `k` of the chunk: the products of both halves and of all three terms. -/
def acc6 (k : Fin 8) : FVec F S16x256 .f32 :=
  addf (addf (addf (addf (addf (addf (broadcast S16x256 (Scalar.ofBits .f32 0x00000000#32)) (prod1 W L k 0 0)) (prod1 W L k 0 1)) (prod1 W L k 0 2))
    (prod1 W L k 1 0)) (prod1 W L k 1 1)) (prod1 W L k 1 2)

variable (Z S : Fin 8 → Fin 2 → Vec F S8x128 .f32) (H G : Fin 8 → Fin 2 → Vec F S1x8x128 .f32)

theorem slR : ∀ u h : Fin 2, S16x256.Slices ![8 * u.val, 128 * h.val] S8x128 := by decide

/-- What group `k` adds to the sum of row half `u` and lane half `h`. -/
def term (k : Fin 8) (u h : Fin 2) : FVec F S8x128 .f32 :=
  mulf (shapeCast S8x128 (H k h) shapeCasts_S1x8x128_S8x128)
    (mulf (S k u) (subf (extractStridedSlice S8x128 ![8 * u.val, 128 * h.val] (acc6 W L k) (slR u h))
      (mulf (shapeCast S8x128 (G k h) shapeCasts_S1x8x128_S8x128) (Z k u))))

def sum8 (u h : Fin 2) (a : FVec F S8x128 .f32) : (n : ℕ) → n ≤ 8 → FVec F S8x128 .f32
  | 0, _ => a
  | n + 1, hn => addf (sum8 u h a n (Nat.le_of_succ_le hn)) (term W L Z S H G ⟨n, hn⟩ u h)

abbrev Acc (F : FTy → Type) : Type := FVec F S8x128 .f32 × FVec F S8x128 .f32 × FVec F S8x128 .f32 × FVec F S8x128 .f32

def trip (a : Acc F) : Acc F :=
  (sum8 W L Z S H G 0 0 a.1 8 le_rfl, sum8 W L Z S H G 0 1 a.2.1 8 le_rfl,
    sum8 W L Z S H G 1 0 a.2.2.1 8 le_rfl, sum8 W L Z S H G 1 1 a.2.2.2 8 le_rfl)

end Trip

/-! ## The final gather -/

section Out
variable (a : Acc F)

def yoPieces : List (View.Piece (Elt F) S2x16x128 .f32) :=
  [⟨Rect.unit ![1, 8, 0] S1x8x128.size inb_S2x16x128_S1x8x128_1_8_0, shapeCast S1x8x128 a.2.2.2 shapeCasts_S8x128_S1x8x128⟩,
   ⟨Rect.unit ![0, 8, 0] S1x8x128.size inb_S2x16x128_S1x8x128_0_8_0, shapeCast S1x8x128 a.2.2.1 shapeCasts_S8x128_S1x8x128⟩,
   ⟨Rect.unit ![1, 0, 0] S1x8x128.size inb_S2x16x128_S1x8x128_1_0_0, shapeCast S1x8x128 a.2.1 shapeCasts_S8x128_S1x8x128⟩,
   ⟨Rect.unit ![0, 0, 0] S1x8x128.size inb_S2x16x128_S1x8x128_0_0_0, shapeCast S1x8x128 a.1 shapeCasts_S8x128_S1x8x128⟩]

theorem inbYo (h : Fin 2) (b : Fin 4) : ∀ a, S1x3x128.size a = 0 ∨ (![h.val, b.val, 0] : Fin 3 → Nat) a + (![1, 4, 1] : Fin 3 → Nat) a * (S1x3x128.size a - 1) < S2x16x128.size a := by
  have := h.isLt
  have := b.isLt
  intro a; right
  match a with
  | 0 => show h.val + 1 * 0 < 2; omega
  | 1 => show b.val + 4 * 2 < 16; omega
  | 2 => show 0 + 1 * 127 < 128; omega

variable (arg16 : Memref sig .tc .vmem S2x16x128 .f32)

def yoRow (h : Fin 2) (b : Fin 4) : FVec F (Ln 3) .f32 :=
  shapeCast S3x128 (arg16.view.readCov (yoPieces a) (⟨![h.val, b.val, 0], S1x3x128.size, ![1, 4, 1], inbYo h b⟩ : LoadRect S2x16x128))
    shapeCasts_S1x3x128_S3x128

def ySrc (v : Fin 8) : IVec (Ln 3) 32 := addi (bc (BitVec.ofNat 32 (32 * (v.val % 4)))) (shrsi (lane rows3) (bc 2#32))

def yVec (v : Fin 8) : (n : ℕ) → n ≤ 4 → FVec F (Ln 3) .f32
  | 0, _ => bc (Scalar.ofBits .f32 0x00000000#32)
  | n + 1, hn => select (cmpi .eq (andi (lane rows3) (bc 3#32)) (bc (BitVec.ofNat 32 n)))
      (gat rows3 (yoRow a arg16 ⟨v.val / 4, by omega⟩ ⟨n, hn⟩) (ySrc v)) (yVec v n (Nat.le_of_succ_le hn))

theorem inbY (v : Fin 8) : ∀ a, (![0, 128 * v.val] : Fin 2 → Nat) a + S3x128.size a ≤ S3x1024.size a := by
  have := v.isLt
  intro a
  match a with
  | 0 => show 0 + 3 ≤ 3; omega
  | 1 => show 128 * v.val + 128 ≤ 1024; omega

def yPieces : List (View.Piece (Elt F) S3x1024 .bf16) :=
  rev 8 fun v => ⟨Rect.unit ![0, 128 * v.val] S3x128.size (inbY v), truncf .bf16 (yVec a arg16 v 4 le_rfl) bitsLt_bf16_f32⟩

end Out

end Cert.KernelIdeal.Model

end
-- ==== Proof.KernelIdeal.Lanes.lean ====
module

public import proofs.«01_k».proof.Proof.KernelIdeal.Model2
public import Idealize.ShloMosaic.Lib.Pointwise
public import Idealize.ShloMosaic.Lib.Pipeline.ValueKit

/-! The lane operations of the body, read at a row and a lane. -/

@[expose] public section

set_option maxRecDepth 16384

noncomputable section

namespace Cert.KernelIdeal.Model

open Cert.KernelIdeal Cert.KernelIdeal.Gen
open Idealize.ShloMosaic Idealize.ShloMosaic.TcCoe

variable {F : FTy → Type} [FloatOps F] {r : ℕ} (g : Rows r)

theorem lane_at (t : Fin r) (l : Fin 128) : lane g (ix2 t l) = BitVec.ofNat 32 l.val := by
  show BitVec.ofNat 32 (0 * 128 + l.val) = _
  rw [Nat.zero_mul, Nat.zero_add]

def nrm (i : BitVec 32) : BitVec 32 := Scalar.select (IntOp.cmpi .slt i 0#32) (IntOp.addi i 128#32) i

/-- A gather of lanes. -/
theorem gat_at (x : FVec F (Ln r) .f32) (idx : IVec (Ln r) 32) (t : Fin r) (l k : Fin 128)
    (h : (nrm (idx (ix2 t l))).toNat % 128 = k.val) : gat g x idx (ix2 t l) = x (ix2 t k) := by
  unfold gat
  rw [shapeCast_shapeCast]
  unfold dynamicGather
  refine congrArg x (funext fun b => ?_)
  match b with
  | ⟨0, _⟩ => rfl
  | ⟨1, _⟩ => exact Fin.ext h

/-- A rotation of lanes. -/
theorem rot_at (x : FVec F (Ln r) .f32) (n : BitVec 32) (hr : (Ln r).Rotates 1 none) (t : Fin r) (l k : Fin 128)
    (h : (l.val + 128 - n.toNat % 128) % 128 = k.val) : dynamicRotate 1 n none x hr (ix2 t l) = x (ix2 t k) := by
  unfold dynamicRotate
  refine congrArg x (funext fun b => ?_)
  match b with
  | ⟨0, _⟩ => rfl
  | ⟨1, _⟩ => exact Fin.ext h

theorem src_nrm : ∀ l : Fin 128, (nrm (IntOp.ori (IntOp.shli .vector (IntOp.andi (BitVec.ofNat 32 l.val) 31#32) 2#32)
    (IntOp.shrsi .vector (BitVec.ofNat 32 l.val) 5#32))).toNat % 128 = 4 * (l.val % 32) + l.val / 32 := by decide +kernel

theorem gat_src (x : FVec F (Ln r) .f32) (t : Fin r) (l : Fin 128) :
    gat g x (src g) (ix2 t l) = x (ix2 t ⟨4 * (l.val % 32) + l.val / 32, by omega⟩) := by
  refine gat_at g x _ t l _ ?_
  show (nrm (IntOp.ori (IntOp.shli .vector (IntOp.andi (lane g (ix2 t l)) 31#32) 2#32)
    (IntOp.shrsi .vector (lane g (ix2 t l)) 5#32))).toNat % 128 = _
  rw [lane_at]
  exact src_nrm l

theorem blk_dec : ∀ l : Fin 128, ∀ c : Fin 4, IntOp.cmpi .eq (IntOp.shrsi .vector (BitVec.ofNat 32 l.val) 5#32) (BitVec.ofNat 32 c.val)
    = if l.val / 32 = c.val then 1#1 else 0#1 := by decide +kernel

/-- A choice among lanes by their block. -/
theorem pick_at (p : Fin 4 → FVec F (Ln r) .f32) (t : Fin r) (l : Fin 128) :
    pick g p (ix2 t l) = p ⟨l.val / 32, by omega⟩ (ix2 t l) := by
  show Scalar.select (IntOp.cmpi .eq (IntOp.shrsi .vector (lane g (ix2 t l)) 5#32) 3#32) (p 3 (ix2 t l))
    (Scalar.select (IntOp.cmpi .eq (IntOp.shrsi .vector (lane g (ix2 t l)) 5#32) 2#32) (p 2 (ix2 t l))
      (Scalar.select (IntOp.cmpi .eq (IntOp.shrsi .vector (lane g (ix2 t l)) 5#32) 1#32) (p 1 (ix2 t l)) (p 0 (ix2 t l)))) = _
  rw [lane_at]
  have e3 := blk_dec l 3
  have e2 := blk_dec l 2
  have e1 := blk_dec l 1
  simp only [Fin.isValue, Fin.val_one, Fin.val_two] at e1 e2
  rw [show (3#32 : BitVec 32) = BitVec.ofNat 32 (3 : Fin 4).val from rfl, e3, e2, e1]
  have hl : l.val / 32 = 0 ∨ l.val / 32 = 1 ∨ l.val / 32 = 2 ∨ l.val / 32 = 3 := by omega
  rcases hl with h | h | h | h
  · rw [show (⟨l.val / 32, by omega⟩ : Fin 4) = 0 from Fin.ext h]; simp [h, Scalar.select]
  · rw [show (⟨l.val / 32, by omega⟩ : Fin 4) = 1 from Fin.ext h]; simp [h, Scalar.select]
  · rw [show (⟨l.val / 32, by omega⟩ : Fin 4) = 2 from Fin.ext h]; simp [h, Scalar.select]
  · rw [show (⟨l.val / 32, by omega⟩ : Fin 4) = 3 from Fin.ext h]; simp [h, Scalar.select]

theorem pick_gat (p : Fin 4 → FVec F (Ln r) .f32) (k : Fin 4) (t : Fin r) (l : Fin 128) :
    pick g (fun b => gat g (p (b + k)) (src g)) (ix2 t l)
      = p (⟨l.val / 32, by omega⟩ + k) (ix2 t ⟨4 * (l.val % 32) + l.val / 32, by omega⟩) := by
  rw [pick_at, gat_src]

theorem rotk (p : Fin 4 → FVec F (Ln r) .f32) (k : Fin 4) (t : Fin r) (l : Fin 128) :
    rot g p k (ix2 t l) = p ⟨l.val / 32, by omega⟩ (ix2 t ⟨4 * (l.val % 32) + (l.val / 32 + 4 - k.val) % 4, by omega⟩) := by
  match k with
  | 0 =>
    show pick g (fun b => gat g (p b) (src g)) (ix2 t l) = _
    rw [pick_at, gat_src]
    exact congrArg (p _) (congrArg (ix2 t) (Fin.ext (by show _ = 4 * (l.val % 32) + (l.val / 32 + 4 - 0) % 4; dsimp only; omega)))
  | 1 =>
    show dynamicRotate 1 32#32 none (pick g fun b => gat g (p (b + 1)) (src g)) g.ro (ix2 t l) = _
    rw [rot_at _ _ _ t l ⟨(l.val + 96) % 128, by omega⟩ (by show (l.val + 128 - 32 % 128) % 128 = _; dsimp only; omega), pick_gat]
    exact congrArg₂ p (Fin.ext (by simp only [Fin.val_add, Fin.val_one]; omega)) (congrArg (ix2 t) (Fin.ext (by show _ = 4 * (l.val % 32) + (l.val / 32 + 4 - 1) % 4; dsimp only; omega)))
  | 2 =>
    show dynamicRotate 1 64#32 none (pick g fun b => gat g (p (b + 2)) (src g)) g.ro (ix2 t l) = _
    rw [rot_at _ _ _ t l ⟨(l.val + 64) % 128, by omega⟩ (by show (l.val + 128 - 64 % 128) % 128 = _; dsimp only; omega), pick_gat]
    exact congrArg₂ p (Fin.ext (by simp only [Fin.val_add, Fin.val_two]; omega)) (congrArg (ix2 t) (Fin.ext (by show _ = 4 * (l.val % 32) + (l.val / 32 + 4 - 2) % 4; dsimp only; omega)))
  | 3 =>
    show dynamicRotate 1 96#32 none (pick g fun b => gat g (p (b + 3)) (src g)) g.ro (ix2 t l) = _
    rw [rot_at _ _ _ t l ⟨(l.val + 32) % 128, by omega⟩ (by show (l.val + 128 - 96 % 128) % 128 = _; dsimp only; omega), pick_gat]
    exact congrArg₂ p (Fin.ext (by simp only [Fin.val_add, show ((3 : Fin 4) : ℕ) = 3 from rfl]; omega)) (congrArg (ix2 t) (Fin.ext (by show _ = 4 * (l.val % 32) + (l.val / 32 + 4 - 3) % 4; dsimp only; omega)))

/-- Lane `l` of part `b` is lane `4 l + b` of the 512. -/
theorem deint_at (p : Fin 4 → FVec F (Ln r) .f32) (b : Fin 4) (t : Fin r) (l : Fin 128) :
    deint g p b (ix2 t l) = p ⟨l.val / 32, by omega⟩ (ix2 t ⟨4 * (l.val % 32) + b.val, by omega⟩) := by
  unfold deint
  rw [pick_at, rotk]
  refine congrArg (p _) (congrArg (ix2 t) (Fin.ext ?_))
  simp only [Fin.val_sub]
  omega

end Cert.KernelIdeal.Model

end
-- ==== Proof.Spec.lean ====
module

public import Idealize.ShloMosaic.Lib.Pointwise
public import Idealize.ShloMosaic.Lib.Pipeline.ValueKit

/-!
The result of the problem in plain terms, over the extended reals: the table of signed sums of each four inputs, one
scale per 32 rows of the table, the table's codes.
-/

@[expose] public section

noncomputable section

namespace Cert.Spec

open Idealize.ShloMosaic

/-- The bits of the sign of input `i` in entry `e` of the table. -/
def sgnB (e : Fin 8) (i : Fin 4) : BitVec 32 := if e.val.testBit i.val then 0x3F800000#32 else 0xBF800000#32

/-- The sign of input `i` in entry `e`, as a float. -/
def sg (e : Fin 8) (i : Fin 4) : EReal := Ideal.ofBits .f32 (sgnB e i)

/-- Entry `e` of the table of the four inputs `a`. -/
def mir (a : Fin 4 → EReal) (e : Fin 8) : EReal := a 0 * sg e 0 + a 1 * sg e 1 + a 2 * sg e 2 + a 3 * sg e 3

/-- The magnitude of an extended real. -/
def absE (x : EReal) : EReal := max x (-x)

/-- The scale of a group whose greatest magnitude is `m`: one if `m` is zero, else `m / 127`. -/
def scl (m : EReal) : EReal :=
  Scalar.select (Ideal.cmp .oeq m (Ideal.ofBits .f32 0x00000000#32)) (Ideal.ofBits .f32 0x3F800000#32)
    (Ideal.div m (Ideal.ofBits .f32 0x42FE0000#32))

/-- The code of an entry `t` at scale `sc`, before the cast: `t / sc` rounded to the nearest integer and clipped to ±127. -/
def cod (t sc : EReal) : EReal :=
  min (Ideal.ofBits .f32 0x42FE0000#32) (max (Ideal.ofBits .f32 0xC2FE0000#32) (Ideal.liftRound Ideal.roundHalfEven (Ideal.div t sc)))

variable (X : Fin 3 → Fin 9216 → EReal)

/-- Entry `e` of row `q` of token `t`'s table. -/
def tab (t : Fin 3) (q : Fin 2304) (e : Fin 8) : EReal := mir (fun i => X t ⟨4 * q.val + i.val, by omega⟩) e

/-- The greatest magnitude of a group of 32 rows. -/
def top (t : Fin 3) (n : Fin 72) : EReal := ⨆ r : Fin 32, ⨆ e : Fin 8, absE (tab X t ⟨32 * n.val + r.val, by omega⟩ e)

/-- The scale of group `n` of token `t`. -/
def scale (t : Fin 3) (n : Fin 72) : EReal := scl (top X t n)

/-- The code of entry `e` of row `q`, before the cast. -/
def code (t : Fin 3) (q : Fin 2304) (e : Fin 8) : EReal := cod (tab X t q e) (scale X t ⟨q.val / 32, by omega⟩)

/-- The code as a byte. -/
def codeB (t : Fin 3) (q : Fin 2304) (e : Fin 8) : BitVec 8 := (Ideal.fptosi 32 (code X t q e)).setWidth 8

/-! ## The codes are integers -/

theorem c127 : Ideal.ofBits .f32 0x42FE0000#32 = ((127 : ℝ) : EReal) := by
  simp [Ideal.ofBits, Ideal.ieee, -EReal.coe_mul]; norm_num
theorem cn127 : Ideal.ofBits .f32 0xC2FE0000#32 = ((-127 : ℝ) : EReal) := by
  simp [Ideal.ofBits, Ideal.ieee, -EReal.coe_mul, -EReal.coe_neg]; norm_num

/-- A code is an integer from -127 to 127, whatever the entry and the scale. -/
theorem cod_int (t sc : EReal) : ∃ z : ℤ, -127 ≤ z ∧ z ≤ 127 ∧ cod t sc = ((z : ℝ) : EReal) := by
  unfold cod
  rw [c127, cn127]
  induction Ideal.div t sc using EReal.rec with
  | bot => exact ⟨-127, by omega, by omega, by
      rw [Ideal.liftRound_bot, max_eq_left bot_le, min_eq_right (EReal.coe_le_coe_iff.2 (by norm_num))]; norm_cast⟩
  | top => exact ⟨127, by omega, by omega, by
      rw [Ideal.liftRound_top, max_eq_right le_top, min_eq_left le_top]; norm_cast⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- The cast to a byte loses nothing of such an integer. -/
theorem setWidth_fptosi (z : ℤ) (h0 : -127 ≤ z) (h1 : z ≤ 127) : ((Ideal.fptosi 32 ((z : ℝ) : EReal)).setWidth 8).toInt = z := by
  have : Ideal.toIntClamped (-(2 ^ (32 - 1) : ℕ)) ((2 ^ (32 - 1) : ℕ) - 1) ((z : ℝ) : EReal) = z := by
    rw [Ideal.toIntClamped_coe, Int.floor_intCast, Int.ceil_intCast, ite_self]
    norm_num
    omega
  unfold Ideal.fptosi
  rw [this]
  have hz : (BitVec.ofInt 32 z).setWidth 8 = BitVec.ofInt 8 z := by
    refine BitVec.eq_of_toNat_eq ?_
    simp only [BitVec.toNat_setWidth, BitVec.toNat_ofInt]
    omega
  rw [hz, BitVec.toInt_ofInt, Int.bmod_def]
  norm_num
  omega

/-- The code as an integer. -/
def codeZ (t : Fin 3) (q : Fin 2304) (e : Fin 8) : ℤ := (codeB X t q e).toInt

/-- The byte's integer is the code. -/
theorem code_codeZ (t : Fin 3) (q : Fin 2304) (e : Fin 8) :
    -127 ≤ codeZ X t q e ∧ codeZ X t q e ≤ 127 ∧ code X t q e = ((codeZ X t q e : ℝ) : EReal) := by
  obtain ⟨z, h0, h1, h⟩ := cod_int (tab X t q e) (scale X t ⟨q.val / 32, by omega⟩)
  have hz : codeZ X t q e = z := by
    unfold codeZ codeB code
    rw [h, setWidth_fptosi z h0 h1]
  rw [hz]
  exact ⟨h0, h1, h⟩

/-- The sign of input `i` in entry `e`. -/
def sgz (e : Fin 8) (i : Fin 4) : ℤ := if e.val.testBit i.val then 1 else -1

theorem c1 : Ideal.ofBits .f32 0x3F800000#32 = ((1 : ℝ) : EReal) := by
  simp [Ideal.ofBits, Ideal.ieee, -EReal.coe_mul]; norm_num
theorem cn1 : Ideal.ofBits .f32 0xBF800000#32 = ((-1 : ℝ) : EReal) := by
  simp [Ideal.ofBits, Ideal.ieee, -EReal.coe_mul, -EReal.coe_neg]; norm_num
theorem cn05 : Ideal.ofBits .f32 0xBF000000#32 = ((-(1 / 2) : ℝ) : EReal) := by
  simp [Ideal.ofBits, Ideal.ieee, -EReal.coe_mul, -EReal.coe_neg]; norm_num
theorem c05 : Ideal.ofBits .f32 0x3F000000#32 = ((1 / 2 : ℝ) : EReal) := by
  simp [Ideal.ofBits, Ideal.ieee, -EReal.coe_mul]; norm_num
theorem c8th : Ideal.ofBits .f32 0x3E000000#32 = ((1 / 8 : ℝ) : EReal) := by
  simp [Ideal.ofBits, Ideal.ieee, -EReal.coe_mul]; norm_num
theorem c8 : Ideal.ofBits .f32 0x41000000#32 = ((8 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c32 : Ideal.ofBits .f32 0x42000000#32 = ((32 : ℝ) : EReal) := by
  simp [Ideal.ofBits, Ideal.ieee, -EReal.coe_mul]; norm_num
theorem cbot : Ideal.ofBits .f32 0xFF800000#32 = ⊥ := by
  simp [Ideal.ofBits, Ideal.ieee]

theorem sg_eq (e : Fin 8) (i : Fin 4) : sg e i = ((sgz e i : ℝ) : EReal) := by
  unfold sg sgnB sgz
  split
  · rw [c1]; norm_cast
  · rw [cn1]; norm_cast

end Cert.Spec

end
-- ==== Proof.KernelIdeal.Table.lean ====
module

public import proofs.«01_k».proof.Proof.KernelIdeal.Lanes
public import proofs.«01_k».proof.Proof.Spec

/-! The table, its scales and its codes, over the extended reals. -/

@[expose] public section

set_option maxRecDepth 16384

noncomputable section

namespace Cert.KernelIdeal.Model

open Cert.KernelIdeal Cert.KernelIdeal.Gen
open Idealize.ShloMosaic Idealize.ShloMosaic.TcCoe

/-! ## What a list of stores leaves -/

section Canon
variable {Val : EltTy → Type} {s : Shape} {e : EltTy} [∀ e, Nonempty (Val e)]

theorem canon_rev_rest : (n : ℕ) → (f : Fin n → View.Piece Val s e) → (L : List (View.Piece Val s e)) → (y : s.Idx) →
    (∀ k, y ∉ (f k).1.set) → View.canon (rev n f ++ L) y = View.canon L y
  | 0, _, _, _, _ => rfl
  | n + 1, f, L, y, h => by
    show View.canon (f (Fin.last n) :: (rev n _ ++ L)) y = _
    rw [View.canon_cons_of_not_mem _ _ (h _)]
    exact canon_rev_rest n _ L y fun k => h k.castSucc

theorem canon_rev_app : (n : ℕ) → (f : Fin n → View.Piece Val s e) → (L : List (View.Piece Val s e)) → (y : s.Idx) →
    (k : Fin n) → (x : (f k).1.shape.Idx) → (f k).1.emb x = y → (∀ k', y ∈ (f k').1.set → k' = k) →
    View.canon (rev n f ++ L) y = (f k).2 x
  | 0, _, _, _, k, _, _, _ => k.elim0
  | n + 1, f, L, y, k, x, hy, h => by
    show View.canon (f (Fin.last n) :: (rev n _ ++ L)) y = _
    induction k using Fin.lastCases with
    | last => subst hy; exact View.canon_cons_emb (f (Fin.last n)).1 (f (Fin.last n)).2 _ x
    | cast k =>
      rw [View.canon_cons_of_not_mem _ _ fun hm => absurd (h _ hm) (Fin.castSucc_lt_last k).ne']
      exact canon_rev_app n (fun k => f k.castSucc) L y k x hy fun k' hk' => Fin.castSucc_injective n (h _ hk')

theorem canon_rev (n : ℕ) (f : Fin n → View.Piece Val s e) (y : s.Idx)
    (k : Fin n) (x : (f k).1.shape.Idx) (hy : (f k).1.emb x = y) (h : ∀ k', y ∈ (f k').1.set → k' = k) :
    View.canon (rev n f) y = (f k).2 x := by
  rw [← canon_rev_app n f [] y k x hy h, List.append_nil]

end Canon

/-! ## The maximum over a group -/

section Group
variable {r : ℕ} (g : Rows r)

/-- A bound on the greatest magnitude. -/
theorem top_le (T : Fin 8 → FVec Ideal (Ln r) .f32) (j : (Ln r).Idx) (c : EReal) :
    top T j ≤ c ↔ ∀ e, Spec.absE (T e j) ≤ c := by
  show max (max (max (max (max (max (max (Spec.absE (T 0 j)) (Spec.absE (T 1 j))) (Spec.absE (T 2 j))) (Spec.absE (T 3 j))) (Spec.absE (T 4 j)))
    (Spec.absE (T 5 j))) (Spec.absE (T 6 j))) (Spec.absE (T 7 j)) ≤ c ↔ _
  simp only [max_le_iff, Fin.forall_fin_succ, Fin.forall_fin_zero, and_true, and_assoc]
  rfl

theorem and_dec : ∀ l : Fin 128, ∀ s : Fin 5, IntOp.cmpi .eq (IntOp.andi (BitVec.ofNat 32 l.val) (BitVec.ofNat 32 (2 ^ s.val))) 0#32
    = if l.val / 2 ^ s.val % 2 = 0 then 1#1 else 0#1 := by decide +kernel

def mate (s : Fin 5) (l : Fin 128) : Fin 128 :=
  if l.val / 2 ^ s.val % 2 = 0 then ⟨(l.val + 2 ^ s.val) % 128, by omega⟩ else ⟨l.val - 2 ^ s.val, (Nat.sub_le _ _).trans_lt l.isLt⟩

theorem mate_up : ∀ (s : Fin 5) (l : Fin 128), l.val / 2 ^ s.val % 2 = 0 →
    (l.val + 128 - (BitVec.ofNat 32 (128 - 2 ^ s.val)).toNat % 128) % 128 = (mate s l).val := by decide +kernel
theorem mate_down : ∀ (s : Fin 5) (l : Fin 128), ¬ l.val / 2 ^ s.val % 2 = 0 →
    (l.val + 128 - (BitVec.ofNat 32 (2 ^ s.val)).toNat % 128) % 128 = (mate s l).val := by decide +kernel

/-- One step of the maximum over a block of lanes. -/
theorem fly_at (s : Fin 5) (m : FVec Ideal (Ln r) .f32) (t : Fin r) (l : Fin 128) :
    fly g (BitVec.ofNat 32 (2 ^ s.val)) (BitVec.ofNat 32 (128 - 2 ^ s.val)) m (ix2 t l) = max (m (ix2 t l)) (m (ix2 t (mate s l))) := by
  show max (m (ix2 t l)) (Scalar.select (IntOp.cmpi .eq (IntOp.andi (lane g (ix2 t l)) (BitVec.ofNat 32 (2 ^ s.val))) 0#32)
    (dynamicRotate 1 (BitVec.ofNat 32 (128 - 2 ^ s.val)) none m g.ro (ix2 t l)) (dynamicRotate 1 (BitVec.ofNat 32 (2 ^ s.val)) none m g.ro (ix2 t l))) = _
  rw [lane_at, and_dec]
  by_cases h : l.val / 2 ^ s.val % 2 = 0
  · rw [if_pos h, rot_at m _ g.ro t l _ (mate_up s l h)]; rfl
  · rw [if_neg h, rot_at m _ g.ro t l _ (mate_down s l h)]; rfl

theorem mate_block : ∀ (s : Fin 5) (l k : Fin 128),
    (k.val / 2 ^ s.val = l.val / 2 ^ s.val ∨ k.val / 2 ^ s.val = (mate s l).val / 2 ^ s.val) ↔ k.val / 2 ^ (s.val + 1) = l.val / 2 ^ (s.val + 1) := by
  decide +kernel

/-- A step doubles the block of lanes that the maximum is taken over. -/
theorem fly_step (s : Fin 5) (M m : FVec Ideal (Ln r) .f32) (t : Fin r) (c : EReal)
    (ih : ∀ l : Fin 128, M (ix2 t l) ≤ c ↔ ∀ k : Fin 128, k.val / 2 ^ s.val = l.val / 2 ^ s.val → m (ix2 t k) ≤ c) (l : Fin 128) :
    fly g (BitVec.ofNat 32 (2 ^ s.val)) (BitVec.ofNat 32 (128 - 2 ^ s.val)) M (ix2 t l) ≤ c
      ↔ ∀ k : Fin 128, k.val / 2 ^ (s.val + 1) = l.val / 2 ^ (s.val + 1) → m (ix2 t k) ≤ c := by
  rw [fly_at, max_le_iff, ih, ih]
  constructor
  · intro h k hk
    rcases (mate_block s l k).2 hk with h' | h'
    · exact h.1 k h'
    · exact h.2 k h'
  · intro h
    exact ⟨fun k hk => h k ((mate_block s l k).1 (.inl hk)), fun k hk => h k ((mate_block s l k).1 (.inr hk))⟩

/-- The maximum over a block of 32 lanes. -/
theorem group_le (m : FVec Ideal (Ln r) .f32) (t : Fin r) (l : Fin 128) (c : EReal) :
    group g m (ix2 t l) ≤ c ↔ ∀ k : Fin 128, k.val / 32 = l.val / 32 → m (ix2 t k) ≤ c := by
  have h0 : ∀ l : Fin 128, m (ix2 t l) ≤ c ↔ ∀ k : Fin 128, k.val / 2 ^ (0 : Fin 5).val = l.val / 2 ^ (0 : Fin 5).val → m (ix2 t k) ≤ c := fun l =>
    ⟨fun h k hk => by
      obtain rfl : k = l := Fin.ext (by have := hk; simp only [Fin.val_zero, pow_zero, Nat.div_one] at this; exact this)
      exact h, fun h => h l rfl⟩
  exact fly_step g 4 _ m t c (fly_step g 3 _ m t c (fly_step g 2 _ m t c (fly_step g 1 _ m t c (fly_step g 0 m m t c h0)))) l

end Group

/-! ## The table -/

section Table
/-- The reads `ld` are the columns of `X`. -/
def Cols (X : Fin 3 → Fin 9216 → EReal) (ld : Fin 72 → Vec Ideal S3x128 .bf16) : Prop :=
  ∀ (k : Fin 72) (t : Fin 3) (l : Fin 128), ld k (ix2 t l) = X t ⟨128 * k.val + l.val, by omega⟩

variable (X : Fin 3 → Fin 9216 → EReal) (ld : Fin 72 → Vec Ideal S3x128 .bf16) (hX : Cols X ld)
include hX

theorem col_at (k : Fin 72) (t : Fin 3) (l : Fin 128) : col ld k (ix2 t l) = X t ⟨128 * k.val + l.val, by omega⟩ := by
  unfold col
  rw [shapeCast_self]
  exact hX k t l

/-- A column block's table at an index. -/
theorem tab_at (j : Fin 18) (e : Fin 8) (t : Fin 3) (l : Fin 128) :
    tab ld j e (ix2 t l) = Spec.tab X t ⟨128 * j.val + l.val, by omega⟩ e := by
  have hq : ∀ i : Fin 4, quad ld j i (ix2 t l) = X t ⟨4 * (128 * j.val + l.val) + i.val, by omega⟩ := fun i => by
    unfold quad
    rw [deint_at, col_at X ld hX]
    exact congrArg (X t) (Fin.ext (by dsimp only; omega))
  show quad ld j 0 (ix2 t l) * _ + quad ld j 1 (ix2 t l) * _ + quad ld j 2 (ix2 t l) * _ + quad ld j 3 (ix2 t l) * _ = _
  rw [hq, hq, hq, hq]
  rfl

/-- A column block's greatest magnitudes. -/
theorem tabTop_at (j : Fin 18) (t : Fin 3) (l : Fin 128) :
    group rows3 (top (tab ld j)) (ix2 t l) = Spec.top X t ⟨4 * j.val + l.val / 32, by omega⟩ := by
  refine eq_of_forall_ge_iff fun c => ?_
  rw [group_le]
  unfold Spec.top
  simp only [top_le, tab_at X ld hX, iSup_le_iff]
  constructor
  · intro h r e
    have := h ⟨32 * (l.val / 32) + r.val, by omega⟩ (by dsimp only; omega) e
    refine le_of_eq_of_le (congrArg (fun q => Spec.absE (Spec.tab X t q e)) (Fin.ext ?_)) this
    dsimp only; omega
  · intro h k hk e
    have := h ⟨k.val % 32, by omega⟩ e
    refine le_of_eq_of_le (congrArg (fun q => Spec.absE (Spec.tab X t q e)) (Fin.ext ?_)) this
    dsimp only; omega

/-- A column block's scales. -/
theorem tabScale_at (j : Fin 18) (t : Fin 3) (l : Fin 128) :
    tabScale ld j (ix2 t l) = Spec.scale X t ⟨4 * j.val + l.val / 32, by omega⟩ := by
  show Spec.scl (group rows3 (top (tab ld j)) (ix2 t l)) = _
  rw [tabTop_at X ld hX]
  rfl

/-- A column block's codes. -/
theorem tabCode_at (j : Fin 18) (e : Fin 8) (t : Fin 3) (l : Fin 128) :
    tabCode ld j e (ix2 t l) = Spec.code X t ⟨128 * j.val + l.val, by omega⟩ e := by
  show Spec.cod (tab ld j e (ix2 t l)) (tabScale ld j (ix2 t l)) = _
  rw [tab_at X ld hX, tabScale_at X ld hX]
  unfold Spec.code
  exact congrArg (fun n => Spec.cod _ (Spec.scale X t n)) (Fin.ext (by dsimp only; omega))

end Table

end Cert.KernelIdeal.Model

end
-- ==== Proof.KernelIdeal.Codes.lean ====
module

public import proofs.«01_k».proof.Proof.KernelIdeal.Table

/-! What the body stores to its two table results, over the extended reals. -/

@[expose] public section

set_option maxRecDepth 16384

noncomputable section

namespace Cert.KernelIdeal.Model

open Cert.KernelIdeal Cert.KernelIdeal.Gen
open Idealize.ShloMosaic Idealize.ShloMosaic.TcCoe

variable {F : FTy → Type} [FloatOps F]

/-- A store through a rectangle lands where the rectangle says. -/
theorem emb_eq {s : Shape} (r : Rect s) (x : r.shape.Idx) (y : s.Idx) (h : ∀ a, r.off a + r.stride a * (x a : ℕ) = y a) : r.emb x = y :=
  funext fun a => Fin.ext ((Rect.emb_apply r x a).trans (h a))

theorem up3 {α : Type} {a b : ℕ} (v : (⟨2, ![a, b]⟩ : Shape).Idx → α) (h : (⟨2, ![a, b]⟩ : Shape).ShapeCasts ⟨3, ![1, a, b]⟩) (z : Fin 1) (t : Fin a) (l : Fin b) :
    shapeCast ⟨3, ![1, a, b]⟩ v h (ix3 z t l) = v (ix2 t l) := by
  refine (shapeCast_addUnit_apply ![a, b] v h (ix3 z t l)).trans (congrArg v (funext fun c => ?_))
  match c with
  | 0 => rfl
  | 1 => rfl

theorem down3 {α : Type} {a b : ℕ} (v : (⟨3, ![1, a, b]⟩ : Shape).Idx → α) (h : (⟨3, ![1, a, b]⟩ : Shape).ShapeCasts ⟨2, ![a, b]⟩) (t : Fin a) (l : Fin b) :
    shapeCast ⟨2, ![a, b]⟩ v h (ix2 t l) = v (ix3 0 t l) := by
  refine (shapeCast_dropUnit_apply ![a, b] v h (ix2 t l)).trans (congrArg v (funext fun c => ?_))
  match c with
  | 0 => rfl
  | 1 => rfl
  | 2 => rfl

theorem cs_at (ld : Fin 72 → Vec F S3x128 .bf16) (j : Fin 18) (e : Fin 8) (t : Fin 3) (l : Fin 128) :
    View.canon (csPieces ld) (ix3 j ⟨8 * t.val + e.val, by omega⟩ l) = tabCode ld j e (ix2 t l) := by
  refine (canon_rev 144 _ _ ⟨8 * j.val + e.val, by omega⟩ (ix3 0 t l) (emb_eq _ _ _ fun a => ?_) fun k hk => ?_).trans ?_
  · match a with
    | 0 => show (8 * j.val + e.val) / 8 + 1 * 0 = j.val; omega
    | 1 => show (8 * j.val + e.val) % 8 + 8 * t.val = 8 * t.val + e.val; omega
    | 2 => show 0 + 1 * l.val = l.val; omega
  · rw [LoadRect.mem_set] at hk
    obtain ⟨a, ha, h0⟩ := hk 0
    obtain ⟨b, hb, h1⟩ := hk 1
    change a < 1 at ha
    change j.val = k.val / 8 + 1 * a at h0
    change 8 * t.val + e.val = k.val % 8 + 8 * b at h1
    exact Fin.ext (by dsimp only; omega)
  · dsimp only
    pointwise
    exact congrFun (congrArg₂ (tabCode ld) (Fin.ext (by dsimp only; omega)) (Fin.ext (by dsimp only; omega))) _

/-- The codes' buffer at an index. -/
theorem codes_at (ld : Fin 72 → Vec F S3x128 .bf16) (arg8 : Memref sig .tc .vmem S18x24x128 .f32) (t : Fin 3) (e : Fin 8) (j : Fin 18) (l : Fin 128) :
    View.canon (codePieces ld arg8) (ix3 t e ⟨128 * j.val + l.val, by omega⟩)
      = BitVec.setWidth 8 (FloatOps.fptosi 32 (tabCode ld j e (ix2 t l))) := by
  refine (canon_rev 54 _ _ ⟨3 * j.val + t.val, by omega⟩ (ix3 0 e l) (emb_eq _ _ _ fun a => ?_) fun k hk => ?_).trans ?_
  · match a with
    | 0 => show (3 * j.val + t.val) % 3 + 1 * 0 = t.val; omega
    | 1 => show 0 + 1 * e.val = e.val; omega
    | 2 => show 128 * ((3 * j.val + t.val) / 3) + 1 * l.val = 128 * j.val + l.val; omega
  · rw [LoadRect.mem_set] at hk
    obtain ⟨a, ha, h0⟩ := hk 0
    obtain ⟨b, hb, h1⟩ := hk 2
    change a < 1 at ha
    change b < 128 at hb
    change t.val = k.val % 3 + 1 * a at h0
    change 128 * j.val + l.val = 128 * (k.val / 3) + 1 * b at h1
    exact Fin.ext (by dsimp only; omega)
  · dsimp only
    rw [View.readCov_eq_canon', ← cs_at]
    generalize View.canon (csPieces ld) = C
    refine (up3 _ _ _ _ _).trans ?_
    show BitVec.setWidth 8 (FloatOps.fptosi 32 (shapeCast S8x128 _ _ (ix2 e l))) = _
    rw [show ∀ v h, shapeCast (s := S1x8x128) S8x128 v h (ix2 e l) = v (ix3 0 e l) from fun v h => down3 v h e l]
    refine congrArg (fun y => BitVec.setWidth 8 (FloatOps.fptosi 32 (C y))) (funext fun a => Fin.ext ?_)
    match a with
    | 0 => show (3 * j.val + t.val) / 3 + 1 * 0 = j.val; omega
    | 1 => show 8 * ((3 * j.val + t.val) % 3) + 1 * e.val = 8 * t.val + e.val; omega
    | 2 => show 0 + 1 * l.val = l.val; omega

theorem step_dec : ∀ l : Fin 128, ∀ n : Fin 18, IntOp.cmpi .eq (IntOp.shrsi .vector (BitVec.ofNat 32 l.val) 2#32) (BitVec.ofNat 32 n.val)
    = if l.val / 4 = n.val then 1#1 else 0#1 := by decide +kernel

theorem step_src : ∀ l : Fin 128, ∀ n : Fin 18, l.val / 4 = n.val → (nrm (IntOp.shli .vector (IntOp.andi (IntOp.subi (BitVec.ofNat 32 l.val) (BitVec.ofNat 32 (4 * n.val))) 3#32) 5#32)).toNat % 128
    = 32 * (l.val % 4) := by decide +kernel

/-- The row of scales, after some column blocks. -/
theorem scaleRow_at (ld : Fin 72 → Vec F S3x128 .bf16) (t : Fin 3) (l : Fin 128) : (n : ℕ) → (h : n ≤ 18) → (hl : l.val / 4 < n) →
    scaleRow ld n h (ix2 t l) = tabScale ld ⟨l.val / 4, by omega⟩ (ix2 t ⟨32 * (l.val % 4), by omega⟩)
  | 0, _, hl => absurd hl (Nat.not_lt_zero _)
  | n + 1, h, hl => by
    show Scalar.select (IntOp.cmpi .eq (IntOp.shrsi .vector (lane rows3 (ix2 t l)) 2#32) (BitVec.ofNat 32 (⟨n, h⟩ : Fin 18).val))
      (gat rows3 (tabScale ld ⟨n, h⟩) (shli (andi (subi (lane rows3) (bc (BitVec.ofNat 32 (4 * n)))) (bc 3#32)) (bc 5#32)) (ix2 t l))
      (scaleRow ld n (Nat.le_of_succ_le h) (ix2 t l)) = _
    rw [lane_at, step_dec]
    by_cases hn : l.val / 4 = n
    · rw [if_pos hn, gat_at rows3 _ _ t l ⟨32 * (l.val % 4), by omega⟩]
      · show tabScale ld ⟨n, h⟩ _ = _
        exact congrFun (congrArg (tabScale ld) (Fin.ext hn.symm)) _
      · show (nrm (IntOp.shli .vector (IntOp.andi (IntOp.subi (lane rows3 (ix2 t l)) (BitVec.ofNat 32 (4 * (⟨n, h⟩ : Fin 18).val))) 3#32) 5#32)).toNat % 128 = _
        rw [lane_at]
        exact step_src l ⟨n, h⟩ hn
    · rw [if_neg hn]
      exact scaleRow_at ld t l n (Nat.le_of_succ_le h) (by omega)

/-- The scales' buffer at an index. -/
theorem scale_at (ld : Fin 72 → Vec F S3x128 .bf16) (t : Fin 3) (n : Fin 72) :
    View.canon (scalePieces ld) (ix2 t n) = tabScale ld ⟨n.val / 4, by omega⟩ (ix2 t ⟨32 * (n.val % 4), by omega⟩) := by
  refine (canon_rev 1 (fun _ => (⟨Rect.unit ![0, 0] S3x72.size inb_S3x72_S3x72_0_0, scaleOut ld⟩ : View.Piece (Elt F) S3x72 .f32)) _ 0 (ix2 t n)
    (emb_eq _ _ _ fun a => ?_) fun _ _ => Subsingleton.elim _ _).trans ?_
  · match a with
    | 0 => show 0 + 1 * t.val = t.val; omega
    | 1 => show 0 + 1 * n.val = n.val; omega
  dsimp only
  unfold scaleOut
  pointwise
  refine Eq.trans ?_ (scaleRow_at ld t ⟨n.val, by omega⟩ 18 le_rfl (by dsimp only; omega))
  first | rfl | skip

section Ideal
variable (X : Fin 3 → Fin 9216 → EReal) (ld : Fin 72 → Vec Ideal S3x128 .bf16) (hX : Cols X ld)
include hX

/-- The codes' buffer holds the codes. -/
theorem codes_spec (arg8 : Memref sig .tc .vmem S18x24x128 .f32) (t : Fin 3) (e : Fin 8) (q : Fin 2304) :
    View.canon (codePieces ld arg8) (ix3 t e q) = Spec.codeB X t q e := by
  have := codes_at ld arg8 t e ⟨q.val / 128, by omega⟩ ⟨q.val % 128, by omega⟩
  rw [tabCode_at X ld hX] at this
  refine Eq.trans (congrArg (View.canon (codePieces ld arg8)) ?_) (this.trans ?_)
  · exact congrArg (ix3 t e) (Fin.ext (by dsimp only; omega))
  · exact congrArg (fun q => Spec.codeB X t q e) (Fin.ext (by dsimp only; omega))

/-- The scales' buffer holds the scales. -/
theorem scale_spec (t : Fin 3) (n : Fin 72) : View.canon (scalePieces ld) (ix2 t n) = Spec.scale X t n := by
  rw [scale_at, tabScale_at X ld hX]
  exact congrArg (Spec.scale X t) (Fin.ext (by dsimp only; omega))

end Ideal

end Cert.KernelIdeal.Model

end
-- ==== Proof.SpecLookup.lean ====
module

public import proofs.«01_k».proof.Proof.Spec

/-! The lookup of a half byte in a table of codes, and its weighted sum over a group. -/

@[expose] public section

noncomputable section

namespace Cert.Spec

open Idealize.ShloMosaic

/-- Entry `4 k2 + 2 k1 + k0` of a table. -/
def pick8 {α : Type} (c : Fin 8 → α) (k0 k1 k2 : Bool) : α :=
  if k2 then (if k1 then (if k0 then c 7 else c 6) else (if k0 then c 5 else c 4))
  else (if k1 then (if k0 then c 3 else c 2) else (if k0 then c 1 else c 0))

/-- The mirrored lookup of the half byte with bits `b0 … b3`. -/
def look (c : Fin 8 → ℤ) (b0 b1 b2 b3 : Bool) : ℤ :=
  if b3 then -pick8 c (b0 ^^ b3) (b1 ^^ b3) (b2 ^^ b3) else pick8 c (b0 ^^ b3) (b1 ^^ b3) (b2 ^^ b3)

/-- The two half bytes of `p`, the lower in the table `cl` and the upper in `ch`. -/
def lookB (cl ch : Fin 8 → ℤ) (p : BitVec 8) : ℤ :=
  look cl (p.getLsbD 0) (p.getLsbD 1) (p.getLsbD 2) (p.getLsbD 3) + look ch (p.getLsbD 4) (p.getLsbD 5) (p.getLsbD 6) (p.getLsbD 7)

theorem pick8_bd (c : Fin 8 → ℤ) (M : ℤ) (h : ∀ e, -M ≤ c e ∧ c e ≤ M) (k0 k1 k2 : Bool) : -M ≤ pick8 c k0 k1 k2 ∧ pick8 c k0 k1 k2 ≤ M := by
  unfold pick8
  split_ifs <;> exact h _

/-- A lookup is no larger than the codes. -/
theorem look_bd (c : Fin 8 → ℤ) (M : ℤ) (h : ∀ e, -M ≤ c e ∧ c e ≤ M) (b0 b1 b2 b3 : Bool) : -M ≤ look c b0 b1 b2 b3 ∧ look c b0 b1 b2 b3 ≤ M := by
  have := pick8_bd c M h (b0 ^^ b3) (b1 ^^ b3) (b2 ^^ b3)
  unfold look
  split_ifs <;> omega

/-- A byte's two lookups are at most twice as large as the codes. -/
theorem lookB_bd (cl ch : Fin 8 → ℤ) (M : ℤ) (hl : ∀ e, -M ≤ cl e ∧ cl e ≤ M) (hh : ∀ e, -M ≤ ch e ∧ ch e ≤ M) (p : BitVec 8) :
    -(2 * M) ≤ lookB cl ch p ∧ lookB cl ch p ≤ 2 * M := by
  have h1 := look_bd cl M hl (p.getLsbD 0) (p.getLsbD 1) (p.getLsbD 2) (p.getLsbD 3)
  have h2 := look_bd ch M hh (p.getLsbD 4) (p.getLsbD 5) (p.getLsbD 6) (p.getLsbD 7)
  unfold lookB
  omega

variable (X : Fin 3 → Fin 9216 → EReal)

/-- What a byte adds for token `t`: its two half bytes, looked up in the tables of rows `2j` and `2j + 1`. -/
def byteT (t : Fin 3) (j : Fin 1152) (p : BitVec 8) : ℤ := lookB (codeZ X t ⟨2 * j.val, by omega⟩) (codeZ X t ⟨2 * j.val + 1, by omega⟩) p

/-- Group `g`'s sum over its sixteen bytes and both planes. -/
def accZ (t : Fin 3) (g : Fin 72) (P : Fin 2 → Fin 16 → BitVec 8) : ℤ :=
  (∑ i : Fin 16, byteT X t ⟨16 * g.val + i.val, by omega⟩ (P 0 i)) + 2 * ∑ i : Fin 16, byteT X t ⟨16 * g.val + i.val, by omega⟩ (P 1 i)

/-- The group's zero point: minus the sum of the codes of entry zero. -/
def szp (t : Fin 3) (g : Fin 72) : ℤ := -∑ r : Fin 32, codeZ X t ⟨32 * g.val + r.val, by omega⟩ 0

/-- The product of entry `e`'s four signs. -/
def pz (e : Fin 8) : ℤ := if (e.val.testBit 0 != e.val.testBit 1) != e.val.testBit 2 then -1 else 1

/-- The linear and the cubic coefficient of input `i` of a quadruple whose codes are `c`. -/
def linZ (c : Fin 8 → ℤ) (i : Fin 4) : ℤ := ∑ e, c e * sgz e i
def cubZ (c : Fin 8 → ℤ) (i : Fin 4) : ℤ := ∑ e, c e * (sgz e i * pz e)

/-- A bit as a number. -/
def up (b : Bool) : ℕ := if b then 1 else 0

/-- Four times a lookup, less four times the code of entry zero, is linear in the half byte's bits and in the parities of three of them. -/
theorem nibble (c : Fin 8 → ℤ) (b0 b1 b2 b3 : Bool) :
    (linZ c 0 * up b0 + linZ c 1 * up b1 + linZ c 2 * up b2 + linZ c 3 * up b3)
      + (cubZ c 0 * up ((b1 ^^ b2) ^^ b3) + cubZ c 1 * up ((b2 ^^ b3) ^^ b0) + cubZ c 2 * up ((b3 ^^ b0) ^^ b1) + cubZ c 3 * up ((b0 ^^ b1) ^^ b2))
      = 4 * look c b0 b1 b2 b3 - 4 * c 0 := by
  unfold linZ cubZ
  simp only [Fin.sum_univ_eight]
  have p0 : pz 0 = 1 := by decide
  have p1 : pz 1 = -1 := by decide
  have p2 : pz 2 = -1 := by decide
  have p3 : pz 3 = 1 := by decide
  have p4 : pz 4 = -1 := by decide
  have p5 : pz 5 = 1 := by decide
  have p6 : pz 6 = 1 := by decide
  have p7 : pz 7 = -1 := by decide
  rw [p0, p1, p2, p3, p4, p5, p6, p7]
  rw [show sgz 0 0 = -1 by decide, show sgz 0 1 = -1 by decide, show sgz 0 2 = -1 by decide, show sgz 0 3 = -1 by decide,
    show sgz 1 0 = 1 by decide, show sgz 1 1 = -1 by decide, show sgz 1 2 = -1 by decide, show sgz 1 3 = -1 by decide,
    show sgz 2 0 = -1 by decide, show sgz 2 1 = 1 by decide, show sgz 2 2 = -1 by decide, show sgz 2 3 = -1 by decide,
    show sgz 3 0 = 1 by decide, show sgz 3 1 = 1 by decide, show sgz 3 2 = -1 by decide, show sgz 3 3 = -1 by decide,
    show sgz 4 0 = -1 by decide, show sgz 4 1 = -1 by decide, show sgz 4 2 = 1 by decide, show sgz 4 3 = -1 by decide,
    show sgz 5 0 = 1 by decide, show sgz 5 1 = -1 by decide, show sgz 5 2 = 1 by decide, show sgz 5 3 = -1 by decide,
    show sgz 6 0 = -1 by decide, show sgz 6 1 = 1 by decide, show sgz 6 2 = 1 by decide, show sgz 6 3 = -1 by decide,
    show sgz 7 0 = 1 by decide, show sgz 7 1 = 1 by decide, show sgz 7 2 = 1 by decide, show sgz 7 3 = -1 by decide]
  cases b0 <;> cases b1 <;> cases b2 <;> cases b3 <;> simp [look, pick8, up] <;> omega

end Cert.Spec

end
-- ==== Proof.KernelIdeal.Coef.lean ====
module

public import proofs.«01_k».proof.Proof.KernelIdeal.Codes
public import proofs.«01_k».proof.Proof.SpecLookup

/-! The coefficients of one token, over the extended reals. -/

@[expose] public section

set_option maxRecDepth 16384

noncomputable section

namespace Cert.KernelIdeal.Model

open Cert.KernelIdeal Cert.KernelIdeal.Gen
open Idealize.ShloMosaic Idealize.ShloMosaic.TcCoe
open Cert.Spec (pz linZ cubZ szp)

section Token
variable (X : Fin 3 → Fin 9216 → EReal) (t : Fin 3)

/-- The rows `x` are token `t`'s groups. -/
def IsRows (x : FVec Ideal (Ln 72) .f32) : Prop := ∀ (g : Fin 72) (l : Fin 128), x (ix2 g l) = X t ⟨128 * g.val + l.val, by omega⟩

/-- The quadruple that lane `l` of group `g` belongs to. -/
def qu (g : Fin 72) (l : Fin 128) : Fin 2304 := ⟨32 * g.val + l.val / 4, by omega⟩

variable (x : FVec Ideal (Ln 72) .f32) (hx : IsRows X t x)
include hx

theorem quadG_src : ∀ l : Fin 128, ∀ i : Fin 4, (nrm (IntOp.addi (IntOp.andi (BitVec.ofNat 32 l.val) 4294967292#32) (BitVec.ofNat 32 i.val))).toNat % 128
    = 4 * (l.val / 4) + i.val := by decide +kernel

/-- The four inputs of a lane's quadruple. -/
theorem quadG_at (i : Fin 4) (g : Fin 72) (l : Fin 128) : quadG x i (ix2 g l) = X t ⟨4 * (qu g l).val + i.val, by omega⟩ := by
  unfold quadG
  rw [gat_at rows72 _ _ g l ⟨4 * (l.val / 4) + i.val, by omega⟩, hx]
  · exact congrArg (X t) (Fin.ext (by unfold qu; dsimp only; omega))
  · show (nrm (IntOp.addi (IntOp.andi (lane rows72 (ix2 g l)) 4294967292#32) (BitVec.ofNat 32 i.val))).toNat % 128 = _
    rw [lane_at]
    exact quadG_src X t x hx l i

/-- A group's table at an index. -/
theorem tabG_at (e : Fin 8) (g : Fin 72) (l : Fin 128) : tabG x e (ix2 g l) = Spec.tab X t (qu g l) e := by
  show quadG x 0 (ix2 g l) * _ + quadG x 1 (ix2 g l) * _ + quadG x 2 (ix2 g l) * _ + quadG x 3 (ix2 g l) * _ = _
  rw [quadG_at X t x hx, quadG_at X t x hx, quadG_at X t x hx, quadG_at X t x hx]
  rfl

/-- A group's greatest magnitude. -/
theorem topG_at (g : Fin 72) : topG x (ix2 g 0) = Spec.top X t g := by
  have h : topG x (ix2 g 0) = Finset.univ.fold max (Ideal.ofBits .f32 0xFF800000#32) fun k : Fin 128 => top (tabG x) (ix2 g k) := by
    unfold topG
    generalize top (tabG x) = T
    pointwise
  rw [h, Spec.cbot]
  refine eq_of_forall_ge_iff fun c => ?_
  unfold Spec.top
  simp only [Finset.fold_max_le, bot_le, true_and, Finset.mem_univ, forall_const, top_le, tabG_at X t x hx, iSup_le_iff]
  constructor
  · intro h r e
    refine le_of_eq_of_le (congrArg (fun q => Spec.absE (Spec.tab X t q e)) (Fin.ext ?_)) (h ⟨4 * r.val, by omega⟩ e)
    unfold qu; dsimp only; omega
  · intro h k e
    refine le_of_eq_of_le (congrArg (fun q => Spec.absE (Spec.tab X t q e)) (Fin.ext ?_)) (h ⟨k.val / 4, by omega⟩ e)
    unfold qu; dsimp only

/-- A group's scale. -/
theorem sclG_at (g : Fin 72) : sclG x (ix2 g 0) = Spec.scale X t g := by
  show Spec.scl (topG x (ix2 g 0)) = _
  rw [topG_at X t x hx]
  rfl

/-- A group's codes. -/
theorem codG_at (e : Fin 8) (g : Fin 72) (l : Fin 128) : codG x e (ix2 g l) = ((Spec.codeZ X t (qu g l) e : ℝ) : EReal) := by
  rw [← (Spec.code_codeZ X t (qu g l) e).2.2]
  have h : codG x e (ix2 g l) = Spec.cod (tabG x e (ix2 g l)) (sclG x (ix2 g 0)) := by
    show Spec.cod (tabG x e (ix2 g l)) (broadcastTo S72x128 (sclG x) broadcasts_S72x1_S72x128 (ix2 g l)) = _
    generalize sclG x = S
    refine congrArg (Spec.cod _) ?_
    pointwise
  rw [h, tabG_at X t x hx, sclG_at X t x hx]
  unfold Spec.code
  exact congrArg (fun n => Spec.cod _ (Spec.scale X t n)) (Fin.ext (by unfold qu; dsimp only; omega))

omit hx in
theorem qb_dec : ∀ l : Fin 128, ∀ c : Fin 4, IntOp.cmpi .eq (IntOp.andi (BitVec.ofNat 32 l.val) 3#32) (BitVec.ofNat 32 c.val)
    = if l.val % 4 = c.val then 1#1 else 0#1 := by decide +kernel

omit hx in
/-- The sign of a lane's input in an entry. -/
theorem sgnG_at (e : Fin 8) (g : Fin 72) (l : Fin 128) : sgnG (F := Ideal) e (ix2 g l) = ((Spec.sgz e ⟨l.val % 4, by omega⟩ : ℝ) : EReal) := by
  show Scalar.select (IntOp.cmpi .eq (IntOp.andi (lane rows72 (ix2 g l)) 3#32) (BitVec.ofNat 32 (2 : Fin 4).val)) (Spec.sg e 2)
    (Scalar.select (IntOp.cmpi .eq (IntOp.andi (lane rows72 (ix2 g l)) 3#32) (BitVec.ofNat 32 (1 : Fin 4).val)) (Spec.sg e 1)
      (Scalar.select (IntOp.cmpi .eq (IntOp.andi (lane rows72 (ix2 g l)) 3#32) (BitVec.ofNat 32 (0 : Fin 4).val)) (Spec.sg e 0) (Spec.sg e 3))) = _
  rw [lane_at, qb_dec, qb_dec, qb_dec, ← Spec.sg_eq]
  have hl : l.val % 4 = 0 ∨ l.val % 4 = 1 ∨ l.val % 4 = 2 ∨ l.val % 4 = 3 := by omega
  rcases hl with h | h | h | h
  · rw [show (⟨l.val % 4, by omega⟩ : Fin 4) = 0 from Fin.ext h]; simp [h, Scalar.select]
  · rw [show (⟨l.val % 4, by omega⟩ : Fin 4) = 1 from Fin.ext h]; simp [h, Scalar.select]
  · rw [show (⟨l.val % 4, by omega⟩ : Fin 4) = 2 from Fin.ext h]; simp [h, Scalar.select]
  · rw [show (⟨l.val % 4, by omega⟩ : Fin 4) = 3 from Fin.ext h]; simp [h, Scalar.select]

omit hx in
theorem prodB_eq (e : Fin 8) : Ideal.ofBits .f32 (prodB e) = ((pz e : ℝ) : EReal) := by
  unfold prodB pz
  split
  · rw [Spec.cn1]; norm_cast
  · rw [Spec.c1]; norm_cast

/-- The linear coefficients of a group. -/
theorem linG_at (g : Fin 72) (l : Fin 128) : (n : ℕ) → (h : n ≤ 8) → linG x n h (ix2 g l)
    = ((∑ e : Fin n, (Spec.codeZ X t (qu g l) ⟨e, by omega⟩ : ℝ) * (Spec.sgz ⟨e, by omega⟩ ⟨l.val % 4, by omega⟩ : ℝ) : ℝ) : EReal)
  | 0, _ => by
    show Ideal.ofBits .f32 0x00000000#32 = _
    rw [Ideal.ofBits_zero_f32]; simp
  | n + 1, h => by
    show linG x n _ (ix2 g l) + codG x ⟨n, h⟩ (ix2 g l) * sgnG ⟨n, h⟩ (ix2 g l) = _
    rw [linG_at g l n, codG_at X t x hx, sgnG_at, Fin.sum_univ_castSucc, EReal.coe_add, EReal.coe_mul]
    rfl

/-- The cubic coefficients of a group. -/
theorem cubG_at (g : Fin 72) (l : Fin 128) : (n : ℕ) → (h : n ≤ 8) → cubG x n h (ix2 g l)
    = ((∑ e : Fin n, (Spec.codeZ X t (qu g l) ⟨e, by omega⟩ : ℝ) * ((Spec.sgz ⟨e, by omega⟩ ⟨l.val % 4, by omega⟩ : ℝ) * (pz ⟨e, by omega⟩ : ℝ)) : ℝ) : EReal)
  | 0, _ => by
    show Ideal.ofBits .f32 0x00000000#32 = _
    rw [Ideal.ofBits_zero_f32]; simp
  | n + 1, h => by
    show cubG x n _ (ix2 g l) + codG x ⟨n, h⟩ (ix2 g l) * (sgnG ⟨n, h⟩ (ix2 g l) * Ideal.ofBits .f32 (prodB ⟨n, h⟩)) = _
    rw [cubG_at g l n, codG_at X t x hx, sgnG_at, prodB_eq, Fin.sum_univ_castSucc, EReal.coe_add, EReal.coe_mul, EReal.coe_mul]
    rfl

/-- The first two terms are reals whose sum is the linear coefficient; the third is the cubic one. -/
theorem coef_at (g : Fin 72) (l : Fin 128) : ∃ a b : ℝ, coef x 0 (ix2 g l) = (a : EReal) ∧ coef x 1 (ix2 g l) = (b : EReal)
    ∧ coef x 2 (ix2 g l) = ((cubZ (Spec.codeZ X t (qu g l)) ⟨l.val % 4, by omega⟩ : ℝ) : EReal)
    ∧ a + b = (linZ (Spec.codeZ X t (qu g l)) ⟨l.val % 4, by omega⟩ : ℝ) := by
  have hl := linG_at X t x hx g l 8 le_rfl
  have hc := cubG_at X t x hx g l 8 le_rfl
  set A : ℝ := ∑ e : Fin 8, (Spec.codeZ X t (qu g l) ⟨e, by omega⟩ : ℝ) * (Spec.sgz ⟨e, by omega⟩ ⟨l.val % 4, by omega⟩ : ℝ) with hA
  have hh : hiG x (ix2 g l) = (((Ideal.roundHalfEven (A * (1 / 8)) : ℝ) * 8 : ℝ) : EReal) := by
    show Ideal.liftRound Ideal.roundHalfEven (linG x 8 le_rfl (ix2 g l) * Ideal.ofBits .f32 0x3E000000#32) * Ideal.ofBits .f32 0x41000000#32 = _
    rw [hl, Spec.c8th, Spec.c8, ← EReal.coe_mul, Ideal.liftRound_coe, ← EReal.coe_mul]
  refine ⟨_, A - (Ideal.roundHalfEven (A * (1 / 8)) : ℝ) * 8, hh, ?_, ?_, ?_⟩
  · show linG x 8 le_rfl (ix2 g l) - hiG x (ix2 g l) = _
    rw [hl, hh, ← EReal.coe_sub]
  · show cubG x 8 le_rfl (ix2 g l) = _
    rw [hc]
    unfold cubZ
    push_cast
    rfl
  · rw [add_sub_cancel, hA]
    unfold linZ
    push_cast
    rfl

/-- Twice a group's zero point. -/
theorem zpG_at (g : Fin 72) (l : Fin 128) : zpG x (ix2 g l) = ((2 * (szp X t g : ℝ) : ℝ) : EReal) := by
  have h : zpG x (ix2 g l) = (∑ k : Fin 128, codG x 0 (ix2 g k)) * Ideal.ofBits .f32 0xBF000000#32 := by
    unfold zpG
    generalize codG x 0 = C
    pointwise
  have hs : (∑ k : Fin 128, (Spec.codeZ X t (qu g k) 0 : ℝ)) = -4 * (szp X t g : ℝ) := by
    have := Fin.sum_univ_tiles 32 4 rfl fun k : Fin 128 => (Spec.codeZ X t (qu g k) 0 : ℝ)
    rw [this]
    unfold szp
    push_cast
    rw [neg_mul_neg, Finset.mul_sum]
    refine Finset.sum_congr rfl fun r _ => ?_
    rw [Finset.sum_congr rfl fun (i : Fin 4) _ => show (Spec.codeZ X t (qu g ⟨r.val * 4 + i.val, by omega⟩) 0 : ℝ)
      = (Spec.codeZ X t ⟨32 * g.val + r.val, by omega⟩ 0 : ℝ) from by
        congr 2; exact Fin.ext (by unfold qu; dsimp only; omega)]
    simp
  rw [h, Spec.cn05, Finset.sum_congr rfl fun k _ => codG_at X t x hx 0 g k]
  rw [show (∑ k : Fin 128, ((Spec.codeZ X t (qu g k) 0 : ℝ) : EReal)) = ((∑ k : Fin 128, (Spec.codeZ X t (qu g k) 0 : ℝ) : ℝ) : EReal) from by push_cast; rfl,
    hs, ← EReal.coe_mul]
  congr 1
  ring

/-- Half a group's scale. -/
theorem scG_at (g : Fin 72) (l : Fin 128) : scG x (ix2 g l) = Spec.scale X t g * ((1 / 2 : ℝ) : EReal) := by
  have h : scG x (ix2 g l) = sclG x (ix2 g 0) * Ideal.ofBits .f32 0x3F000000#32 := by
    unfold scG
    generalize sclG x = S
    pointwise
  rw [h, sclG_at X t x hx, Spec.c05]

end Token

end Cert.KernelIdeal.Model

end
-- ==== Proof.KernelIdeal.Lhs.lean ====
module

public import proofs.«01_k».proof.Proof.KernelIdeal.Coef

/-! The left operand, the zero points and the half scales that the body stores, over the extended reals. -/

@[expose] public section

set_option maxRecDepth 16384

noncomputable section

namespace Cert.KernelIdeal.Model

open Cert.KernelIdeal Cert.KernelIdeal.Gen
open Idealize.ShloMosaic Idealize.ShloMosaic.TcCoe

section Xb
variable (X : Fin 3 → Fin 9216 → EReal) (ld : Fin 72 → Vec Ideal S3x128 .bf16) (hX : Cols X ld)
include hX

theorem xb_at (t : Fin 3) (g : Fin 72) (l : Fin 128) : View.canon (xbPieces ld) (ix2 ⟨72 * t.val + g.val, by omega⟩ l) = X t ⟨128 * g.val + l.val, by omega⟩ := by
  refine (canon_rev 72 _ _ g (ix2 t l) (emb_eq _ _ _ fun a => ?_) fun k hk => ?_).trans ?_
  · match a with
    | 0 => show g.val + 72 * t.val = 72 * t.val + g.val; omega
    | 1 => show 0 + 1 * l.val = l.val; omega
  · rw [LoadRect.mem_set] at hk
    obtain ⟨a, ha, h0⟩ := hk 0
    change a < 3 at ha
    change 72 * t.val + g.val = k.val + 72 * a at h0
    exact Fin.ext (by omega)
  · dsimp only
    rw [shapeCast_self]
    exact col_at X ld hX g t l

/-- A token's rows of the input, one group each. -/
theorem xbRows_at (arg9 : Memref sig .tc .vmem S216x128 .f32) (t : Fin 3) : IsRows X t (xbRows arg9 ld t) := fun g l => by
  unfold xbRows
  rw [View.readCov_eq_canon', ← xb_at X ld hX]
  refine congrArg (View.canon (xbPieces ld)) (funext fun a => Fin.ext ?_)
  match a with
  | 0 => show 72 * t.val + 1 * g.val = 72 * t.val + g.val; omega
  | 1 => show 0 + 1 * l.val = l.val; omega

end Xb

theorem row_at {F : FTy → Type} [FloatOps F] (f : Fin 3 → FVec F (Ln 72) .f32) (t : Fin 3) (b : Fin 4) (g : Fin 72) (l : Fin 128) :
    View.canon (rowPieces f) (ix2 ⟨16 * g.val + 4 * t.val + b.val, by omega⟩ l) = f t (ix2 g l) := by
  refine (canon_rev_app 12 _ _ _ ⟨4 * t.val + b.val, by omega⟩ (ix2 g l) (emb_eq _ _ _ fun a => ?_) fun k hk => ?_).trans ?_
  · match a with
    | 0 => show 4 * t.val + b.val + 16 * g.val = 16 * g.val + 4 * t.val + b.val; omega
    | 1 => show 0 + 1 * l.val = l.val; omega
  · rw [LoadRect.mem_set] at hk
    obtain ⟨a, ha, h0⟩ := hk 0
    change a < 72 at ha
    change 16 * g.val + 4 * t.val + b.val = k.val + 16 * a at h0
    exact Fin.ext (by dsimp only; omega)
  · dsimp only
    rw [shapeCast_self]
    exact congrFun (congrArg f (Fin.ext (by dsimp only; omega))) _

/-! ## The left operand -/

/-- The lane that column `c` of the left operand takes its coefficient from. -/
def srcLane (bits : Fin 8 → ℕ) (c : Fin 512) : ℕ := 64 * (c.val / 256) + 8 * (c.val / 4 % 8) + bits ⟨c.val / 32 % 8, by omega⟩

def colW (c : Fin 512) : BitVec 32 := BitVec.ofNat 32 c.val
def slotW (c : Fin 512) : BitVec 32 := IntOp.andi (IntOp.shrsi .vector (colW c) 5#32) 7#32
def baseW (c : Fin 512) : BitVec 32 :=
  IntOp.addi (IntOp.muli (IntOp.shrsi .vector (colW c) 8#32) 64#32)
    (IntOp.muli (IntOp.andi (IntOp.shrsi .vector (colW c) 2#32) 7#32) 8#32)

def fromW (bits : Fin 8 → ℕ) (c : Fin 512) : (n : ℕ) → n ≤ 8 → BitVec 32
  | 0, _ => baseW c
  | n + 1, h => Scalar.select (IntOp.cmpi .eq (slotW c) (BitVec.ofNat 32 n))
      (IntOp.addi (baseW c) (BitVec.ofNat 32 (bits ⟨n, h⟩))) (fromW bits c n (Nat.le_of_succ_le h))

theorem fromW_lin : ∀ c : Fin 512, fromW linBit c 8 le_rfl = BitVec.ofNat 32 (srcLane linBit c) := by decide +kernel
theorem fromW_cub : ∀ c : Fin 512, fromW cubBit c 8 le_rfl = BitVec.ofNat 32 (srcLane cubBit c) := by decide +kernel

theorem colI_at (k : Fin 128) (c : Fin 512) : colI (ix2 k c) = colW c := by
  show BitVec.ofNat 32 (0 * 512 + c.val) = BitVec.ofNat 32 c.val
  rw [Nat.zero_mul, Nat.zero_add]

theorem rowI_at (k : Fin 128) (c : Fin 512) : rowI (ix2 k c) = BitVec.ofNat 32 k.val := by
  show BitVec.ofNat 32 (0 * 128 + k.val) = BitVec.ofNat 32 k.val
  rw [Nat.zero_mul, Nat.zero_add]

theorem slot_at (k : Fin 128) (c : Fin 512) : slot (ix2 k c) = slotW c := by
  show IntOp.andi (IntOp.shrsi .vector (colI (ix2 k c)) 5#32) 7#32 = _
  rw [colI_at]; rfl

theorem base_at (k : Fin 128) (c : Fin 512) : base (ix2 k c) = baseW c := by
  show IntOp.addi (IntOp.muli (IntOp.shrsi .vector (colI (ix2 k c)) 8#32) 64#32)
    (IntOp.muli (IntOp.andi (IntOp.shrsi .vector (colI (ix2 k c)) 2#32) 7#32) 8#32) = _
  rw [colI_at]; rfl

theorem from_at (bits : Fin 8 → ℕ) (k : Fin 128) (c : Fin 512) : (n : ℕ) → (h : n ≤ 8) → from_ bits n h (ix2 k c) = fromW bits c n h
  | 0, _ => base_at k c
  | n + 1, h => by
    show Scalar.select (IntOp.cmpi .eq (slot (ix2 k c)) (BitVec.ofNat 32 n)) (IntOp.addi (base (ix2 k c)) _) (from_ bits n _ (ix2 k c)) = _
    rw [slot_at, base_at, from_at bits k c n]; rfl

theorem odd_dec : ∀ c : Fin 512, IntOp.cmpi .eq (IntOp.andi (slotW c) 1#32) 0#32 = if c.val / 32 % 2 = 0 then 1#1 else 0#1 := by decide +kernel

/-- The factor of column `c`. -/
def unitR (c : Fin 512) : ℝ := if c.val / 32 % 2 = 0 then 128 else 32

theorem unit_at (k : Fin 128) (c : Fin 512) : unit (F := Ideal) (ix2 k c) = ((unitR c : ℝ) : EReal) := by
  show Scalar.select (IntOp.cmpi .eq (IntOp.andi (slot (ix2 k c)) 1#32) 0#32) (Ideal.ofBits .f32 0x43000000#32) (Ideal.ofBits .f32 0x42000000#32) = _
  rw [slot_at, odd_dec, Spec.c128, Spec.c32]
  unfold unitR
  split <;> rfl

def bitsOf : Fin 3 → Fin 8 → ℕ
  | 0 => linBit
  | 1 => linBit
  | 2 => cubBit

theorem srcLane_lt : ∀ (d : Fin 3) (c : Fin 512), srcLane (bitsOf d) c < 128 := by decide +kernel

/-- The matrix that spreads the coefficients over the columns, at an index. -/
theorem spread_at (bits : Fin 8 → ℕ) (hb : ∀ c : Fin 512, fromW bits c 8 le_rfl = BitVec.ofNat 32 (srcLane bits c)) (hlt : ∀ c, srcLane bits c < 128)
    (k : Fin 128) (c : Fin 512) :
    spread (F := Ideal) bits (ix2 k c) = if k.val = srcLane bits c then ((unitR c : ℝ) : EReal) else 0 := by
  show Scalar.select (IntOp.cmpi .eq (rowI (ix2 k c)) (from_ bits 8 le_rfl (ix2 k c))) (unit (F := Ideal) (ix2 k c)) (Ideal.ofBits .f32 0x00000000#32) = _
  rw [rowI_at, from_at, hb, unit_at, Ideal.ofBits_zero_f32]
  have hk := k.isLt
  have := hlt c
  by_cases h : k.val = srcLane bits c
  · rw [if_pos h, h]
    simp [IntOp.cmpi, Scalar.select]
  · rw [if_neg h]
    have : BitVec.ofNat 32 k.val ≠ BitVec.ofNat 32 (srcLane bits c) := fun e => h (by
      have := congrArg BitVec.toNat e
      simp only [BitVec.toNat_ofNat] at this
      omega)
    have hf : (BitVec.ofNat 32 k.val == BitVec.ofNat 32 (srcLane bits c)) = false := by simpa using this
    simp only [IntOp.cmpi, Scalar.select, hf]
    rfl

theorem spreads_at (d : Fin 3) (k : Fin 128) (c : Fin 512) :
    spreads (F := Ideal) d (ix2 k c) = if k.val = srcLane (bitsOf d) c then ((unitR c : ℝ) : EReal) else 0 := by
  match d with
  | 0 => exact spread_at linBit fromW_lin (srcLane_lt 0) k c
  | 1 => exact spread_at linBit fromW_lin (srcLane_lt 1) k c
  | 2 => exact spread_at cubBit fromW_cub (srcLane_lt 2) k c

section Left
variable (x : Fin 3 → FVec Ideal (Ln 72) .f32)

/-- The spread coefficients at an index. -/
theorem ex_at (d t : Fin 3) (g : Fin 72) (c : Fin 512) :
    ex x d t (ix2 g c) = coef (x t) d (ix2 g ⟨srcLane (bitsOf d) c, srcLane_lt d c⟩) * ((unitR c : ℝ) : EReal) := by
  have h : ex x d t (ix2 g c) = ∑ k : Fin 128, coef (x t) d (ix2 g k) * spreads (F := Ideal) d (ix2 k c) := by
    unfold ex
    generalize coef (x t) d = A
    generalize spreads (F := Ideal) d = B
    pointwise
  rw [h, Finset.sum_congr rfl fun k _ => by rw [spreads_at]]
  rw [Finset.sum_eq_single (⟨srcLane (bitsOf d) c, srcLane_lt d c⟩ : Fin 128)]
  · rw [if_pos rfl]
  · intro k _ hk
    rw [if_neg fun e => hk (Fin.ext e), mul_zero]
  · intro h; exact absurd (Finset.mem_univ _) h

theorem byte_dec : ∀ c : Fin 512, ∀ b : Fin 4, IntOp.cmpi .eq (IntOp.andi (BitVec.ofNat 32 c.val) 3#32) (BitVec.ofNat 32 b.val)
    = if c.val % 4 = b.val then 1#1 else 0#1 := by decide +kernel

theorem masked_at (d t : Fin 3) (b : Fin 4) (g : Fin 72) (c : Fin 512) :
    masked x d t b (ix2 g c) = if c.val % 4 = b.val then ex x d t (ix2 g c) else 0 := by
  show Scalar.select (IntOp.cmpi .eq (byteI (ix2 g c)) (BitVec.ofNat 32 b.val)) (ex x d t (ix2 g c)) (Ideal.ofBits .f32 0x00000000#32) = _
  rw [show byteI (ix2 g c) = IntOp.andi (BitVec.ofNat 32 c.val) 3#32 from by
    show IntOp.andi (BitVec.ofNat 32 (0 * 512 + c.val)) 3#32 = _
    rw [Nat.zero_mul, Nat.zero_add], byte_dec, Ideal.ofBits_zero_f32]
  split <;> rfl

theorem exStage_at (d : Fin 3) (L : List (View.Piece (Elt Ideal) S4x1152x128 .f32)) (v : Fin 4) (g : Fin 72) (t : Fin 3) (b : Fin 4) (l : Fin 128) :
    View.canon (exStage x d ++ L) (ix3 v ⟨16 * g.val + 4 * t.val + b.val, by omega⟩ l) = masked x d t b (ix2 g ⟨128 * v.val + l.val, by omega⟩) := by
  refine (canon_rev_app 48 _ _ _ ⟨16 * t.val + 4 * b.val + v.val, by omega⟩ (ix3 0 g l) (emb_eq _ _ _ fun a => ?_) fun k hk => ?_).trans ?_
  · match a with
    | 0 => show (16 * t.val + 4 * b.val + v.val) % 4 + 1 * 0 = v.val; omega
    | 1 => show (16 * t.val + 4 * b.val + v.val) / 4 + 16 * g.val = 16 * g.val + 4 * t.val + b.val; omega
    | 2 => show 0 + 1 * l.val = l.val; omega
  · rw [LoadRect.mem_set] at hk
    obtain ⟨a, ha, h0⟩ := hk 0
    obtain ⟨a', ha', h1⟩ := hk 1
    change a < 1 at ha
    change a' < 72 at ha'
    change v.val = k.val % 4 + 1 * a at h0
    change 16 * g.val + 4 * t.val + b.val = k.val / 4 + 16 * a' at h1
    exact Fin.ext (by dsimp only; omega)
  · dsimp only
    refine (up3 _ _ _ _ _).trans ?_
    have ht : (⟨(16 * t.val + 4 * b.val + v.val) / 16, by omega⟩ : Fin 3) = t := Fin.ext (by dsimp only; omega)
    have hb : (⟨(16 * t.val + 4 * b.val + v.val) / 4 % 4, by omega⟩ : Fin 4) = b := Fin.ext (by dsimp only; omega)
    rw [ht, hb]
    refine congrArg (masked x d t b) (funext fun a => Fin.ext ?_)
    match a with
    | 0 => show 0 + g.val = g.val; omega
    | 1 => show 128 * ((16 * t.val + 4 * b.val + v.val) % 4) + l.val = 128 * v.val + l.val; omega

/-- The spread coefficients, masked by byte, at an index. -/
theorem exPieces_at (d : Fin 3) (v : Fin 4) (g : Fin 72) (t : Fin 3) (b : Fin 4) (l : Fin 128) :
    View.canon (exPieces x d) (ix3 v ⟨16 * g.val + 4 * t.val + b.val, by omega⟩ l) = masked x d t b (ix2 g ⟨128 * v.val + l.val, by omega⟩) := by
  match d with
  | 0 => exact exStage_at x 0 _ v g t b l
  | 1 => exact exStage_at x 1 _ v g t b l
  | 2 => exact exStage_at x 2 _ v g t b l

/-- The left operands at an index. -/
theorem lhs_at (arg10 : Memref sig .tc .vmem S4x1152x128 .f32) (d : Fin 3) (g : Fin 72) (t : Fin 3) (b : Fin 4) (c : Fin 512) :
    View.canon (lhsPieces x arg10) (ix3 d ⟨16 * g.val + 4 * t.val + b.val, by omega⟩ c)
      = if c.val % 4 = b.val then coef (x t) d (ix2 g ⟨srcLane (bitsOf d) c, srcLane_lt d c⟩) * ((unitR c : ℝ) : EReal) else 0 := by
  refine (canon_rev 12 _ _ ⟨4 * d.val + c.val / 128, by omega⟩ (ix3 0 ⟨16 * g.val + 4 * t.val + b.val, by omega⟩ ⟨c.val % 128, by omega⟩)
    (emb_eq _ _ _ fun a => ?_) fun k hk => ?_).trans ?_
  · match a with
    | 0 => show (4 * d.val + c.val / 128) / 4 + 1 * 0 = d.val; omega
    | 1 => show 0 + 1 * (16 * g.val + 4 * t.val + b.val) = 16 * g.val + 4 * t.val + b.val; omega
    | 2 => show 128 * ((4 * d.val + c.val / 128) % 4) + 1 * (c.val % 128) = c.val; omega
  · rw [LoadRect.mem_set] at hk
    obtain ⟨a, ha, h0⟩ := hk 0
    obtain ⟨a', ha', h1⟩ := hk 2
    change a < 1 at ha
    change a' < 128 at ha'
    change d.val = k.val / 4 + 1 * a at h0
    change c.val = 128 * (k.val % 4) + 1 * a' at h1
    exact Fin.ext (by dsimp only; omega)
  · dsimp only
    refine (up3 _ _ _ _ _).trans ?_
    rw [View.readCov_eq_canon', ← ex_at, ← masked_at]
    have hd : (⟨(4 * d.val + c.val / 128) / 4, by omega⟩ : Fin 3) = d := Fin.ext (by dsimp only; omega)
    rw [hd]
    have e := exPieces_at x d ⟨c.val / 128, by omega⟩ g t b ⟨c.val % 128, by omega⟩
    rw [show (⟨128 * (c.val / 128) + c.val % 128, by omega⟩ : Fin 512) = c from Fin.ext (by dsimp only; omega)] at e
    rw [← e]
    generalize View.canon (exPieces x d) = C
    have key : ∀ (v : FVec Ideal S1x1152x128 .f32) (h : S1x1152x128.ShapeCasts S1152x128) (i : Fin 1152) (l : Fin 128),
        (truncf .bf16 (shapeCast S1152x128 v h) bitsLt_bf16_f32 : FVec Ideal S1152x128 .bf16) (ix2 i l) = v (ix3 0 i l) := fun v h i l => down3 v h i l
    rw [key]
    refine congrArg C (funext fun a => Fin.ext ?_)
    match a with
    | 0 => show (4 * d.val + c.val / 128) % 4 + 1 * 0 = c.val / 128; omega
    | 1 => show 0 + 1 * (16 * g.val + 4 * t.val + b.val) = 16 * g.val + 4 * t.val + b.val; omega
    | 2 => show 0 + 1 * (c.val % 128) = c.val % 128; omega

end Left

/-! ## The weights' scale rows -/

theorem hs_num : ∀ (h : Fin 2) (r : Fin 8), (8 * h.val + 2 * (r.val % 4) + r.val / 4) / 8 = h.val
    ∧ (8 * h.val + 2 * (r.val % 4) + r.val / 4) / 2 % 4 = r.val % 4 ∧ (8 * h.val + 2 * (r.val % 4) + r.val / 4) % 2 = r.val / 4 := by decide

theorem hs_uniq : ∀ (k : Fin 16) (h : Fin 2) (r : Fin 8), h.val = k.val / 8 → r.val = k.val / 2 % 4 + 4 * (k.val % 2) →
    k.val = 8 * h.val + 2 * (r.val % 4) + r.val / 4 := by decide

/-- The split rows of the weight scales or zeros at an index. -/
theorem hs_at {F : FTy → Type} [FloatOps F] (w : Fin 8 → Vec F S72x128 .f32) (h : Fin 2) (g : Fin 72) (r : Fin 8) (l : Fin 128) :
    View.canon (hsPieces w) (ix3 h ⟨8 * g.val + r.val, by omega⟩ l)
      = w ⟨4 * h.val + l.val / 32, by omega⟩ (ix2 g ⟨4 * (l.val % 32) + r.val % 4, by omega⟩) := by
  have ⟨n1, n2, n3⟩ := hs_num h r
  refine (canon_rev 16 _ _ ⟨8 * h.val + 2 * (r.val % 4) + r.val / 4, by omega⟩ (ix3 0 g l) (emb_eq _ _ _ fun a => ?_) fun k hk => ?_).trans ?_
  · match a with
    | 0 => show (8 * h.val + 2 * (r.val % 4) + r.val / 4) / 8 + 1 * 0 = h.val; omega
    | 1 => show (8 * h.val + 2 * (r.val % 4) + r.val / 4) / 2 % 4 + 4 * ((8 * h.val + 2 * (r.val % 4) + r.val / 4) % 2) + 8 * g.val = 8 * g.val + r.val; omega
    | 2 => show 0 + 1 * l.val = l.val; omega
  · rw [LoadRect.mem_set] at hk
    obtain ⟨a, ha, h0⟩ := hk 0
    obtain ⟨a', ha', h1⟩ := hk 1
    change a < 1 at ha
    change a' < 72 at ha'
    change h.val = k.val / 8 + 1 * a at h0
    change 8 * g.val + r.val = k.val / 2 % 4 + 4 * (k.val % 2) + 8 * a' at h1
    exact Fin.ext (hs_uniq k h r (by omega) (by omega))
  · dsimp only
    refine (up3 _ _ _ _ _).trans ?_
    rw [deint_at]
    unfold part4
    rw [shapeCast_self]
    refine congrFun (congrArg w (Fin.ext (by dsimp only; omega))) _ |>.trans (congrArg _ (congrArg (ix2 g) (Fin.ext (by dsimp only; omega))))

end Cert.KernelIdeal.Model

end
-- ==== Proof.KernelIdeal.Bits.lean ====
module

public import proofs.«01_k».proof.Proof.KernelIdeal.Codes
public import proofs.«01_k».proof.Proof.SpecLookup
public import Idealize.ShloMosaic.Lib.BitcastFour
public import Idealize.ShloMosaic.Lib.BitcastPair

/-! The right operands of the products: bits of two planes' words, read as eight-bit floats, over the extended reals. -/

@[expose] public section

set_option maxRecDepth 16384

noncomputable section

namespace Cert.KernelIdeal.Model

open Cert.KernelIdeal Cert.KernelIdeal.Gen
open Idealize.ShloMosaic Idealize.ShloMosaic.TcCoe
open Cert.Spec (up)

/-! ## Bytes of a word -/

/-- Byte `b` of a word. -/
def byteOf (w : BitVec 32) (b : Fin 4) : BitVec 8 := w.extractLsb' (8 * b.val) 8

theorem byteOf_bit (w : BitVec 32) (b : Fin 4) (i : ℕ) (hi : i < 8) : (byteOf w b).getLsbD i = w.getLsbD (8 * b.val + i) := by
  unfold byteOf
  rw [BitVec.getLsbD_extractLsb']
  simp [hi]

/-- An array of words read as bytes. -/
theorem bytes_at {n : ℕ} {r : ℕ} (x : (⟨2, ![r, n]⟩ : Shape).Idx → BitVec 32) {R : ℕ} (h : (⟨2, ![r, n]⟩ : Shape).Bitcasts 32 ⟨2, ![R, n]⟩ 8)
    (w : Fin r) (b : Fin 4) (k : Fin R) (hk : k.val = 4 * w.val + b.val) (l : Fin n) :
    bitcast ⟨2, ![R, n]⟩ 8 x h (ix2 k l) = byteOf (x (ix2 w l)) b := by
  apply BitVec.eq_of_getLsbD_eq
  intro i hi
  rw [bitcast_getLsbD x h (ix2 k l) i hi (by decide), byteOf_bit _ _ _ hi]
  have hr : (⟨2, ![R, n]⟩ : Shape).row (ix2 k l) = k.val := rfl
  have e1 : ((⟨2, ![R, n]⟩ : Shape).row (ix2 k l) * 8 + i) / 32 = w.val := by rw [hr]; omega
  have e2 : ((⟨2, ![R, n]⟩ : Shape).row (ix2 k l) * 8 + i) % 32 = 8 * b.val + i := by rw [hr]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-! ## Small eight-bit floats -/

/-- The eight-bit float of a number below 16 is that number over 512: the subnormals and the first binade lie on one line. -/
theorem e4m3_small (v : BitVec 8) (hv : v.toNat < 16) : Ideal.e4m3fn v = (((v.toNat : ℝ) / 512 : ℝ) : EReal) := by
  obtain ⟨k, hk, rfl⟩ : ∃ k : ℕ, k < 16 ∧ v = BitVec.ofNat 8 k := ⟨v.toNat, hv, by simp⟩
  interval_cases k <;> (simp [Ideal.e4m3fn, -EReal.coe_mul]; try norm_num)

/-- Field `s` of the byte `v`, in its place. -/
def fieldB (v : BitVec 8) : Fin 4 → BitVec 8
  | 0 => v &&& 3#8
  | 1 => v &&& 12#8
  | 2 => (v >>> 4) &&& 3#8
  | 3 => (v >>> 4) &&& 12#8

/-- A field is its two bits, times one or four. -/
theorem fieldB_nat : ∀ v : BitVec 8, ∀ s : Fin 4, (fieldB v s).toNat
    = (if s.val % 2 = 0 then 1 else 4) * (up (v.getLsbD (2 * s.val)) + 2 * up (v.getLsbD (2 * s.val + 1))) := by decide +kernel

/-- The unit that makes up for a field's place. -/
def unitS (s : ℕ) : ℝ := if s % 2 = 0 then 128 else 32

/-- A field read as a float, in its unit. -/
theorem fieldB_val (v : BitVec 8) (s : Fin 4) :
    Ideal.e4m3fn (fieldB v s) = (((up (v.getLsbD (2 * s.val)) + 2 * up (v.getLsbD (2 * s.val + 1)) : ℕ) : ℝ) / (4 * unitS s.val) : ℝ) := by
  have h := fieldB_nat v s
  have hu : ∀ b, up b ≤ 1 := fun b => by unfold up; split <;> omega
  have h1 := hu (v.getLsbD (2 * s.val))
  have h2 := hu (v.getLsbD (2 * s.val + 1))
  rw [e4m3_small _ (by rw [h]; split <;> omega), h]
  unfold unitS
  split <;> (push_cast; congr 1; ring)

/-! ## The words -/

/-- The bits that the two planes' words exchange. -/
def tW (a b : BitVec 32) : BitVec 32 := ((a >>> 1) ^^^ b) &&& 0x55555555#32
/-- The odd bits of both planes, paired. -/
def oddW (a b : BitVec 32) : BitVec 32 := b ^^^ tW a b
/-- The even bits of both planes, paired. -/
def evenW (a b : BitVec 32) : BitVec 32 := a ^^^ (tW a b <<< 1)
/-- The parities that turn a linear feature into a cubic one. -/
def selW (a b : BitVec 32) : BitVec 32 :=
  (((evenW a b ^^^ oddW a b) >>> 2) &&& 0x33333333#32) ||| (((evenW a b ^^^ oddW a b) <<< 2) &&& 0xCCCCCCCC#32)

theorem c55 : ∀ i : Fin 32, (0x55555555#32).getLsbD i.val = decide (i.val % 2 = 0) := by decide
theorem c33 : ∀ i : Fin 32, (0x33333333#32).getLsbD i.val = decide (i.val % 4 < 2) := by decide
theorem cCC : ∀ i : Fin 32, (0xCCCCCCCC#32).getLsbD i.val = decide (2 ≤ i.val % 4) := by decide

section Words
variable (a b : BitVec 32)

/-- The exchanged bits at an even place. -/
theorem tW_even (i : ℕ) (h : i < 32) (he : i % 2 = 0) : (tW a b).getLsbD i = (a.getLsbD (i + 1) ^^ b.getLsbD i) := by
  unfold tW
  rw [BitVec.getLsbD_and, c55 ⟨i, h⟩, BitVec.getLsbD_xor, BitVec.getLsbD_ushiftRight]
  simp [he, Nat.add_comm]

theorem tW_odd (i : ℕ) (h : i < 32) (he : i % 2 = 1) : (tW a b).getLsbD i = false := by
  unfold tW
  rw [BitVec.getLsbD_and, c55 ⟨i, h⟩]
  simp [he]

/-- An even place of the odd word is the first plane's next bit. -/
theorem oddW_even (i : ℕ) (h : i < 32) (he : i % 2 = 0) : (oddW a b).getLsbD i = a.getLsbD (i + 1) := by
  unfold oddW
  rw [BitVec.getLsbD_xor, tW_even a b i h he]
  cases a.getLsbD (i + 1) <;> cases b.getLsbD i <;> rfl

/-- An odd place of the odd word is the second plane's bit. -/
theorem oddW_odd (i : ℕ) (h : i < 32) (he : i % 2 = 1) : (oddW a b).getLsbD i = b.getLsbD i := by
  unfold oddW
  rw [BitVec.getLsbD_xor, tW_odd a b i h he, Bool.xor_false]

/-- An even place of the even word is the first plane's bit. -/
theorem evenW_even (i : ℕ) (h : i < 32) (he : i % 2 = 0) : (evenW a b).getLsbD i = a.getLsbD i := by
  unfold evenW
  rw [BitVec.getLsbD_xor, BitVec.getLsbD_shiftLeft]
  by_cases h0 : i = 0
  · subst h0; simp
  · rw [tW_odd a b (i - 1) (by omega) (by omega)]; simp

/-- An odd place of the even word is the second plane's bit before. -/
theorem evenW_odd (i : ℕ) (h : i < 32) (he : i % 2 = 1) : (evenW a b).getLsbD i = b.getLsbD (i - 1) := by
  unfold evenW
  rw [BitVec.getLsbD_xor, BitVec.getLsbD_shiftLeft, tW_even a b (i - 1) (by omega) (by omega)]
  rw [show i - 1 + 1 = i from by omega]
  have : ¬ i < 1 := by omega
  simp only [h, this, decide_true, decide_false, Bool.not_false, Bool.true_and]
  cases a.getLsbD i <;> cases b.getLsbD (i - 1) <;> rfl

theorem selW_lo (i : ℕ) (h : i < 32) (he : i % 4 < 2) : (selW a b).getLsbD i = ((evenW a b).getLsbD (i + 2) ^^ (oddW a b).getLsbD (i + 2)) := by
  unfold selW
  rw [BitVec.getLsbD_or, BitVec.getLsbD_and, BitVec.getLsbD_and, c33 ⟨i, h⟩, cCC ⟨i, h⟩, BitVec.getLsbD_ushiftRight, BitVec.getLsbD_xor]
  have : ¬ 2 ≤ i % 4 := by omega
  simp [he, this, Nat.add_comm]

theorem selW_hi (i : ℕ) (h : i < 32) (he : 2 ≤ i % 4) : (selW a b).getLsbD i = ((evenW a b).getLsbD (i - 2) ^^ (oddW a b).getLsbD (i - 2)) := by
  unfold selW
  rw [BitVec.getLsbD_or, BitVec.getLsbD_and, BitVec.getLsbD_and, c33 ⟨i, h⟩, cCC ⟨i, h⟩, BitVec.getLsbD_shiftLeft, BitVec.getLsbD_xor]
  have : ¬ i % 4 < 2 := by omega
  have h2 : ¬ i < 2 := by omega
  simp [he, this, h, h2]

end Words

/-! ## Features of a byte of each plane -/

/-- The number that the two planes' bits `i` make. -/
def lin2 (p q : BitVec 8) (i : ℕ) : ℕ := up (p.getLsbD i) + 2 * up (q.getLsbD i)

/-- The other three inputs of `i`'s half byte. -/
def oth (p : BitVec 8) (i : ℕ) : Bool :=
  (p.getLsbD (4 * (i / 4) + (i + 1) % 4) ^^ p.getLsbD (4 * (i / 4) + (i + 2) % 4)) ^^ p.getLsbD (4 * (i / 4) + (i + 3) % 4)

/-- The number that the two planes' parities make. -/
def cub2 (p q : BitVec 8) (i : ℕ) : ℕ := up (oth p i) + 2 * up (oth q i)

def srcW (a b : BitVec 32) (o : Bool) : BitVec 32 := if o then oddW a b else evenW a b

/-- The linear feature of a slot. -/
theorem lin_bits (a b : BitVec 32) (k : Fin 4) (s : Fin 8) :
    up ((byteOf (srcW a b (decide (4 ≤ s.val))) k).getLsbD (2 * (s.val % 4))) + 2 * up ((byteOf (srcW a b (decide (4 ≤ s.val))) k).getLsbD (2 * (s.val % 4) + 1))
      = lin2 (byteOf a k) (byteOf b k) (linBit s) := by
  have hk := k.isLt
  rw [byteOf_bit _ _ _ (by omega), byteOf_bit _ _ _ (by omega)]
  unfold srcW lin2
  by_cases hs : 4 ≤ s.val
  · have hl : linBit s = 2 * (s.val % 4) + 1 := by revert s; decide
    rw [if_pos (decide_eq_true hs), oddW_even a b _ (by omega) (by omega), oddW_odd a b _ (by omega) (by omega), hl,
      byteOf_bit _ _ _ (by omega), byteOf_bit _ _ _ (by omega), Nat.add_assoc]
  · have hl : linBit s = 2 * (s.val % 4) := by revert s; decide
    rw [if_neg (by simpa using hs), evenW_even a b _ (by omega) (by omega), evenW_odd a b _ (by omega) (by omega), hl,
      byteOf_bit _ _ _ (by omega), byteOf_bit _ _ _ (by omega)]
    rw [show 8 * k.val + (2 * (s.val % 4) + 1) - 1 = 8 * k.val + 2 * (s.val % 4) from by omega]

/-- The cubic feature of a slot. -/
theorem cub_bits (a b : BitVec 32) (k : Fin 4) (s : Fin 8) :
    up ((byteOf (srcW a b (decide (4 ≤ s.val)) ^^^ selW a b) k).getLsbD (2 * (s.val % 4))) + 2 * up ((byteOf (srcW a b (decide (4 ≤ s.val)) ^^^ selW a b) k).getLsbD (2 * (s.val % 4) + 1))
      = cub2 (byteOf a k) (byteOf b k) (cubBit s) := by
  rw [byteOf_bit _ _ _ (by omega), byteOf_bit _ _ _ (by omega), BitVec.getLsbD_xor, BitVec.getLsbD_xor]
  unfold cub2 oth srcW
  have hk := k.isLt
  have b0 : ∀ w : BitVec 32, (byteOf w k)[0] = w.getLsbD (8 * k.val) := fun w => byteOf_bit w k 0 (by omega)
  have b1 : ∀ w : BitVec 32, (byteOf w k)[1] = w.getLsbD (8 * k.val + 1) := fun w => byteOf_bit w k 1 (by omega)
  have b2 : ∀ w : BitVec 32, (byteOf w k)[2] = w.getLsbD (8 * k.val + 2) := fun w => byteOf_bit w k 2 (by omega)
  have b3 : ∀ w : BitVec 32, (byteOf w k)[3] = w.getLsbD (8 * k.val + 3) := fun w => byteOf_bit w k 3 (by omega)
  have b4 : ∀ w : BitVec 32, (byteOf w k)[4] = w.getLsbD (8 * k.val + 4) := fun w => byteOf_bit w k 4 (by omega)
  have b5 : ∀ w : BitVec 32, (byteOf w k)[5] = w.getLsbD (8 * k.val + 5) := fun w => byteOf_bit w k 5 (by omega)
  have b6 : ∀ w : BitVec 32, (byteOf w k)[6] = w.getLsbD (8 * k.val + 6) := fun w => byteOf_bit w k 6 (by omega)
  have b7 : ∀ w : BitVec 32, (byteOf w k)[7] = w.getLsbD (8 * k.val + 7) := fun w => byteOf_bit w k 7 (by omega)
  have E0 : (evenW a b).getLsbD (8 * k.val) = a.getLsbD (8 * k.val) := evenW_even a b _ (by omega) (by omega)
  have O0 : (oddW a b).getLsbD (8 * k.val) = a.getLsbD (8 * k.val + 1) := oddW_even a b _ (by omega) (by omega)
  have S0 : (selW a b).getLsbD (8 * k.val) = ((evenW a b).getLsbD (8 * k.val + 2) ^^ (oddW a b).getLsbD (8 * k.val + 2)) := selW_lo a b _ (by omega) (by omega)
  have E1 : (evenW a b).getLsbD (8 * k.val + 1) = b.getLsbD (8 * k.val) := evenW_odd a b _ (by omega) (by omega)
  have O1 : (oddW a b).getLsbD (8 * k.val + 1) = b.getLsbD (8 * k.val + 1) := oddW_odd a b _ (by omega) (by omega)
  have S1 : (selW a b).getLsbD (8 * k.val + 1) = ((evenW a b).getLsbD (8 * k.val + 3) ^^ (oddW a b).getLsbD (8 * k.val + 3)) := selW_lo a b _ (by omega) (by omega)
  have E2 : (evenW a b).getLsbD (8 * k.val + 2) = a.getLsbD (8 * k.val + 2) := evenW_even a b _ (by omega) (by omega)
  have O2 : (oddW a b).getLsbD (8 * k.val + 2) = a.getLsbD (8 * k.val + 3) := oddW_even a b _ (by omega) (by omega)
  have S2 : (selW a b).getLsbD (8 * k.val + 2) = ((evenW a b).getLsbD (8 * k.val) ^^ (oddW a b).getLsbD (8 * k.val)) := selW_hi a b _ (by omega) (by omega)
  have E3 : (evenW a b).getLsbD (8 * k.val + 3) = b.getLsbD (8 * k.val + 2) := evenW_odd a b _ (by omega) (by omega)
  have O3 : (oddW a b).getLsbD (8 * k.val + 3) = b.getLsbD (8 * k.val + 3) := oddW_odd a b _ (by omega) (by omega)
  have S3 : (selW a b).getLsbD (8 * k.val + 3) = ((evenW a b).getLsbD (8 * k.val + 1) ^^ (oddW a b).getLsbD (8 * k.val + 1)) := selW_hi a b _ (by omega) (by omega)
  have E4 : (evenW a b).getLsbD (8 * k.val + 4) = a.getLsbD (8 * k.val + 4) := evenW_even a b _ (by omega) (by omega)
  have O4 : (oddW a b).getLsbD (8 * k.val + 4) = a.getLsbD (8 * k.val + 5) := oddW_even a b _ (by omega) (by omega)
  have S4 : (selW a b).getLsbD (8 * k.val + 4) = ((evenW a b).getLsbD (8 * k.val + 6) ^^ (oddW a b).getLsbD (8 * k.val + 6)) := selW_lo a b _ (by omega) (by omega)
  have E5 : (evenW a b).getLsbD (8 * k.val + 5) = b.getLsbD (8 * k.val + 4) := evenW_odd a b _ (by omega) (by omega)
  have O5 : (oddW a b).getLsbD (8 * k.val + 5) = b.getLsbD (8 * k.val + 5) := oddW_odd a b _ (by omega) (by omega)
  have S5 : (selW a b).getLsbD (8 * k.val + 5) = ((evenW a b).getLsbD (8 * k.val + 7) ^^ (oddW a b).getLsbD (8 * k.val + 7)) := selW_lo a b _ (by omega) (by omega)
  have E6 : (evenW a b).getLsbD (8 * k.val + 6) = a.getLsbD (8 * k.val + 6) := evenW_even a b _ (by omega) (by omega)
  have O6 : (oddW a b).getLsbD (8 * k.val + 6) = a.getLsbD (8 * k.val + 7) := oddW_even a b _ (by omega) (by omega)
  have S6 : (selW a b).getLsbD (8 * k.val + 6) = ((evenW a b).getLsbD (8 * k.val + 4) ^^ (oddW a b).getLsbD (8 * k.val + 4)) := selW_hi a b _ (by omega) (by omega)
  have E7 : (evenW a b).getLsbD (8 * k.val + 7) = b.getLsbD (8 * k.val + 6) := evenW_odd a b _ (by omega) (by omega)
  have O7 : (oddW a b).getLsbD (8 * k.val + 7) = b.getLsbD (8 * k.val + 7) := oddW_odd a b _ (by omega) (by omega)
  have S7 : (selW a b).getLsbD (8 * k.val + 7) = ((evenW a b).getLsbD (8 * k.val + 5) ^^ (oddW a b).getLsbD (8 * k.val + 5)) := selW_hi a b _ (by omega) (by omega)
  have h3 : ∀ x y z : Bool, (x ^^ (y ^^ z)) = (y != (z != x)) := by decide
  match s with
  | 0 => simp [cubBit, b0, b1, b2, b3, E0, E1, E2, E3, O0, O1, O2, O3, S0, S1, S2, S3] <;> exact congrArg₂ (fun u v => up u + 2 * up v) (h3 _ _ _) (h3 _ _ _)
  | 1 => simp [cubBit, b0, b1, b2, b3, E0, E1, E2, E3, O0, O1, O2, O3, S0, S1, S2, S3] <;> exact congrArg₂ (fun u v => up u + 2 * up v) (h3 _ _ _) (h3 _ _ _)
  | 2 => simp [cubBit, b4, b5, b6, b7, E4, E5, E6, E7, O4, O5, O6, O7, S4, S5, S6, S7] <;> exact congrArg₂ (fun u v => up u + 2 * up v) (h3 _ _ _) (h3 _ _ _)
  | 3 => simp [cubBit, b4, b5, b6, b7, E4, E5, E6, E7, O4, O5, O6, O7, S4, S5, S6, S7] <;> exact congrArg₂ (fun u v => up u + 2 * up v) (h3 _ _ _) (h3 _ _ _)
  | 4 => simp [cubBit, b0, b1, b2, b3, E0, E1, E2, E3, O0, O1, O2, O3, S0, S1, S2, S3] <;> exact congrArg₂ (fun u v => up u + 2 * up v) (h3 _ _ _) (h3 _ _ _)
  | 5 => simp [cubBit, b0, b1, b2, b3, E0, E1, E2, E3, O0, O1, O2, O3, S0, S1, S2, S3] <;> exact congrArg₂ (fun u v => up u + 2 * up v) (h3 _ _ _) (h3 _ _ _)
  | 6 => simp [cubBit, b4, b5, b6, b7, E4, E5, E6, E7, O4, O5, O6, O7, S4, S5, S6, S7] <;> exact congrArg₂ (fun u v => up u + 2 * up v) (h3 _ _ _) (h3 _ _ _)
  | 7 => simp [cubBit, b4, b5, b6, b7, E4, E5, E6, E7, O4, O5, O6, O7, S4, S5, S6, S7] <;> exact congrArg₂ (fun u v => up u + 2 * up v) (h3 _ _ _) (h3 _ _ _)

/-! ## The right operands -/

theorem wEven_at (w0 w1 : IVec S8x256 32) (i : S8x256.Idx) : wEven w0 w1 i = evenW (w0 i) (w1 i) := rfl
theorem wOdd_at (w0 w1 : IVec S8x256 32) (i : S8x256.Idx) : wOdd w0 w1 i = oddW (w0 i) (w1 i) := rfl
theorem wSel_at (w0 w1 : IVec S8x256 32) (i : S8x256.Idx) : wSel w0 w1 i = selW (w0 i) (w1 i) := rfl

def fieldW (x : BitVec 32) : Fin 4 → BitVec 32
  | 0 => x &&& 0x03030303#32
  | 1 => x &&& 0x0C0C0C0C#32
  | 2 => (x >>> 4) &&& 0x03030303#32
  | 3 => (x >>> 4) &&& 0x0C0C0C0C#32

theorem field_at (x : IVec S8x256 32) (s : Fin 4) (i : S8x256.Idx) : field x s i = fieldW (x i) s := by
  match s with
  | 0 => rfl
  | 1 => rfl
  | 2 => rfl
  | 3 => rfl

theorem m03 : ∀ (b : Fin 4) (i : Fin 8), (0x03030303#32).getLsbD (8 * b.val + i.val) = (3#8).getLsbD i.val := by decide
theorem m0C : ∀ (b : Fin 4) (i : Fin 8), (0x0C0C0C0C#32).getLsbD (8 * b.val + i.val) = (12#8).getLsbD i.val := by decide
theorem hi3 : ∀ i : Fin 8, 4 ≤ i.val → (3#8).getLsbD i.val = false := by decide
theorem hi12 : ∀ i : Fin 8, 4 ≤ i.val → (12#8).getLsbD i.val = false := by decide

theorem fieldW_byte (x : BitVec 32) (s : Fin 4) (b : Fin 4) : byteOf (fieldW x s) b = fieldB (byteOf x b) s := by
  apply BitVec.eq_of_getLsbD_eq
  intro i hi
  rw [byteOf_bit _ _ _ hi]
  match s with
  | 0 =>
    show (x &&& 0x03030303#32).getLsbD _ = (byteOf x b &&& 3#8).getLsbD i
    rw [BitVec.getLsbD_and, BitVec.getLsbD_and, byteOf_bit _ _ _ hi, m03 b ⟨i, hi⟩]
  | 1 =>
    show (x &&& 0x0C0C0C0C#32).getLsbD _ = (byteOf x b &&& 12#8).getLsbD i
    rw [BitVec.getLsbD_and, BitVec.getLsbD_and, byteOf_bit _ _ _ hi, m0C b ⟨i, hi⟩]
  | 2 =>
    show ((x >>> 4) &&& 0x03030303#32).getLsbD _ = ((byteOf x b >>> 4) &&& 3#8).getLsbD i
    rw [BitVec.getLsbD_and, BitVec.getLsbD_and, m03 b ⟨i, hi⟩]
    by_cases h : 4 ≤ i
    · rw [hi3 ⟨i, hi⟩ h, Bool.and_false, Bool.and_false]
    · rw [BitVec.getLsbD_ushiftRight, BitVec.getLsbD_ushiftRight, byteOf_bit _ _ _ (by omega), Nat.add_left_comm]
  | 3 =>
    show ((x >>> 4) &&& 0x0C0C0C0C#32).getLsbD _ = ((byteOf x b >>> 4) &&& 12#8).getLsbD i
    rw [BitVec.getLsbD_and, BitVec.getLsbD_and, m0C b ⟨i, hi⟩]
    by_cases h : 4 ≤ i
    · rw [hi12 ⟨i, hi⟩ h, Bool.and_false, Bool.and_false]
    · rw [BitVec.getLsbD_ushiftRight, BitVec.getLsbD_ushiftRight, byteOf_bit _ _ _ (by omega), Nat.add_left_comm]

/-- A field of the words, read as floats, at an index. -/
theorem f8_at (x : IVec S8x256 32) (s : Fin 4) (w : Fin 8) (b : Fin 4) (r : Fin 32) (hr : r.val = 4 * w.val + b.val) (n : Fin 256) :
    f8 (F := Ideal) (field x s) (ix2 r n) = Ideal.e4m3fn (fieldB (byteOf (x (ix2 w n)) b) s) := by
  show Ideal.e4m3fn (bitcast S32x256 8 (field x s) bitcasts_S8x256_w32_S32x256_w8 (ix2 r n)) = _
  rw [show bitcast S32x256 8 (field x s) bitcasts_S8x256_w32_S32x256_w8 (ix2 r n) = byteOf (field x s (ix2 w n)) b from
    bytes_at (field x s) bitcasts_S8x256_w32_S32x256_w8 w b r hr n, field_at, fieldW_byte]

/-- The source of piece `s` of the features. -/
def pieceOf {F : FTy → Type} [FloatOps F] (x y : IVec S8x256 32) (s : Fin 8) : FVec F S32x256 .fp8e4m3 :=
  f8 (field (if 4 ≤ s.val then y else x) ⟨s.val % 4, by omega⟩)

/-- The features at an index: slot by slot, 32 rows each. -/
theorem feat_at {F : FTy → Type} [FloatOps F] (x y : IVec S8x256 32) (s : Fin 8) (k : Fin 256) (r : Fin 32) (hk : k.val = 32 * s.val + r.val) (n : Fin 256) :
    feat (F := F) x y (ix2 k n) = pieceOf x y s (ix2 r n) := by
  have hf : feat (F := F) x y = concatenate S256x256 0 (List.ofFn fun s => (⟨S32x256, pieceOf x y s⟩ : (s : Shape) × (s.Idx → F .fp8e4m3)))
    concatenates_S32x256_S32x256_S32x256_S32x256_S32x256_S32x256_S32x256_S32x256_S256x256_d0 := rfl
  rw [hf]
  refine concatenate_ofFn_apply (t := S256x256) (s₁ := S32x256) 0 (pieceOf x y) _ rfl 32 rfl (ix2 k n) s ?_ (ix2 r n) ?_ fun b hb => ?_
  · show k.val / 32 = s.val
    omega
  · show r.val = k.val % 32
    omega
  · match b with
    | ⟨0, _⟩ => exact absurd rfl hb
    | ⟨1, _⟩ => rfl

/-- The right operand of term `d`, times the factor of its column. -/
theorem rhs_at (w0 w1 : IVec S8x256 32) (d : Fin 3) (s : Fin 8) (w : Fin 8) (b : Fin 4) (k : Fin 256) (hk : k.val = 32 * s.val + 4 * w.val + b.val) (n : Fin 256) :
    rhs (F := Ideal) w0 w1 d (ix2 k n)
      = (((if d.val < 2 then lin2 (byteOf (w0 (ix2 w n)) b) (byteOf (w1 (ix2 w n)) b) (linBit s)
          else cub2 (byteOf (w0 (ix2 w n)) b) (byteOf (w1 (ix2 w n)) b) (cubBit s) : ℕ) : ℝ) / (4 * unitS s.val) : ℝ) := by
  have hr : (⟨4 * w.val + b.val, by omega⟩ : Fin 32).val = 4 * w.val + b.val := rfl
  have hu : unitS (s.val % 4) = unitS s.val := by unfold unitS; rw [show s.val % 4 % 2 = s.val % 2 from by omega]
  have hl : ∀ w0 w1 : IVec S8x256 32, feat (F := Ideal) (wEven w0 w1) (wOdd w0 w1) (ix2 k n)
      = ((lin2 (byteOf (w0 (ix2 w n)) b) (byteOf (w1 (ix2 w n)) b) (linBit s) : ℝ) / (4 * unitS s.val) : ℝ) := fun w0 w1 => by
    rw [feat_at _ _ s k ⟨4 * w.val + b.val, by omega⟩ (by dsimp only; omega)]
    unfold pieceOf
    rw [f8_at _ _ w b _ hr, fieldB_val, ← lin_bits, hu]
    unfold srcW
    by_cases h : 4 ≤ s.val
    · rw [if_pos h, if_pos (decide_eq_true h)]; rfl
    · rw [if_neg h, if_neg (by simpa using h)]; rfl
  have hc : feat (F := Ideal) (xori (wEven w0 w1) (wSel w0 w1)) (xori (wOdd w0 w1) (wSel w0 w1)) (ix2 k n)
      = ((cub2 (byteOf (w0 (ix2 w n)) b) (byteOf (w1 (ix2 w n)) b) (cubBit s) : ℝ) / (4 * unitS s.val) : ℝ) := by
    rw [feat_at _ _ s k ⟨4 * w.val + b.val, by omega⟩ (by dsimp only; omega)]
    unfold pieceOf
    rw [f8_at _ _ w b _ hr, fieldB_val, ← cub_bits, hu]
    unfold srcW
    by_cases h : 4 ≤ s.val
    · rw [if_pos h, if_pos (decide_eq_true h)]; rfl
    · rw [if_neg h, if_neg (by simpa using h)]; rfl
  match d with
  | 0 => exact hl w0 w1
  | 1 => exact hl w0 w1
  | 2 => exact hc

end Cert.KernelIdeal.Model

end
-- ==== Proof.KernelIdeal.Trip.lean ====
module

public import proofs.«01_k».proof.Proof.KernelIdeal.Lhs
public import proofs.«01_k».proof.Proof.KernelIdeal.Bits

/-! The products of one group, over the extended reals: the sum of its lookups, and three times its zero point. -/

@[expose] public section

set_option maxRecDepth 16384

noncomputable section

namespace Cert.KernelIdeal.Model

open Cert.KernelIdeal Cert.KernelIdeal.Gen
open Idealize.ShloMosaic Idealize.ShloMosaic.TcCoe
open Cert.Spec (up linZ cubZ szp look lookB byteT accZ)

/-! ## The words' bytes -/

/-- The bytes of the words that a trip transposes. -/
theorem word_byte (W : Fin 2 → Vec Ideal S1x1024x128 .i8) (p : Fin 2) (q : Fin 16) (w : Fin 8) (n : Fin 256) (b : Fin 4) :
    byteOf (word W p q (ix2 w n)) b = W p (ix3 0 ⟨4 * n.val + b.val, by omega⟩ ⟨8 * q.val + w.val, by omega⟩) := by
  apply BitVec.eq_of_getLsbD_eq
  intro i hi
  rw [byteOf_bit _ _ _ hi]
  have e : word W p q (ix2 w n) = bitcast S256x128 32 (shapeCast S1024x128 (W p) shapeCasts_S1x1024x128_S1024x128) bitcasts_S1024x128_w8_S256x128_w32
      (ix2 n ⟨8 * q.val + w.val, by omega⟩) := by
    unfold word words
    generalize bitcast S256x128 32 (shapeCast S1024x128 (W p) shapeCasts_S1x1024x128_S1024x128) bitcasts_S1024x128_w8_S256x128_w32 = B
    refine congrArg B (funext fun a => Fin.ext ?_)
    match a with
    | 0 => show 0 + n.val = n.val; omega
    | 1 => rfl
  rw [e]
  refine (bitcast_8_32_getLsbD_ix2 _ bitcasts_S1024x128_w8_S256x128_w32 n ⟨8 * q.val + w.val, by omega⟩ (8 * b.val + i) (by omega) ⟨4 * n.val + b.val, by omega⟩
    (by dsimp only; omega)).trans ?_
  rw [show (8 * b.val + i) % 8 = i from by omega]
  exact congrArg (fun v : BitVec 8 => v.getLsbD i) (down3 (W p) shapeCasts_S1x1024x128_S1024x128 ⟨4 * n.val + b.val, by omega⟩ ⟨8 * q.val + w.val, by omega⟩)

/-! ## Sums over the 256 columns -/

theorem col_lt (s w : Fin 8) (b : Fin 4) : 32 * s.val + 4 * w.val + b.val < 256 := by omega

/-- A sum over the 256 columns, by slot, word and byte. -/
theorem sum256 (f : Fin 256 → EReal) : ∑ c, f c = ∑ s : Fin 8, ∑ w : Fin 8, ∑ b : Fin 4, f ⟨32 * s.val + 4 * w.val + b.val, col_lt s w b⟩ := by
  rw [Fin.sum_univ_tiles 8 32 rfl f]
  refine Finset.sum_congr rfl fun s _ => ?_
  rw [Fin.sum_univ_tiles 8 4 rfl (fun t : Fin 32 => f ⟨s.val * 32 + t.val, by omega⟩)]
  refine Finset.sum_congr rfl fun w _ => Finset.sum_congr rfl fun b _ => congrArg f (Fin.ext ?_)
  dsimp only; omega

/-- A sum of reals, in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## One product -/

/-- Row `row` of the left operands is group `g`'s coefficients at the columns of byte `b`. -/
def IsL (x : FVec Ideal (Ln 72) .f32) (g : Fin 72) (row : Fin 16) (b : Fin 4) (L : Fin 2 → Fin 3 → Vec Ideal S1x16x256 .bf16) : Prop :=
  ∀ (m : Fin 2) (d : Fin 3) (c : Fin 256), L m d (ix3 0 row c)
    = if c.val % 4 = b.val then coef x d (ix2 g ⟨srcLane (bitsOf d) ⟨256 * m.val + c.val, by omega⟩, srcLane_lt d _⟩) * ((unitR ⟨256 * m.val + c.val, by omega⟩ : ℝ) : EReal)
      else 0

theorem bits_lt : ∀ (d : Fin 3) (s : Fin 8), bitsOf d s < 8 := by decide

def ln (d : Fin 3) (m : Fin 2) (s w : Fin 8) : Fin 128 := ⟨64 * m.val + 8 * w.val + bitsOf d s, by have := bits_lt d s; omega⟩

/-- What term `d` counts at slot `s` of two bytes. -/
def cnt (d : Fin 3) (p q : BitVec 8) (s : Fin 8) : ℕ := if d.val < 2 then lin2 p q (linBit s) else cub2 p q (cubBit s)

section Group
variable (x : FVec Ideal (Ln 72) .f32) (g : Fin 72) (row : Fin 16) (b : Fin 4)
  (W : Fin 2 → Vec Ideal S1x1024x128 .i8) (L : Fin 8 → Fin 2 → Fin 3 → Vec Ideal S1x16x256 .bf16) (k : Fin 8) (hL : IsL x g row b (L k)) (n : Fin 256)

/-- The byte of plane `p` that half `m`, row `w` of the words holds. -/
def byt (p : Fin 2) (m : Fin 2) (w : Fin 8) : BitVec 8 := W p (ix3 0 ⟨4 * n.val + b.val, by omega⟩ ⟨8 * (2 * k.val + m.val) + w.val, by omega⟩)

include hL

/-- One product at an index. -/
theorem prod_at (m : Fin 2) (d : Fin 3) (a : Fin 128 → ℝ) (ha : ∀ l, coef x d (ix2 g l) = ((a l : ℝ) : EReal)) :
    prod1 W L k m d (ix2 row n)
      = ((∑ s : Fin 8, ∑ w : Fin 8, a (ln d m s w) * (cnt d (byt b W k n 0 m w) (byt b W k n 1 m w) s : ℝ) / 4 : ℝ) : EReal) := by
  have h : prod1 W L k m d (ix2 row n) = ∑ c : Fin 256, L k m d (ix3 0 row c)
      * rhs (F := Ideal) (word W 0 ⟨2 * k.val + m.val, by omega⟩) (word W 1 ⟨2 * k.val + m.val, by omega⟩) d (ix2 c n) := by
    unfold prod1
    generalize rhs (F := Ideal) (word W 0 ⟨2 * k.val + m.val, by omega⟩) (word W 1 ⟨2 * k.val + m.val, by omega⟩) d = B
    have e : ∀ c, L k m d (ix3 0 row c) = shapeCast S16x256 (L k m d) shapeCasts_S1x16x256_S16x256 (ix2 row c) := fun c =>
      (down3 (L k m d) shapeCasts_S1x16x256_S16x256 row c).symm
    simp only [e]
    generalize shapeCast S16x256 (L k m d) shapeCasts_S1x16x256_S16x256 = A
    pointwise
  rw [h, sum256, ← coe_sum]
  refine Finset.sum_congr rfl fun s _ => ?_
  rw [← coe_sum]
  refine Finset.sum_congr rfl fun w _ => ?_
  rw [Finset.sum_eq_single b]
  · rw [hL m d, rhs_at _ _ d s w b ⟨32 * s.val + 4 * w.val + b.val, col_lt s w b⟩ rfl n, word_byte, word_byte, if_pos (by dsimp only; omega), ha]
    have hs : (⟨srcLane (bitsOf d) ⟨256 * m.val + (32 * s.val + 4 * w.val + b.val), by omega⟩, srcLane_lt d _⟩ : Fin 128) = ln d m s w := by
      apply Fin.ext
      unfold ln srcLane
      dsimp only
      have e : (⟨(256 * m.val + (32 * s.val + 4 * w.val + b.val)) / 32 % 8, by omega⟩ : Fin 8) = s := Fin.ext (by dsimp only; omega)
      rw [e]
      omega
    have hu : unitR ⟨256 * m.val + (32 * s.val + 4 * w.val + b.val), by omega⟩ = unitS s.val := by
      unfold unitR unitS
      rw [show (256 * m.val + (32 * s.val + 4 * w.val + b.val)) / 32 % 2 = s.val % 2 from by omega]
    rw [hs, hu, ← EReal.coe_mul, ← EReal.coe_mul]
    refine congrArg _ ?_
    have h0 : unitS s.val ≠ 0 := by unfold unitS; split <;> norm_num
    show a (ln d m s w) * unitS s.val * ((cnt d (byt b W k n 0 m w) (byt b W k n 1 m w) s : ℕ) / (4 * unitS s.val)) = _
    field_simp
  · intro b' _ hb
    rw [hL m d, if_neg, zero_mul]
    intro e
    exact hb (Fin.ext (by dsimp only at e; omega))
  · intro h; exact absurd (Finset.mem_univ _) h

end Group

end Cert.KernelIdeal.Model

end
-- ==== Proof.KernelIdeal.Group.lean ====
module

public import proofs.«01_k».proof.Proof.KernelIdeal.Trip

/-! One group's six products are the sum of its lookups and three times its zero point. -/

@[expose] public section

set_option maxRecDepth 16384

noncomputable section

namespace Cert.KernelIdeal.Model

open Cert.KernelIdeal Cert.KernelIdeal.Gen
open Idealize.ShloMosaic Idealize.ShloMosaic.TcCoe
open Cert.Spec (up linZ cubZ szp look lookB byteT accZ codeZ)

/-- The codes of the half byte that bit `i` of a byte lies in. -/
def half (cl ch : Fin 8 → ℤ) (i : ℕ) : Fin 8 → ℤ := if i < 4 then cl else ch

/-- The sixteen linear and cubic products of a byte of each plane make four times their lookups, less twelve times the two codes of entry zero. -/
theorem bytes_id (cl ch : Fin 8 → ℤ) (p q : BitVec 8) :
    ∑ s : Fin 8, (linZ (half cl ch (linBit s)) ⟨linBit s % 4, by omega⟩ * (lin2 p q (linBit s) : ℤ)
      + cubZ (half cl ch (cubBit s)) ⟨cubBit s % 4, by omega⟩ * (cub2 p q (cubBit s) : ℤ))
      = 4 * (lookB cl ch p + 2 * lookB cl ch q) - 12 * (cl 0 + ch 0) := by
  have h1 := Spec.nibble cl (p.getLsbD 0) (p.getLsbD 1) (p.getLsbD 2) (p.getLsbD 3)
  have h2 := Spec.nibble cl (q.getLsbD 0) (q.getLsbD 1) (q.getLsbD 2) (q.getLsbD 3)
  have h3 := Spec.nibble ch (p.getLsbD 4) (p.getLsbD 5) (p.getLsbD 6) (p.getLsbD 7)
  have h4 := Spec.nibble ch (q.getLsbD 4) (q.getLsbD 5) (q.getLsbD 6) (q.getLsbD 7)
  rw [Fin.sum_univ_eight]
  show (linZ cl 0 * (lin2 p q 0 : ℤ) + cubZ cl 1 * (cub2 p q 1 : ℤ)) + (linZ cl 2 * (lin2 p q 2 : ℤ) + cubZ cl 3 * (cub2 p q 3 : ℤ))
    + (linZ ch 0 * (lin2 p q 4 : ℤ) + cubZ ch 1 * (cub2 p q 5 : ℤ)) + (linZ ch 2 * (lin2 p q 6 : ℤ) + cubZ ch 3 * (cub2 p q 7 : ℤ))
    + (linZ cl 1 * (lin2 p q 1 : ℤ) + cubZ cl 0 * (cub2 p q 0 : ℤ)) + (linZ cl 3 * (lin2 p q 3 : ℤ) + cubZ cl 2 * (cub2 p q 2 : ℤ))
    + (linZ ch 1 * (lin2 p q 5 : ℤ) + cubZ ch 0 * (cub2 p q 4 : ℤ)) + (linZ ch 3 * (lin2 p q 7 : ℤ) + cubZ ch 2 * (cub2 p q 6 : ℤ)) = _
  have hl : ∀ i, (lin2 p q i : ℤ) = up (p.getLsbD i) + 2 * up (q.getLsbD i) := fun i => by unfold lin2; push_cast; rfl
  have hc : ∀ i, (cub2 p q i : ℤ) = up (oth p i) + 2 * up (oth q i) := fun i => by unfold cub2; push_cast; rfl
  have o0 : ∀ p, oth p 0 = ((p.getLsbD 1 ^^ p.getLsbD 2) ^^ p.getLsbD 3) := fun _ => rfl
  have o1 : ∀ p, oth p 1 = ((p.getLsbD 2 ^^ p.getLsbD 3) ^^ p.getLsbD 0) := fun _ => rfl
  have o2 : ∀ p, oth p 2 = ((p.getLsbD 3 ^^ p.getLsbD 0) ^^ p.getLsbD 1) := fun _ => rfl
  have o3 : ∀ p, oth p 3 = ((p.getLsbD 0 ^^ p.getLsbD 1) ^^ p.getLsbD 2) := fun _ => rfl
  have o4 : ∀ p, oth p 4 = ((p.getLsbD 5 ^^ p.getLsbD 6) ^^ p.getLsbD 7) := fun _ => rfl
  have o5 : ∀ p, oth p 5 = ((p.getLsbD 6 ^^ p.getLsbD 7) ^^ p.getLsbD 4) := fun _ => rfl
  have o6 : ∀ p, oth p 6 = ((p.getLsbD 7 ^^ p.getLsbD 4) ^^ p.getLsbD 5) := fun _ => rfl
  have o7 : ∀ p, oth p 7 = ((p.getLsbD 4 ^^ p.getLsbD 5) ^^ p.getLsbD 6) := fun _ => rfl
  rw [hl, hl, hl, hl, hl, hl, hl, hl, hc, hc, hc, hc, hc, hc, hc, hc, o0, o1, o2, o3, o4, o5, o6, o7, o0, o1, o2, o3, o4, o5, o6, o7]
  unfold lookB
  linear_combination h1 + 2 * h2 + h3 + 2 * h4

section Group
variable (X : Fin 3 → Fin 9216 → EReal) (t : Fin 3) (x : FVec Ideal (Ln 72) .f32) (hx : IsRows X t x) (g : Fin 72) (row : Fin 16) (b : Fin 4)
  (W : Fin 2 → Vec Ideal S1x1024x128 .i8) (L : Fin 8 → Fin 2 → Fin 3 → Vec Ideal S1x16x256 .bf16) (k : Fin 8) (hL : IsL x g row b (L k)) (n : Fin 256)

def jj (m : Fin 2) (w : Fin 8) : Fin 1152 := ⟨16 * g.val + (8 * m.val + w.val), by omega⟩

/-- The codes that a column's coefficient comes from are those of the lower or the upper half byte's row. -/
theorem half_at (d : Fin 3) (m : Fin 2) (s w : Fin 8) :
    codeZ X t (qu g (ln d m s w)) = half (codeZ X t ⟨2 * (jj g m w).val, by omega⟩) (codeZ X t ⟨2 * (jj g m w).val + 1, by omega⟩) (bitsOf d s) := by
  have hb := bits_lt d s
  unfold half
  split
  · refine congrArg _ (Fin.ext ?_)
    unfold qu ln jj
    dsimp only
    omega
  · refine congrArg _ (Fin.ext ?_)
    unfold qu ln jj
    dsimp only
    omega

theorem ln_mod (d : Fin 3) (m : Fin 2) (s w : Fin 8) : (ln d m s w).val % 4 = bitsOf d s % 4 := by
  unfold ln
  dsimp only
  omega

/-- The contribution of half `m`, for any split of the linear coefficients. -/
theorem half_sum (m : Fin 2) (P Q : Fin 8 → BitVec 8) (A B C : Fin 128 → ℝ)
    (hC : ∀ l : Fin 128, C l = (cubZ (codeZ X t (qu g l)) ⟨l.val % 4, by omega⟩ : ℝ))
    (hAB : ∀ l : Fin 128, A l + B l = (linZ (codeZ X t (qu g l)) ⟨l.val % 4, by omega⟩ : ℝ)) :
    (∑ s : Fin 8, ∑ w : Fin 8, A (ln 0 m s w) * (cnt 0 (P w) (Q w) s : ℝ) / 4) + (∑ s : Fin 8, ∑ w : Fin 8, B (ln 1 m s w) * (cnt 1 (P w) (Q w) s : ℝ) / 4)
      + (∑ s : Fin 8, ∑ w : Fin 8, C (ln 2 m s w) * (cnt 2 (P w) (Q w) s : ℝ) / 4)
      = ((∑ w : Fin 8, (byteT X t (jj g m w) (P w) + 2 * byteT X t (jj g m w) (Q w)
          - 3 * (codeZ X t ⟨2 * (jj g m w).val, by omega⟩ 0 + codeZ X t ⟨2 * (jj g m w).val + 1, by omega⟩ 0)) : ℤ) : ℝ) := by
  rw [Finset.sum_comm, Finset.sum_comm (f := fun s w => B (ln 1 m s w) * (cnt 1 (P w) (Q w) s : ℝ) / 4),
    Finset.sum_comm (f := fun s w => C (ln 2 m s w) * (cnt 2 (P w) (Q w) s : ℝ) / 4), ← Finset.sum_add_distrib, ← Finset.sum_add_distrib, Int.cast_sum]
  refine Finset.sum_congr rfl fun w _ => ?_
  rw [← Finset.sum_add_distrib, ← Finset.sum_add_distrib]
  have h := bytes_id (codeZ X t ⟨2 * (jj g m w).val, by omega⟩) (codeZ X t ⟨2 * (jj g m w).val + 1, by omega⟩) (P w) (Q w)
  have h4 : (∑ s : Fin 8, (A (ln 0 m s w) * (cnt 0 (P w) (Q w) s : ℝ) / 4 + B (ln 1 m s w) * (cnt 1 (P w) (Q w) s : ℝ) / 4 + C (ln 2 m s w) * (cnt 2 (P w) (Q w) s : ℝ) / 4))
      = (((∑ s : Fin 8, (linZ (half (codeZ X t ⟨2 * (jj g m w).val, by omega⟩) (codeZ X t ⟨2 * (jj g m w).val + 1, by omega⟩) (linBit s)) ⟨linBit s % 4, by omega⟩ * (lin2 (P w) (Q w) (linBit s) : ℤ)
      + cubZ (half (codeZ X t ⟨2 * (jj g m w).val, by omega⟩) (codeZ X t ⟨2 * (jj g m w).val + 1, by omega⟩) (cubBit s)) ⟨cubBit s % 4, by omega⟩ * (cub2 (P w) (Q w) (cubBit s) : ℤ)) : ℤ) : ℝ)) / 4 := by
    rw [Int.cast_sum, Finset.sum_div]
    refine Finset.sum_congr rfl fun s _ => ?_
    have e0 : (⟨(ln 0 m s w).val % 4, by omega⟩ : Fin 4) = ⟨linBit s % 4, by omega⟩ := Fin.ext (ln_mod 0 m s w)
    have e2 : (⟨(ln 2 m s w).val % 4, by omega⟩ : Fin 4) = ⟨cubBit s % 4, by omega⟩ := Fin.ext (ln_mod 2 m s w)
    have ab : A (ln 0 m s w) + B (ln 0 m s w) = ((linZ (half (codeZ X t ⟨2 * (jj g m w).val, by omega⟩) (codeZ X t ⟨2 * (jj g m w).val + 1, by omega⟩)
        (linBit s)) ⟨linBit s % 4, by omega⟩ : ℤ) : ℝ) := (hAB (ln 0 m s w)).trans (by rw [e0, half_at X t g 0 m s w]; rfl)
    have cc : C (ln 2 m s w) = ((cubZ (half (codeZ X t ⟨2 * (jj g m w).val, by omega⟩) (codeZ X t ⟨2 * (jj g m w).val + 1, by omega⟩)
        (cubBit s)) ⟨cubBit s % 4, by omega⟩ : ℤ) : ℝ) := (hC (ln 2 m s w)).trans (by rw [e2, half_at X t g 2 m s w]; rfl)
    show A (ln 0 m s w) * (lin2 (P w) (Q w) (linBit s) : ℝ) / 4 + B (ln 0 m s w) * (lin2 (P w) (Q w) (linBit s) : ℝ) / 4
      + C (ln 2 m s w) * (cub2 (P w) (Q w) (cubBit s) : ℝ) / 4 = _
    rw [Int.cast_add, Int.cast_mul, Int.cast_mul, Int.cast_natCast, Int.cast_natCast, ← ab, ← cc]
    ring
  rw [h4, h]
  unfold byteT
  push_cast
  ring

include hx hL

/-- A group's six products make its sum of lookups and three times its zero point. -/
theorem acc_at : acc6 W L k (ix2 row n)
    = (((accZ X t g (fun p i => W p (ix3 0 ⟨4 * n.val + b.val, by omega⟩ ⟨16 * k.val + i.val, by omega⟩)) + 3 * szp X t g : ℤ) : ℝ) : EReal) := by
  choose A B hA hB hC hAB using fun l => coef_at X t x hx g l
  show Ideal.ofBits .f32 0x00000000#32 + prod1 W L k 0 0 (ix2 row n) + prod1 W L k 0 1 (ix2 row n) + prod1 W L k 0 2 (ix2 row n)
    + prod1 W L k 1 0 (ix2 row n) + prod1 W L k 1 1 (ix2 row n) + prod1 W L k 1 2 (ix2 row n) = _
  rw [prod_at x g row b W L k hL n 0 0 A hA, prod_at x g row b W L k hL n 0 1 B hB, prod_at x g row b W L k hL n 0 2 _ hC,
    prod_at x g row b W L k hL n 1 0 A hA, prod_at x g row b W L k hL n 1 1 B hB, prod_at x g row b W L k hL n 1 2 _ hC,
    Ideal.ofBits_zero_f32, zero_add, ← EReal.coe_add, ← EReal.coe_add, ← EReal.coe_add, ← EReal.coe_add, ← EReal.coe_add]
  refine congrArg _ ?_
  have h0 := half_sum X t g 0 (byt b W k n 0 0) (byt b W k n 1 0) A B _ (fun _ => rfl) hAB
  have h1 := half_sum X t g 1 (byt b W k n 0 1) (byt b W k n 1 1) A B _ (fun _ => rfl) hAB
  rw [show ∀ a b c d e f : ℝ, a + b + c + d + e + f = (a + b + c) + (d + e + f) from fun _ _ _ _ _ _ => by ring, h0, h1, ← Int.cast_add]
  refine congrArg _ ?_
  have hz : szp X t g = -∑ m : Fin 2, ∑ w : Fin 8, (codeZ X t ⟨2 * (jj g m w).val, by omega⟩ 0 + codeZ X t ⟨2 * (jj g m w).val + 1, by omega⟩ 0) := by
    unfold szp
    refine congrArg _ ?_
    rw [Fin.sum_univ_tiles 2 16 rfl]
    refine Finset.sum_congr rfl fun m _ => ?_
    rw [Fin.sum_univ_tiles 8 2 rfl]
    refine Finset.sum_congr rfl fun w _ => ?_
    rw [Fin.sum_univ_two]
    congr 2 <;> (refine Fin.ext ?_; unfold jj; dsimp only; simp; omega)
  have hT : ∀ p : Fin 2, ∑ i : Fin 16, byteT X t ⟨16 * g.val + i.val, by omega⟩ (W p (ix3 0 ⟨4 * n.val + b.val, by omega⟩ ⟨16 * k.val + i.val, by omega⟩))
      = ∑ m : Fin 2, ∑ w : Fin 8, byteT X t (jj g m w) (byt b W k n p m w) := fun p => by
    rw [Fin.sum_univ_tiles 2 8 rfl]
    refine Finset.sum_congr rfl fun m _ => Finset.sum_congr rfl fun w _ => ?_
    have e1 : (⟨16 * g.val + (m.val * 8 + w.val), by omega⟩ : Fin 1152) = jj g m w := Fin.ext (by unfold jj; dsimp only; omega)
    have e2 : (⟨16 * k.val + (m.val * 8 + w.val), by omega⟩ : Fin 128) = ⟨8 * (2 * k.val + m.val) + w.val, by omega⟩ := Fin.ext (by dsimp only; omega)
    show byteT X t ⟨16 * g.val + (m.val * 8 + w.val), _⟩ (W p (ix3 0 _ ⟨16 * k.val + (m.val * 8 + w.val), _⟩)) = _
    rw [e1, e2]
    rfl
  unfold accZ
  rw [hT, hT, hz]
  simp only [Fin.sum_univ_two, Finset.sum_add_distrib, Finset.sum_sub_distrib, ← Finset.mul_sum]
  ring

end Group

end Cert.KernelIdeal.Model

end
-- ==== Proof.KernelIdeal.ModelA.lean ====
module

public import proofs.«01_k».proof.Proof.KernelIdeal.Model
public import proofs.«01_k».proof.Proof.KernelIdeal.RunA

@[expose] public section

set_option maxRecDepth 16384

noncomputable section

namespace Cert.KernelIdeal.Model

open Cert.KernelIdeal Cert.KernelIdeal.Gen Cert.KernelIdeal.Run
open Idealize.ShloMosaic Idealize.ShloMosaic.TcCoe Idealize.ShloMosaic.Tactic

variable {F : FTy → Type} [FloatOps F]

theorem inbX (k : Fin 72) : ∀ a, (![0, 128 * k.val] : Fin 2 → Nat) a + S3x128.size a ≤ S3x9216.size a := by
  have := k.isLt
  intro a
  match a with
  | 0 => show 0 + 3 ≤ 3; omega
  | 1 => show 128 * k.val + 128 ≤ 9216; omega

/-- The body's reads of its first operand. -/
def ldX (arg1 : Memref sig .tc .vmem S3x9216 .bf16) (harg1 : arg1.IsWhole) (x0 : Vec F S3x9216 .bf16) (k : Fin 72) : Vec F S3x128 .bf16 :=
  View.readAt (Elt F) arg1.view (Rect.unit (s := S3x9216) ![0, 128 * k.val] S3x128.size (inbX k)).toLoadRect (harg1.unread x0)

variable (c : Dev nD) (arg1 : Memref sig .tc .vmem S3x9216 .bf16) (harg1 : arg1.IsWhole) (x0 : Vec F S3x9216 .bf16)

/-- The stores to the scales. -/
theorem scale_run : kernelRun0_A.sl.H6_1 c arg1 harg1 x0 = scalePieces (ldX arg1 harg1 x0) := by
  sl_kernel_rfl

/-- The stores to the codes' scratch. -/
theorem cs_run : kernelRun0_A.sl.H7_144 c arg1 harg1 x0 = csPieces (ldX arg1 harg1 x0) := by
  sl_kernel_rfl

/-- The stores to the codes. -/
theorem codes_run (arg8 : Memref sig .tc .vmem S18x24x128 .f32) :
    kernelRun0_A.sl.H5_54 c arg1 harg1 arg8 x0 = codePieces (ldX arg1 harg1 x0) arg8 := by
  sl_kernel_rfl

end Cert.KernelIdeal.Model

end
-- ==== Proof.KernelIdeal.ModelB.lean ====
module

public import proofs.«01_k».proof.Proof.KernelIdeal.Model2
public import proofs.«01_k».proof.Proof.KernelIdeal.ModelA
public import proofs.«01_k».proof.Proof.KernelIdeal.RunB

@[expose] public section

set_option maxRecDepth 16384

noncomputable section

namespace Cert.KernelIdeal.Model

open Cert.KernelIdeal Cert.KernelIdeal.Gen Cert.KernelIdeal.Run
open Idealize.ShloMosaic Idealize.ShloMosaic.TcCoe Idealize.ShloMosaic.Tactic

variable {F : FTy → Type} [FloatOps F]

section Left
variable (c : Dev nD) (arg1 : Memref sig .tc .vmem S3x9216 .bf16) (harg1 : arg1.IsWhole) (arg9 : Memref sig .tc .vmem S216x128 .f32)
  (arg10 : Memref sig .tc .vmem S4x1152x128 .f32) (x0 : Vec F S3x9216 .bf16)

/-- The stores of the input's rows. -/
theorem xb_run : kernelRun0_A.sl.H8_72 c arg1 harg1 x0 = xbPieces (ldX arg1 harg1 x0) := by
  sl_kernel_rfl

/-- The stores of the zero points. -/
theorem zp_run : kernelRun0_A.sl.H11_13 c arg1 harg1 arg9 x0 = zpPieces (xbRows arg9 (ldX arg1 harg1 x0)) := by
  sl_kernel_rfl

/-- The stores of the scales. -/
theorem sc_run : kernelRun0_A.sl.H12_13 c arg1 harg1 arg9 x0 = scPieces (xbRows arg9 (ldX arg1 harg1 x0)) := by
  sl_kernel_rfl

/-- The stores of the left operands. -/
theorem lhs_run : kernelRun0_A.sl.H10_12 c arg1 harg1 arg9 arg10 x0 = lhsPieces (xbRows arg9 (ldX arg1 harg1 x0)) arg10 := by
  sl_kernel_rfl

end Left

theorem inbS (k : Fin 8) : ∀ a, (![0, 128 * k.val] : Fin 2 → Nat) a + S72x128.size a ≤ S72x1024.size a := by
  have := k.isLt
  intro a
  match a with
  | 0 => show 0 + 72 ≤ 72; omega
  | 1 => show 128 * k.val + 128 ≤ 1024; omega

def ldS (arg3 : Memref sig .tc .vmem S72x1024 .f32) (harg3 : arg3.IsWhole) (x2 : Vec F S72x1024 .f32) (k : Fin 8) : Vec F S72x128 .f32 :=
  View.readAt (Elt F) arg3.view (Rect.unit (s := S72x1024) ![0, 128 * k.val] S72x128.size (inbS k)).toLoadRect (harg3.unread x2)

section Scale
variable (c : Dev nD) (arg3 : Memref sig .tc .vmem S72x1024 .f32) (harg3 : arg3.IsWhole) (x2 : Vec F S72x1024 .f32)

theorem hs_runA : kernelRun0_A.sl.H13_16 c arg3 harg3 x2 = hsPieces (ldS arg3 harg3 x2) := by sl_kernel_rfl
theorem hz_runA : kernelRun0_A.sl.H14_16 c arg3 harg3 x2 = hsPieces (ldS arg3 harg3 x2) := by sl_kernel_rfl
theorem hs_runB : kernelRun0_B.sl.H13_16 c arg3 harg3 x2 = hsPieces (ldS arg3 harg3 x2) := by sl_kernel_rfl
theorem hz_runB : kernelRun0_B.sl.H14_16 c arg3 harg3 x2 = hsPieces (ldS arg3 harg3 x2) := by sl_kernel_rfl

end Scale

end Cert.KernelIdeal.Model

end
-- ==== Proof.KernelIdeal.ModelC.lean ====
module

public import proofs.«01_k».proof.Proof.KernelIdeal.ModelB

/-! One trip of the loop and the final gather, connected to the run. -/

@[expose] public section

set_option maxRecDepth 16384

noncomputable section

namespace Cert.KernelIdeal.Model

open Cert.KernelIdeal Cert.KernelIdeal.Gen Cert.KernelIdeal.Run
open Idealize.ShloMosaic Idealize.ShloMosaic.TcCoe Idealize.ShloMosaic.Tactic

variable {F : FTy → Type} [FloatOps F]

section Loads
variable (arg2 : Memref sig .tc .vmem S2x1024x1152 .i8) (arg11 : Memref sig .tc .vmem S3x1152x512 .bf16)
  (arg12 : Memref sig .tc .vmem S1152x128 .f32) (arg14 : Memref sig .tc .vmem S2x576x128 .f32)
  (X2 : BufTy.Contents (Elt F) arg2.view.ty) (X11 : BufTy.Contents (Elt F) arg11.view.ty)
  (X12 : BufTy.Contents (Elt F) arg12.view.ty) (X14 : BufTy.Contents (Elt F) arg14.view.ty) (k : Fin k0_t1_loop.trips)

def ldW : Fin 2 → Vec F S1x1024x128 .i8
  | 0 => View.readAt (Elt F) arg2.view (Rect.unit (s := S2x1024x1152) (k0_off1 k) S1x1024x128.size (k0_off1_inb k)).toLoadRect X2
  | 1 => View.readAt (Elt F) arg2.view (Rect.unit (s := S2x1024x1152) (k0_off2 k) S1x1024x128.size (k0_off2_inb k)).toLoadRect X2

def ldL (r : Fin 8) : Fin 2 → Fin 3 → Vec F S1x16x256 .bf16
  | 0, 0 => View.readAt (Elt F) arg11.view (Rect.unit (s := S3x1152x512) (k0_off3 k (BitVec.ofNat 32 r.val)) S1x16x256.size (k0_off3_inb k r)).toLoadRect X11
  | 0, 1 => View.readAt (Elt F) arg11.view (Rect.unit (s := S3x1152x512) (k0_off4 k (BitVec.ofNat 32 r.val)) S1x16x256.size (k0_off4_inb k r)).toLoadRect X11
  | 0, 2 => View.readAt (Elt F) arg11.view (Rect.unit (s := S3x1152x512) (k0_off5 k (BitVec.ofNat 32 r.val)) S1x16x256.size (k0_off5_inb k r)).toLoadRect X11
  | 1, 0 => View.readAt (Elt F) arg11.view (Rect.unit (s := S3x1152x512) (k0_off6 k (BitVec.ofNat 32 r.val)) S1x16x256.size (k0_off6_inb k r)).toLoadRect X11
  | 1, 1 => View.readAt (Elt F) arg11.view (Rect.unit (s := S3x1152x512) (k0_off7 k (BitVec.ofNat 32 r.val)) S1x16x256.size (k0_off7_inb k r)).toLoadRect X11
  | 1, 2 => View.readAt (Elt F) arg11.view (Rect.unit (s := S3x1152x512) (k0_off8 k (BitVec.ofNat 32 r.val)) S1x16x256.size (k0_off8_inb k r)).toLoadRect X11

def ldZ (r : Fin 8) (u : Fin 2) : Vec F S8x128 .f32 :=
  View.readAt (Elt F) arg12.view (Rect.unit (s := S1152x128) (k0_off9 k (BitVec.ofNat 32 r.val) (BitVec.ofNat 32 (8 * u.val))) S8x128.size (k0_off9_inb k r u)).toLoadRect X12

def ldH (r : Fin 8) : Fin 2 → Vec F S1x8x128 .f32
  | 0 => View.readAt (Elt F) arg14.view (Rect.unit (s := S2x576x128) (k0_off10 k (BitVec.ofNat 32 r.val)) S1x8x128.size (k0_off10_inb k r)).toLoadRect X14
  | 1 => View.readAt (Elt F) arg14.view (Rect.unit (s := S2x576x128) (k0_off11 k (BitVec.ofNat 32 r.val)) S1x8x128.size (k0_off11_inb k r)).toLoadRect X14

end Loads

def acc0 : Acc F := (k0_pay2183, k0_pay2183, k0_pay2183, k0_pay2183)

section Run
variable (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole)

section Trip
variable (v565 v574 : FVec F S72x128 .f32) (X2 : BufTy.Contents (Elt F) arg2.view.ty) (X11 : BufTy.Contents (Elt F) arg11.view.ty)
  (X12 : BufTy.Contents (Elt F) arg12.view.ty) (X13 : BufTy.Contents (Elt F) arg13.view.ty)
  (X14 : BufTy.Contents (Elt F) arg14.view.ty) (X15 : BufTy.Contents (Elt F) arg15.view.ty)

/-- One trip of the loop is `trip`. -/
theorem trip_run (k : Fin k0_t1_loop.trips) (a : Acc F) :
    tripR_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v565 v574 X2 X11 X12 X13 X14 X15 k a
      = trip (ldW arg2 X2 k) (ldL arg11 X11 k) (ldZ arg12 X12 k) (ldZ arg13 X13 k) (ldH arg14 X14 k) (ldH arg15 X15 k) a := by
  sl_kernel_rfl

/-- The sums after `n` chunks. -/
def accN : (n : ℕ) → n ≤ k0_t1_loop.trips → Acc F
  | 0, _ => acc0
  | n + 1, h => trip (ldW arg2 X2 ⟨n, h⟩) (ldL arg11 X11 ⟨n, h⟩) (ldZ arg12 X12 ⟨n, h⟩) (ldZ arg13 X13 ⟨n, h⟩) (ldH arg14 X14 ⟨n, h⟩)
      (ldH arg15 X15 ⟨n, h⟩) (accN n (Nat.le_of_succ_le h))

/-- The loop's sums after some trips. -/
theorem accN_run : (n : ℕ) → (h : n ≤ k0_t1_loop.trips) →
    st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v565 v574 X2 X11 X12 X13 X14 X15 acc0 n
      = accN arg2 arg11 arg12 arg13 arg14 arg15 X2 X11 X12 X13 X14 X15 n h
  | 0, _ => rfl
  | n + 1, h => by
    rw [accN, ← accN_run n (Nat.le_of_succ_le h), ← trip_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v565 v574 X2 X11 X12 X13 X14 X15 ⟨n, h⟩]
    exact st_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v565 v574 X2 X11 X12 X13 X14 X15 acc0 ⟨n, h⟩

end Trip

variable (x0 : Vec F S3x9216 .bf16) (x1 : Vec F S2x1024x1152 .i8) (x2 x3 : Vec F S72x1024 .f32)

/-- The stores to the product in the first step. -/
theorem y_runA : kernelRun0_A.sl.H4_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = yPieces (accN arg2 arg11 arg12 arg13 arg14 arg15 (harg2.unread x1)
        (arg11.view.writes (Elt F) arg11.view.junk (kernelRun0_A.sl.H10_12 c arg1 harg1 arg9 arg10 x0))
        (arg12.view.writes (Elt F) arg12.view.junk (kernelRun0_A.sl.H11_13 c arg1 harg1 arg9 x0))
        (arg13.view.writes (Elt F) arg13.view.junk (kernelRun0_A.sl.H12_13 c arg1 harg1 arg9 x0))
        (arg14.view.writes (Elt F) arg14.view.junk (kernelRun0_A.sl.H13_16 c arg3 harg3 x2))
        (arg15.view.writes (Elt F) arg15.view.junk (kernelRun0_A.sl.H14_16 c arg4 harg4 x3)) k0_t1_loop.trips le_rfl) arg16 := by
  rw [← accN_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_A.sl.v565 c arg4 harg4 x3) (kernelRun0_A.sl.v574 c arg4 harg4 x3)]
  sl_kernel_rfl

variable (xs3 : Vec F S3x1152x512 .bf16) (xs4 xs5 : Vec F S1152x128 .f32)

/-- The stores to the product in a later step. -/
theorem y_runB : kernelRun0_B.sl.H4_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 xs3 xs4 xs5
    = yPieces (accN arg2 arg11 arg12 arg13 arg14 arg15 (harg2.unread x1) (harg11.unread xs3) (harg12.unread xs4) (harg13.unread xs5)
        (arg14.view.writes (Elt F) arg14.view.junk (kernelRun0_B.sl.H13_16 c arg3 harg3 x2))
        (arg15.view.writes (Elt F) arg15.view.junk (kernelRun0_B.sl.H14_16 c arg4 harg4 x3)) k0_t1_loop.trips le_rfl) arg16 := by
  rw [← accN_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_B.sl.v565 c arg4 harg4 x3) (kernelRun0_B.sl.v574 c arg4 harg4 x3)]
  sl_kernel_rfl

end Run

end Cert.KernelIdeal.Model

end
-- ==== Proof.SpecTerm.lean ====
module

public import proofs.«01_k».proof.Proof.SpecLookup

/-! What one group adds to a row of the product, and how large its integer parts are. -/

@[expose] public section

noncomputable section

namespace Cert.Spec

open Idealize.ShloMosaic

/-- What a group adds to a row: from its sum of lookups `a`, zero point `z` and scale `s`, and the weights' scale `h` and zero `w`. -/
def yterm (a z : ℤ) (s h w : EReal) : EReal :=
  (h * ((1 / 2 : ℝ) : EReal)) * s * (((a : ℝ) : EReal) + (((3 : ℝ) : EReal) - ((2 : ℝ) : EReal) * w) * ((z : ℝ) : EReal))

theorem c2 : Ideal.ofBits .f32 0x40000000#32 = ((2 : ℝ) : EReal) := by
  simp [Ideal.ofBits, Ideal.ieee, -EReal.coe_mul]; norm_num
theorem c3 : Ideal.ofBits .f32 0x40400000#32 = ((3 : ℝ) : EReal) := by
  simp [Ideal.ofBits, Ideal.ieee, -EReal.coe_mul]; norm_num

/-- A sum of `n` integers of size at most `M` has size at most `n M`. -/
theorem sum_bd {n : ℕ} (f : Fin n → ℤ) (M : ℤ) (h : ∀ i, -M ≤ f i ∧ f i ≤ M) : -(n * M) ≤ ∑ i, f i ∧ ∑ i, f i ≤ n * M := by
  have hu := Finset.sum_le_card_nsmul Finset.univ f M fun i _ => (h i).2
  have hl := Finset.card_nsmul_le_sum Finset.univ f (-M) fun i _ => (h i).1
  simp only [Finset.card_univ, Fintype.card_fin, nsmul_eq_mul] at hu hl
  constructor
  · linarith
  · exact hu

variable (X : Fin 3 → Fin 9216 → EReal)

/-- The size of a code. -/
theorem codeZ_bd (t : Fin 3) (q : Fin 2304) (e : Fin 8) : -127 ≤ codeZ X t q e ∧ codeZ X t q e ≤ 127 :=
  ⟨(code_codeZ X t q e).1, (code_codeZ X t q e).2.1⟩

/-- The size of a byte's lookups. -/
theorem byteT_bd (t : Fin 3) (j : Fin 1152) (p : BitVec 8) : -254 ≤ byteT X t j p ∧ byteT X t j p ≤ 254 :=
  lookB_bd _ _ 127 (codeZ_bd X t _) (codeZ_bd X t _) p

/-- The size of a group's sum. -/
theorem accZ_bd (t : Fin 3) (g : Fin 72) (P : Fin 2 → Fin 16 → BitVec 8) : -100000 ≤ accZ X t g P ∧ accZ X t g P ≤ 100000 := by
  have h := fun p => sum_bd (fun i : Fin 16 => byteT X t ⟨16 * g.val + i.val, by omega⟩ (P p i)) 254 fun i => byteT_bd X t _ _
  have h0 := h 0
  have h1 := h 1
  unfold accZ
  push_cast at h0 h1
  omega

/-- The size of a group's zero point. -/
theorem szp_bd (t : Fin 3) (g : Fin 72) : -100000 ≤ szp X t g ∧ szp X t g ≤ 100000 := by
  have h := sum_bd (fun r : Fin 32 => codeZ X t ⟨32 * g.val + r.val, by omega⟩ 0) 127 fun r => codeZ_bd X t _ _
  unfold szp
  push_cast at h
  omega

end Cert.Spec

end
-- ==== Proof.KernelIdeal.Chunks.lean ====
module

public import proofs.«01_k».proof.Proof.KernelIdeal.Group
public import proofs.«01_k».proof.Proof.KernelIdeal.ModelC
public import proofs.«01_k».proof.Proof.SpecTerm

/-! The sums that the loop over the chunks leaves, over the extended reals: one sum over the 72 groups. -/

@[expose] public section

set_option maxRecDepth 16384

noncomputable section

namespace Cert.Spec

open Idealize.ShloMosaic

theorem coe_sub_top (x : ℝ) : (x : EReal) - ⊤ = ⊥ := by rw [sub_eq_add_neg, EReal.neg_top, EReal.add_bot]

/-- Three times the zero point less the weight's zero: the two bracketings agree, for an infinite `w` too. -/
theorem inner_eq (a z : ℝ) (w : EReal) : ((a + 3 * z : ℝ) : EReal) - w * ((2 * z : ℝ) : EReal) = (a : EReal) + (((3 : ℝ) : EReal) - ((2 : ℝ) : EReal) * w) * (z : EReal) := by
  have two : (0 : ℝ) < 2 := by norm_num
  induction w using EReal.rec with
  | coe w =>
    rw [← EReal.coe_mul, ← EReal.coe_sub, ← EReal.coe_mul, ← EReal.coe_sub, ← EReal.coe_mul, ← EReal.coe_add]
    refine congrArg _ ?_
    ring
  | top =>
    rw [EReal.coe_mul_top_of_pos two, coe_sub_top]
    rcases lt_trichotomy z 0 with h | h | h
    · rw [EReal.top_mul_coe_of_neg (by linarith), EReal.bot_mul_coe_of_neg h, EReal.coe_sub_bot, EReal.coe_add_top]
    · subst h; simp
    · rw [EReal.top_mul_coe_of_pos (by linarith), EReal.bot_mul_coe_of_pos h, coe_sub_top, EReal.add_bot]
  | bot =>
    rw [EReal.coe_mul_bot_of_pos two, EReal.coe_sub_bot]
    rcases lt_trichotomy z 0 with h | h | h
    · rw [EReal.bot_mul_coe_of_neg (by linarith), EReal.top_mul_coe_of_neg h, coe_sub_top, EReal.add_bot]
    · subst h; simp
    · rw [EReal.bot_mul_coe_of_pos (by linarith), EReal.top_mul_coe_of_pos h, EReal.coe_sub_bot, EReal.coe_add_top]

/-- The kernel's bracketing of a group's term is the reference's. -/
theorem yterm_eq (a z : ℤ) (s h w : EReal) :
    h * ((s * ((1 / 2 : ℝ) : EReal)) * ((((a + 3 * z : ℤ) : ℝ) : EReal) - w * ((2 * (z : ℝ) : ℝ) : EReal))) = yterm a z s h w := by
  unfold yterm
  rw [show (((a + 3 * z : ℤ) : ℝ)) = ((a : ℝ) + 3 * (z : ℝ)) from by push_cast; rfl, inner_eq, ← mul_assoc, ← mul_assoc, mul_right_comm h]

end Cert.Spec

namespace Cert.KernelIdeal.Model

open Cert.KernelIdeal Cert.KernelIdeal.Gen Cert.KernelIdeal.Run
open Idealize.ShloMosaic Idealize.ShloMosaic.TcCoe
open Cert.Spec (accZ szp yterm)

/-- The sum of row half `u` and lane half `h`. -/
def comp (a : Acc Ideal) : Fin 2 → Fin 2 → FVec Ideal S8x128 .f32
  | 0, 0 => a.1
  | 0, 1 => a.2.1
  | 1, 0 => a.2.2.1
  | 1, 1 => a.2.2.2

section Sums
variable (W : Fin 2 → Vec Ideal S1x1024x128 .i8) (L : Fin 8 → Fin 2 → Fin 3 → Vec Ideal S1x16x256 .bf16)
  (Z S : Fin 8 → Fin 2 → Vec Ideal S8x128 .f32) (H G : Fin 8 → Fin 2 → Vec Ideal S1x8x128 .f32)

/-- One trip of the loop adds eight terms to each of its four sums. -/
theorem comp_trip (a : Acc Ideal) (u h : Fin 2) : comp (trip W L Z S H G a) u h = sum8 W L Z S H G u h (comp a u h) 8 le_rfl := by
  match u, h with
  | 0, 0 => rfl
  | 0, 1 => rfl
  | 1, 0 => rfl
  | 1, 1 => rfl

/-- Those eight terms as a sum, at an index. -/
theorem sum8_at (u h : Fin 2) (a : FVec Ideal S8x128 .f32) (i : S8x128.Idx) : (n : ℕ) → (hn : n ≤ 8) →
    sum8 W L Z S H G u h a n hn i = a i + ∑ j : Fin n, term W L Z S H G ⟨j.val, by omega⟩ u h i
  | 0, _ => by rw [Fin.sum_univ_zero, add_zero]; rfl
  | n + 1, hn => by
    rw [Fin.sum_univ_castSucc]
    show sum8 W L Z S H G u h a n _ i + term W L Z S H G ⟨n, hn⟩ u h i = _
    rw [sum8_at u h a i n (Nat.le_of_succ_le hn), add_assoc]
    rfl

/-- One term at an index. -/
theorem term_at (k : Fin 8) (u h : Fin 2) (i : Fin 8) (l : Fin 128) :
    term W L Z S H G k u h (ix2 i l) = H k h (ix3 0 i l) * (S k u (ix2 i l)
      * (acc6 W L k (ix2 ⟨8 * u.val + i.val, by omega⟩ ⟨128 * h.val + l.val, by omega⟩) - G k h (ix3 0 i l) * Z k u (ix2 i l))) := by
  rw [← down3 (H k h) shapeCasts_S1x8x128_S8x128 i l, ← down3 (G k h) shapeCasts_S1x8x128_S8x128 i l]
  have e : extractStridedSlice S8x128 ![8 * u.val, 128 * h.val] (acc6 W L k) (slR u h) (ix2 i l)
      = acc6 W L k (ix2 ⟨8 * u.val + i.val, by omega⟩ ⟨128 * h.val + l.val, by omega⟩) := by
    generalize acc6 W L k = A
    refine congrArg A (funext fun a => Fin.ext ?_)
    match a with
    | 0 => rfl
    | 1 => rfl
  rw [← e]
  rfl

end Sums

section Chunks
variable (arg2 : Memref sig .tc .vmem S2x1024x1152 .i8) (arg11 : Memref sig .tc .vmem S3x1152x512 .bf16)
  (arg12 arg13 : Memref sig .tc .vmem S1152x128 .f32) (arg14 arg15 : Memref sig .tc .vmem S2x576x128 .f32)
  (X2 : BufTy.Contents (Elt Ideal) arg2.view.ty) (X11 : BufTy.Contents (Elt Ideal) arg11.view.ty)
  (X12 : BufTy.Contents (Elt Ideal) arg12.view.ty) (X13 : BufTy.Contents (Elt Ideal) arg13.view.ty)
  (X14 : BufTy.Contents (Elt Ideal) arg14.view.ty) (X15 : BufTy.Contents (Elt Ideal) arg15.view.ty)

theorem trips_eq (kk : Fin k0_t1_loop.trips) : kk.val < 9 := kk.isLt.trans_le k0_t1_abs.2.1

/-- The group of term `r` of trip `kk`. -/
def gOf (kk : Fin k0_t1_loop.trips) (r : Fin 8) : Fin 72 := ⟨8 * kk.val + r.val, by have := trips_eq kk; omega⟩

/-- The bytes a trip reads. -/
theorem ldW_at (kk : Fin k0_t1_loop.trips) (p : Fin 2) (R : Fin 1024) (c : Fin 128) :
    ldW arg2 X2 kk p (ix3 0 R c) = arg2.view.read (Elt Ideal) X2 (ix3 p R ⟨128 * kk.val + c.val, by have := trips_eq kk; omega⟩) := by
  match p with
  | 0 =>
    refine congrArg (arg2.view.read (Elt Ideal) X2) (funext fun a => Fin.ext ?_)
    refine (congrArg (fun z => z + 1 * _) (congrFun (k0_off1_eq kk) a)).trans ?_
    match a with
    | 0 => rfl
    | 1 => show 0 + 1 * R.val = R.val; omega
    | 2 => show 128 * kk.val + 1 * c.val = 128 * kk.val + c.val; omega
  | 1 =>
    refine congrArg (arg2.view.read (Elt Ideal) X2) (funext fun a => Fin.ext ?_)
    refine (congrArg (fun z => z + 1 * _) (congrFun (k0_off2_eq kk) a)).trans ?_
    match a with
    | 0 => rfl
    | 1 => show 0 + 1 * R.val = R.val; omega
    | 2 => show 128 * kk.val + 1 * c.val = 128 * kk.val + c.val; omega

/-- A block of the left operands, read at an offset that is known. -/
theorem ldL_key (kk : Fin k0_t1_loop.trips) (r : Fin 8) (m : Fin 2) (d : Fin 3) (row : Fin 16) (c : Fin 256)
    (off : Fin 3 → ℕ) (inb : ∀ a, off a + S1x16x256.size a ≤ S3x1152x512.size a) (ho : off = ![d.val, 128 * kk.val + 16 * r.val, 256 * m.val]) :
    View.readAt (Elt Ideal) arg11.view (Rect.unit (s := S3x1152x512) off S1x16x256.size inb).toLoadRect X11 (ix3 0 row c)
      = arg11.view.read (Elt Ideal) X11 (ix3 d ⟨16 * (gOf kk r).val + row.val, by omega⟩ ⟨256 * m.val + c.val, by omega⟩) := by
  subst ho
  refine congrArg (arg11.view.read (Elt Ideal) X11) (funext fun a => Fin.ext ?_)
  match a with
  | 0 => show d.val + 1 * 0 = d.val; omega
  | 1 => show 128 * kk.val + 16 * r.val + 1 * row.val = 16 * (8 * kk.val + r.val) + row.val; omega
  | 2 => show 256 * m.val + 1 * c.val = 256 * m.val + c.val; omega

/-- The left operands a trip reads. -/
theorem ldL_at (kk : Fin k0_t1_loop.trips) (r : Fin 8) (m : Fin 2) (d : Fin 3) (row : Fin 16) (c : Fin 256) :
    ldL arg11 X11 kk r m d (ix3 0 row c) = arg11.view.read (Elt Ideal) X11 (ix3 d ⟨16 * (gOf kk r).val + row.val, by omega⟩ ⟨256 * m.val + c.val, by omega⟩) := by
  match m, d with
  | 0, 0 => exact ldL_key arg11 X11 kk r 0 0 row c _ (k0_off3_inb kk r) (k0_off3_eq kk r)
  | 0, 1 => exact ldL_key arg11 X11 kk r 0 1 row c _ (k0_off4_inb kk r) (k0_off4_eq kk r)
  | 0, 2 => exact ldL_key arg11 X11 kk r 0 2 row c _ (k0_off5_inb kk r) (k0_off5_eq kk r)
  | 1, 0 => exact ldL_key arg11 X11 kk r 1 0 row c _ (k0_off6_inb kk r) (k0_off6_eq kk r)
  | 1, 1 => exact ldL_key arg11 X11 kk r 1 1 row c _ (k0_off7_inb kk r) (k0_off7_eq kk r)
  | 1, 2 => exact ldL_key arg11 X11 kk r 1 2 row c _ (k0_off8_inb kk r) (k0_off8_eq kk r)

/-- The rows of zero points or scales a trip reads. -/
theorem ldZ_at (kk : Fin k0_t1_loop.trips) (r : Fin 8) (u : Fin 2) (i : Fin 8) (l : Fin 128) :
    ldZ arg12 X12 kk r u (ix2 i l) = arg12.view.read (Elt Ideal) X12 (ix2 ⟨16 * (gOf kk r).val + (8 * u.val + i.val), by omega⟩ l) := by
  refine congrArg (arg12.view.read (Elt Ideal) X12) (funext fun a => Fin.ext ?_)
  refine (congrArg (fun z => z + 1 * _) (congrFun (k0_off9_eq kk r u) a)).trans ?_
  match a with
  | 0 => show 128 * kk.val + 16 * r.val + 8 * u.val + 1 * i.val = 16 * (8 * kk.val + r.val) + (8 * u.val + i.val); omega
  | 1 => show 0 + 1 * l.val = l.val; omega

/-- The rows of weight scales or weight zeros a trip reads. -/
theorem ldH_at (kk : Fin k0_t1_loop.trips) (r : Fin 8) (h : Fin 2) (i : Fin 8) (l : Fin 128) :
    ldH arg14 X14 kk r h (ix3 0 i l) = arg14.view.read (Elt Ideal) X14 (ix3 h ⟨8 * (gOf kk r).val + i.val, by omega⟩ l) := by
  match h with
  | 0 =>
    refine congrArg (arg14.view.read (Elt Ideal) X14) (funext fun a => Fin.ext ?_)
    refine (congrArg (fun z => z + 1 * _) (congrFun (k0_off10_eq kk r) a)).trans ?_
    match a with
    | 0 => rfl
    | 1 => show 64 * kk.val + 8 * r.val + 1 * i.val = 8 * (8 * kk.val + r.val) + i.val; omega
    | 2 => show 0 + 1 * l.val = l.val; omega
  | 1 =>
    refine congrArg (arg14.view.read (Elt Ideal) X14) (funext fun a => Fin.ext ?_)
    refine (congrArg (fun z => z + 1 * _) (congrFun (k0_off11_eq kk r) a)).trans ?_
    match a with
    | 0 => rfl
    | 1 => show 64 * kk.val + 8 * r.val + 1 * i.val = 8 * (8 * kk.val + r.val) + i.val; omega
    | 2 => show 0 + 1 * l.val = l.val; omega

end Chunks

end Cert.KernelIdeal.Model

end
-- ==== Proof.KernelIdeal.Out.lean ====
module

public import proofs.«01_k».proof.Proof.KernelIdeal.Chunks

/-! The sum over the groups, and the block of the output that it is gathered into, over the extended reals. -/

@[expose] public section

set_option maxRecDepth 16384

noncomputable section

namespace Cert.KernelIdeal.Model

open Cert.KernelIdeal Cert.KernelIdeal.Gen Cert.KernelIdeal.Run
open Idealize.ShloMosaic Idealize.ShloMosaic.TcCoe
open Cert.Spec (accZ szp yterm)

section Sum
variable (X : Fin 3 → Fin 9216 → EReal) (xr : Fin 3 → FVec Ideal (Ln 72) .f32)
  (x1 : Vec Ideal S2x1024x1152 .i8) (x2 x3 : Vec Ideal S72x1024 .f32)
variable (arg2 : Memref sig .tc .vmem S2x1024x1152 .i8) (arg11 : Memref sig .tc .vmem S3x1152x512 .bf16)
  (arg12 arg13 : Memref sig .tc .vmem S1152x128 .f32) (arg14 arg15 : Memref sig .tc .vmem S2x576x128 .f32)
  (X2 : BufTy.Contents (Elt Ideal) arg2.view.ty) (X11 : BufTy.Contents (Elt Ideal) arg11.view.ty)
  (X12 : BufTy.Contents (Elt Ideal) arg12.view.ty) (X13 : BufTy.Contents (Elt Ideal) arg13.view.ty)
  (X14 : BufTy.Contents (Elt Ideal) arg14.view.ty) (X15 : BufTy.Contents (Elt Ideal) arg15.view.ty)

/-- What the buffers hold when the loop starts. -/
structure Bufs : Prop where
  rows : ∀ t, IsRows X t (xr t)
  planes : arg2.view.read (Elt Ideal) X2 = x1
  left : ∀ (d : Fin 3) (g : Fin 72) (t : Fin 3) (b : Fin 4) (c : Fin 512),
    arg11.view.read (Elt Ideal) X11 (ix3 d ⟨16 * g.val + 4 * t.val + b.val, by omega⟩ c)
      = if c.val % 4 = b.val then coef (xr t) d (ix2 g ⟨srcLane (bitsOf d) c, srcLane_lt d c⟩) * ((unitR c : ℝ) : EReal) else 0
  zp : ∀ (g : Fin 72) (t : Fin 3) (b : Fin 4) (l : Fin 128),
    arg12.view.read (Elt Ideal) X12 (ix2 ⟨16 * g.val + 4 * t.val + b.val, by omega⟩ l) = ((2 * (szp X t g : ℝ) : ℝ) : EReal)
  sc : ∀ (g : Fin 72) (t : Fin 3) (b : Fin 4) (l : Fin 128),
    arg13.view.read (Elt Ideal) X13 (ix2 ⟨16 * g.val + 4 * t.val + b.val, by omega⟩ l) = Spec.scale X t g * ((1 / 2 : ℝ) : EReal)
  hs : ∀ (h : Fin 2) (g : Fin 72) (r : Fin 8) (l : Fin 128),
    arg14.view.read (Elt Ideal) X14 (ix3 h ⟨8 * g.val + r.val, by omega⟩ l) = x2 (ix2 g ⟨512 * h.val + 4 * l.val + r.val % 4, by omega⟩)
  hz : ∀ (h : Fin 2) (g : Fin 72) (r : Fin 8) (l : Fin 128),
    arg15.view.read (Elt Ideal) X15 (ix3 h ⟨8 * g.val + r.val, by omega⟩ l) = x3 (ix2 g ⟨512 * h.val + 4 * l.val + r.val % 4, by omega⟩)

/-- Group `g`'s part of output `o` of token `t`. -/
def yg (t : Fin 3) (o : Fin 1024) (g : Fin 72) : EReal :=
  yterm (accZ X t g fun p i => x1 (ix3 p o ⟨16 * g.val + i.val, by omega⟩)) (szp X t g) (Spec.scale X t g) (x2 (ix2 g o)) (x3 (ix2 g o))

variable (B : Bufs X xr x1 x2 x3 arg2 arg11 arg12 arg13 arg14 arg15 X2 X11 X12 X13 X14 X15)
include B

theorem isL (kk : Fin k0_t1_loop.trips) (r : Fin 8) (t : Fin 3) (b : Fin 4) :
    IsL (xr t) (gOf kk r) ⟨4 * t.val + b.val, by omega⟩ b (ldL arg11 X11 kk r) := fun m d c => by
  rw [ldL_at]
  have e := B.left d (gOf kk r) t b ⟨256 * m.val + c.val, by omega⟩
  rw [show (256 * m.val + c.val) % 4 = c.val % 4 from by omega] at e
  rw [← e]
  exact congrArg (fun i => arg11.view.read (Elt Ideal) X11 (ix3 d i _)) (Fin.ext (by dsimp only; omega))

/-- A term of the loop, in a group's own quantities. -/
theorem term_val (kk : Fin k0_t1_loop.trips) (r : Fin 8) (t : Fin 3) (b : Fin 4) (u h : Fin 2) (i : Fin 8) (hr : 8 * u.val + i.val = 4 * t.val + b.val) (l : Fin 128) :
    term (ldW arg2 X2 kk) (ldL arg11 X11 kk) (ldZ arg12 X12 kk) (ldZ arg13 X13 kk) (ldH arg14 X14 kk) (ldH arg15 X15 kk) r u h (ix2 i l)
      = yg X x1 x2 x3 t ⟨512 * h.val + 4 * l.val + b.val, by omega⟩ (gOf kk r) := by
  have hib : i.val % 4 = b.val := by omega
  have hk := trips_eq kk
  rw [term_at, ldH_at, ldH_at, ldZ_at, ldZ_at, B.hs, B.hz]
  have hrow : (⟨8 * u.val + i.val, by omega⟩ : Fin 16) = ⟨4 * t.val + b.val, by omega⟩ := Fin.ext hr
  have hrow2 : (⟨16 * (gOf kk r).val + (8 * u.val + i.val), by omega⟩ : Fin 1152) = ⟨16 * (gOf kk r).val + 4 * t.val + b.val, by omega⟩ := Fin.ext (by dsimp only; omega)
  rw [hrow, hrow2, B.zp, B.sc, acc_at X t (xr t) (B.rows t) (gOf kk r) _ b _ _ r (isL X xr x1 x2 x3 arg2 arg11 arg12 arg13 arg14 arg15 X2 X11 X12 X13 X14 X15 B kk r t b), Spec.yterm_eq]
  unfold yg
  have ho : (⟨512 * h.val + 4 * l.val + i.val % 4, by omega⟩ : Fin 1024) = ⟨512 * h.val + 4 * l.val + b.val, by omega⟩ := Fin.ext (by dsimp only; omega)
  rw [ho]
  congr 2
  funext p j
  rw [ldW_at, B.planes]
  congr 2
  · exact Fin.ext (by dsimp only; omega)
  · exact Fin.ext (by unfold gOf; dsimp only; omega)

/-- The sums after some trips. -/
theorem accN_at (t : Fin 3) (b : Fin 4) (u h : Fin 2) (i : Fin 8) (hr : 8 * u.val + i.val = 4 * t.val + b.val) (l : Fin 128) :
    (n : ℕ) → (hn : n ≤ k0_t1_loop.trips) → comp (accN arg2 arg11 arg12 arg13 arg14 arg15 X2 X11 X12 X13 X14 X15 n hn) u h (ix2 i l)
      = ∑ k : Fin n, ∑ r : Fin 8, yg X x1 x2 x3 t ⟨512 * h.val + 4 * l.val + b.val, by omega⟩ (gOf ⟨k.val, by omega⟩ r)
  | 0, _ => by
    rw [Fin.sum_univ_zero, ← Ideal.ofBits_zero_f32]
    match u, h with
    | 0, 0 => rfl
    | 0, 1 => rfl
    | 1, 0 => rfl
    | 1, 1 => rfl
  | n + 1, hn => by
    rw [Fin.sum_univ_castSucc, accN, comp_trip, sum8_at, accN_at t b u h i hr l n (Nat.le_of_succ_le hn)]
    refine congrArg₂ _ rfl (Finset.sum_congr rfl fun r _ => ?_)
    exact term_val X xr x1 x2 x3 arg2 arg11 arg12 arg13 arg14 arg15 X2 X11 X12 X13 X14 X15 B ⟨n, hn⟩ r t b u h i hr l

omit B in
theorem trips_nine : k0_t1_loop.trips = 9 := by decide +kernel

/-- The sums after all trips: one term for each group. -/
theorem acc_all (t : Fin 3) (b : Fin 4) (u h : Fin 2) (i : Fin 8) (hr : 8 * u.val + i.val = 4 * t.val + b.val) (l : Fin 128) :
    comp (accN arg2 arg11 arg12 arg13 arg14 arg15 X2 X11 X12 X13 X14 X15 k0_t1_loop.trips le_rfl) u h (ix2 i l)
      = ∑ g : Fin 72, yg X x1 x2 x3 t ⟨512 * h.val + 4 * l.val + b.val, by omega⟩ g := by
  rw [accN_at X xr x1 x2 x3 arg2 arg11 arg12 arg13 arg14 arg15 X2 X11 X12 X13 X14 X15 B t b u h i hr l, Fin.sum_univ_tiles 9 8 rfl]
  refine Fintype.sum_equiv (finCongr trips_nine) _ _ fun k => Finset.sum_congr rfl fun r _ => congrArg _ (Fin.ext ?_)
  show 8 * k.val + r.val = k.val * 8 + r.val
  omega

end Sum

/-! ## The gather -/

section Gather
variable (a : Acc Ideal) (arg16 : Memref sig .tc .vmem S2x16x128 .f32)

theorem inbYo4 (n : Fin 4) : ∀ a, (![n.val % 2, 8 * (n.val / 2), 0] : Fin 3 → Nat) a + S1x8x128.size a ≤ S2x16x128.size a := by
  have := n.isLt
  intro a
  match a with
  | 0 => show n.val % 2 + 1 ≤ 2; omega
  | 1 => show 8 * (n.val / 2) + 8 ≤ 16; omega
  | 2 => show 0 + 128 ≤ 128; omega

theorem yo_rev : yoPieces a = rev 4 fun n => ⟨Rect.unit ![n.val % 2, 8 * (n.val / 2), 0] S1x8x128.size (inbYo4 n),
    shapeCast S1x8x128 (comp a ⟨n.val / 2, by omega⟩ ⟨n.val % 2, by omega⟩) shapeCasts_S8x128_S1x8x128⟩ := rfl

theorem yo_at (u h : Fin 2) (i : Fin 8) (l : Fin 128) : View.canon (yoPieces a) (ix3 h ⟨8 * u.val + i.val, by omega⟩ l) = comp a u h (ix2 i l) := by
  rw [yo_rev]
  refine (canon_rev 4 _ _ ⟨2 * u.val + h.val, by omega⟩ (ix3 0 i l) (emb_eq _ _ _ fun a => ?_) fun k hk => ?_).trans ?_
  · match a with
    | 0 => show (2 * u.val + h.val) % 2 + 1 * 0 = h.val; omega
    | 1 => show 8 * ((2 * u.val + h.val) / 2) + 1 * i.val = 8 * u.val + i.val; omega
    | 2 => show 0 + 1 * l.val = l.val; omega
  · rw [LoadRect.mem_set] at hk
    obtain ⟨a, ha, h0⟩ := hk 0
    obtain ⟨a', ha', h1⟩ := hk 1
    change a < 1 at ha
    change a' < 8 at ha'
    change h.val = k.val % 2 + 1 * a at h0
    change 8 * u.val + i.val = 8 * (k.val / 2) + 1 * a' at h1
    exact Fin.ext (by dsimp only; omega)
  · dsimp only
    refine (up3 _ _ _ _ _).trans ?_
    have e1 : (⟨(2 * u.val + h.val) / 2, by omega⟩ : Fin 2) = u := Fin.ext (by dsimp only; omega)
    have e2 : (⟨(2 * u.val + h.val) % 2, by omega⟩ : Fin 2) = h := Fin.ext (by dsimp only; omega)
    rw [e1, e2]

theorem yoRow_at (h : Fin 2) (b : Fin 4) (t : Fin 3) (l : Fin 128) :
    yoRow a arg16 h b (ix2 t l) = View.canon (yoPieces a) (ix3 h ⟨4 * t.val + b.val, by omega⟩ l) := by
  unfold yoRow
  refine (down3 _ _ _ _).trans ?_
  rw [View.readCov_eq_canon']
  generalize View.canon (yoPieces a) = C
  refine congrArg C (funext fun x => Fin.ext ?_)
  match x with
  | 0 => show h.val + 1 * 0 = h.val; omega
  | 1 => show b.val + 4 * t.val = 4 * t.val + b.val; omega
  | 2 => show 0 + 1 * l.val = l.val; omega

theorem ySrc_dec : ∀ (v : Fin 8) (l : Fin 128), (nrm (IntOp.addi (BitVec.ofNat 32 (32 * (v.val % 4))) (IntOp.shrsi .vector (BitVec.ofNat 32 l.val) 2#32))).toNat % 128
    = 32 * (v.val % 4) + l.val / 4 := by decide +kernel

/-- The gather that puts the sums in the order of the outputs. -/
theorem yVec_at (v : Fin 8) (t : Fin 3) (l : Fin 128) : yVec a arg16 v 4 le_rfl (ix2 t l)
    = yoRow a arg16 ⟨v.val / 4, by omega⟩ ⟨l.val % 4, by omega⟩ (ix2 t ⟨32 * (v.val % 4) + l.val / 4, by omega⟩) := by
  have hg : ∀ b : Fin 4, gat rows3 (yoRow a arg16 ⟨v.val / 4, by omega⟩ b) (ySrc v) (ix2 t l)
      = yoRow a arg16 ⟨v.val / 4, by omega⟩ b (ix2 t ⟨32 * (v.val % 4) + l.val / 4, by omega⟩) := fun b => by
    refine gat_at rows3 _ _ t l _ ?_
    show (nrm (IntOp.addi (BitVec.ofNat 32 (32 * (v.val % 4))) (IntOp.shrsi .vector (lane rows3 (ix2 t l)) 2#32))).toNat % 128 = _
    rw [lane_at, ySrc_dec]
  show Scalar.select (IntOp.cmpi .eq (IntOp.andi (lane rows3 (ix2 t l)) 3#32) (BitVec.ofNat 32 (3 : Fin 4).val)) (gat rows3 (yoRow a arg16 ⟨v.val / 4, _⟩ 3) (ySrc v) (ix2 t l))
    (Scalar.select (IntOp.cmpi .eq (IntOp.andi (lane rows3 (ix2 t l)) 3#32) (BitVec.ofNat 32 (2 : Fin 4).val)) (gat rows3 (yoRow a arg16 ⟨v.val / 4, _⟩ 2) (ySrc v) (ix2 t l))
    (Scalar.select (IntOp.cmpi .eq (IntOp.andi (lane rows3 (ix2 t l)) 3#32) (BitVec.ofNat 32 (1 : Fin 4).val)) (gat rows3 (yoRow a arg16 ⟨v.val / 4, _⟩ 1) (ySrc v) (ix2 t l))
    (Scalar.select (IntOp.cmpi .eq (IntOp.andi (lane rows3 (ix2 t l)) 3#32) (BitVec.ofNat 32 (0 : Fin 4).val)) (gat rows3 (yoRow a arg16 ⟨v.val / 4, _⟩ 0) (ySrc v) (ix2 t l)) _))) = _
  rw [hg, hg, hg, hg, lane_at, qb_dec, qb_dec, qb_dec, qb_dec]
  have hl : l.val % 4 = 0 ∨ l.val % 4 = 1 ∨ l.val % 4 = 2 ∨ l.val % 4 = 3 := by omega
  have hf : ∀ c : Fin 4, l.val % 4 = c.val → (⟨l.val % 4, by omega⟩ : Fin 4) = c := fun c h => Fin.ext h
  rcases hl with h | h | h | h
  · rw [hf 0 h]; simp only [h]; rfl
  · rw [hf 1 h]; simp only [h]; rfl
  · rw [hf 2 h]; simp only [h]; rfl
  · rw [hf 3 h]; simp only [h]; rfl

/-- A block of the output at an index. -/
theorem y_at (t : Fin 3) (v : Fin 8) (l : Fin 128) (u : Fin 2) (i : Fin 8) (hr : 8 * u.val + i.val = 4 * t.val + l.val % 4) :
    View.canon (yPieces a arg16) (ix2 t ⟨128 * v.val + l.val, by omega⟩)
      = comp a u ⟨v.val / 4, by omega⟩ (ix2 i ⟨32 * (v.val % 4) + l.val / 4, by omega⟩) := by
  refine (canon_rev 8 _ _ v (ix2 t l) (emb_eq _ _ _ fun a => ?_) fun k hk => ?_).trans ?_
  · match a with
    | 0 => show 0 + 1 * t.val = t.val; omega
    | 1 => show 128 * v.val + 1 * l.val = 128 * v.val + l.val; omega
  · rw [LoadRect.mem_set] at hk
    obtain ⟨a', ha', h1⟩ := hk 1
    change a' < 128 at ha'
    change 128 * v.val + l.val = 128 * k.val + 1 * a' at h1
    exact Fin.ext (by omega)
  · show yVec a arg16 v 4 le_rfl (ix2 t l) = _
    rw [yVec_at, yoRow_at, ← yo_at]
    exact congrArg (fun j => View.canon (yoPieces a) (ix3 _ j _)) (Fin.ext hr.symm)

end Gather

/-- The block of the output that the loop's buffers give. -/
theorem y_block (X : Fin 3 → Fin 9216 → EReal) (xr : Fin 3 → FVec Ideal (Ln 72) .f32)
    (x1 : Vec Ideal S2x1024x1152 .i8) (x2 x3 : Vec Ideal S72x1024 .f32)
    (arg2 : Memref sig .tc .vmem S2x1024x1152 .i8) (arg11 : Memref sig .tc .vmem S3x1152x512 .bf16)
    (arg12 arg13 : Memref sig .tc .vmem S1152x128 .f32) (arg14 arg15 : Memref sig .tc .vmem S2x576x128 .f32) (arg16 : Memref sig .tc .vmem S2x16x128 .f32)
    (X2 : BufTy.Contents (Elt Ideal) arg2.view.ty) (X11 : BufTy.Contents (Elt Ideal) arg11.view.ty)
    (X12 : BufTy.Contents (Elt Ideal) arg12.view.ty) (X13 : BufTy.Contents (Elt Ideal) arg13.view.ty)
    (X14 : BufTy.Contents (Elt Ideal) arg14.view.ty) (X15 : BufTy.Contents (Elt Ideal) arg15.view.ty)
    (B : Bufs X xr x1 x2 x3 arg2 arg11 arg12 arg13 arg14 arg15 X2 X11 X12 X13 X14 X15) (t : Fin 3) (o : Fin 1024) :
    View.canon (yPieces (accN arg2 arg11 arg12 arg13 arg14 arg15 X2 X11 X12 X13 X14 X15 k0_t1_loop.trips le_rfl) arg16) (ix2 t o)
      = ∑ g : Fin 72, yg X x1 x2 x3 t o g := by
  have e := y_at (accN arg2 arg11 arg12 arg13 arg14 arg15 X2 X11 X12 X13 X14 X15 k0_t1_loop.trips le_rfl) arg16 t ⟨o.val / 128, by omega⟩ ⟨o.val % 128, by omega⟩
    ⟨(4 * t.val + o.val % 4) / 8, by omega⟩ ⟨(4 * t.val + o.val % 4) % 8, by omega⟩ (by dsimp only; omega)
  rw [show (⟨128 * (o.val / 128) + o.val % 128, by omega⟩ : Fin 1024) = o from Fin.ext (by dsimp only; omega)] at e
  rw [e, acc_all X xr x1 x2 x3 arg2 arg11 arg12 arg13 arg14 arg15 X2 X11 X12 X13 X14 X15 B t ⟨o.val % 4, by omega⟩ _ _ _ (by dsimp only; omega) _]
  refine Finset.sum_congr rfl fun g _ => congrArg (fun o => yg X x1 x2 x3 t o g) (Fin.ext ?_)
  dsimp only
  omega

end Cert.KernelIdeal.Model

end
-- ==== Proof.KernelIdeal.Buffers.lean ====
module

public import proofs.«01_k».proof.Proof.KernelIdeal.Out
public import proofs.«01_k».proof.Proof.KernelIdeal.Frame

/-! What each buffer of the frame holds, as the pieces stored into it. -/

@[expose] public section

set_option maxRecDepth 16384

noncomputable section

namespace Cert.KernelIdeal.Model

open Cert.KernelIdeal Cert.KernelIdeal.Gen Cert.KernelIdeal.Run
open Idealize.ShloMosaic Idealize.ShloMosaic.TcCoe Idealize.ShloMosaic.Tactic

variable {F : FTy → Type} [FloatOps F]

section A
variable (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : cond0_0 i)
    (x0 : Vec F S3x9216 .bf16) (x1 : Vec F S2x1024x1152 .i8) (x2 x3 : Vec F S72x1024 .f32)

/-- The first step's codes. -/
theorem outA5 : out0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (codePieces (ldX arg1 harg1 x0) arg8) := by
  unfold out0_A_5
  rw [View.read_writes_junk_eq_canon]
  exact congrArg View.canon (codes_run c arg1 harg1 x0 arg8)

/-- The first step's scales. -/
theorem outA6 : out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (scalePieces (ldX arg1 harg1 x0)) := by
  unfold out0_A_6
  rw [View.read_writes_junk_eq_canon]
  exact congrArg View.canon (scale_run c arg1 harg1 x0)

/-- The first step's left operands. -/
theorem outAs3 : out0_A_s3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (lhsPieces (xbRows arg9 (ldX arg1 harg1 x0)) arg10) := by
  unfold out0_A_s3
  rw [View.read_writes_junk_eq_canon]
  exact congrArg View.canon (lhs_run c arg1 harg1 arg9 arg10 x0)

/-- The first step's zero points. -/
theorem outAs4 : out0_A_s4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (zpPieces (xbRows arg9 (ldX arg1 harg1 x0))) := by
  unfold out0_A_s4
  rw [View.read_writes_junk_eq_canon]
  exact congrArg View.canon (zp_run c arg1 harg1 arg9 x0)

/-- The first step's scales of rows. -/
theorem outAs5 : out0_A_s5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (scPieces (xbRows arg9 (ldX arg1 harg1 x0))) := by
  unfold out0_A_s5
  rw [View.read_writes_junk_eq_canon]
  exact congrArg View.canon (sc_run c arg1 harg1 arg9 x0)

/-- The first step's block of the product. -/
theorem outA4 : out0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = View.canon (yPieces (accN arg2 arg11 arg12 arg13 arg14 arg15 (harg2.unread x1)
        (arg11.view.writes (Elt F) arg11.view.junk (lhsPieces (xbRows arg9 (ldX arg1 harg1 x0)) arg10))
        (arg12.view.writes (Elt F) arg12.view.junk (zpPieces (xbRows arg9 (ldX arg1 harg1 x0))))
        (arg13.view.writes (Elt F) arg13.view.junk (scPieces (xbRows arg9 (ldX arg1 harg1 x0))))
        (arg14.view.writes (Elt F) arg14.view.junk (hsPieces (ldS arg3 harg3 x2)))
        (arg15.view.writes (Elt F) arg15.view.junk (hsPieces (ldS arg4 harg4 x3))) k0_t1_loop.trips le_rfl) arg16) := by
  unfold out0_A_4
  rw [View.read_writes_junk_eq_canon, ← lhs_run c, ← zp_run c, ← sc_run c, ← hs_runA c arg3 harg3 x2, ← hz_runA c arg4 harg4 x3,
    ← y_runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3]
  rfl

end A

section B
variable (c : Dev nD) (i : grid0.Coords) (arg1 : Memref sig .tc .vmem S3x9216 .bf16) (harg1 : arg1.IsWhole) (arg2 : Memref sig .tc .vmem S2x1024x1152 .i8) (harg2 : arg2.IsWhole) (arg3 : Memref sig .tc .vmem S72x1024 .f32) (harg3 : arg3.IsWhole) (arg4 : Memref sig .tc .vmem S72x1024 .f32) (harg4 : arg4.IsWhole) (arg5 : Memref sig .tc .vmem S3x1024 .bf16) (harg5 : arg5.IsWhole) (arg6 : Memref sig .tc .vmem S3x8x2304 .i8) (harg6 : arg6.IsWhole) (arg7 : Memref sig .tc .vmem S3x72 .f32) (harg7 : arg7.IsWhole) (arg8 : Memref sig .tc .vmem S18x24x128 .f32) (harg8 : arg8.IsWhole) (arg9 : Memref sig .tc .vmem S216x128 .f32) (harg9 : arg9.IsWhole) (arg10 : Memref sig .tc .vmem S4x1152x128 .f32) (harg10 : arg10.IsWhole) (arg11 : Memref sig .tc .vmem S3x1152x512 .bf16) (harg11 : arg11.IsWhole) (arg12 : Memref sig .tc .vmem S1152x128 .f32) (harg12 : arg12.IsWhole) (arg13 : Memref sig .tc .vmem S1152x128 .f32) (harg13 : arg13.IsWhole) (arg14 : Memref sig .tc .vmem S2x576x128 .f32) (harg14 : arg14.IsWhole) (arg15 : Memref sig .tc .vmem S2x576x128 .f32) (harg15 : arg15.IsWhole) (arg16 : Memref sig .tc .vmem S2x16x128 .f32) (harg16 : arg16.IsWhole) (hc0 : ¬cond0_0 i)
    (x0 : Vec F S3x9216 .bf16) (x1 : Vec F S2x1024x1152 .i8) (x2 x3 : Vec F S72x1024 .f32) (xo5 : Vec F S3x8x2304 .i8) (xo6 : Vec F S3x72 .f32)
    (xs3 : Vec F S3x1152x512 .bf16) (xs4 xs5 : Vec F S1152x128 .f32)

/-- A later step's block of the product. -/
theorem outB4 : out0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xo5 xo6 xs3 xs4 xs5 = View.canon (yPieces (accN arg2 arg11 arg12 arg13 arg14 arg15 (harg2.unread x1) (harg11.unread xs3) (harg12.unread xs4) (harg13.unread xs5)
        (arg14.view.writes (Elt F) arg14.view.junk (hsPieces (ldS arg3 harg3 x2)))
        (arg15.view.writes (Elt F) arg15.view.junk (hsPieces (ldS arg4 harg4 x3))) k0_t1_loop.trips le_rfl) arg16) := by
  unfold out0_B_4
  rw [View.read_writes_junk_eq_canon, ← hs_runB c arg3 harg3 x2, ← hz_runB c arg4 harg4 x3,
    ← y_runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 xs3 xs4 xs5]
  rfl

end B

end Cert.KernelIdeal.Model

end
-- ==== Proof.KernelIdeal.Final.lean ====
module

public import proofs.«01_k».proof.Proof.KernelIdeal.Buffers
public import Idealize.ShloMosaic.Lib.Pipeline.ValueKit
public import Idealize.ShloMosaic.Lib.Claim

/-! The three result arrays after the run, over the extended reals. -/

@[expose] public section

set_option maxRecDepth 16384

noncomputable section

namespace Cert.KernelIdeal.Model

open Cert.KernelIdeal Cert.KernelIdeal.Gen Cert.KernelIdeal.Run
open Idealize.ShloMosaic Idealize.ShloMosaic.TcCoe
open Cert.Spec (accZ szp yterm)

section Bufs
variable (X : Fin 3 → Fin 9216 → EReal)
  (arg1 : Memref sig .tc .vmem S3x9216 .bf16) (harg1 : arg1.IsWhole) (x0 : Vec Ideal S3x9216 .bf16)
  (hx : ∀ (t : Fin 3) (l : Fin 9216), x0 (ix2 t l) = X t l)

include hx in
/-- The 72 column blocks of the input. -/
theorem cols : Cols X (ldX arg1 harg1 x0) := fun k t l => by
  unfold ldX
  rw [View.readAt_apply, harg1.read_unread, ← hx]
  refine congrArg x0 (funext fun a => Fin.ext ?_)
  match a with
  | 0 => show 0 + 1 * t.val = t.val; omega
  | 1 => show 128 * k.val + 1 * l.val = 128 * k.val + l.val; omega

/-- A column block of the weight scales or zeros. -/
theorem ldS_at (arg3 : Memref sig .tc .vmem S72x1024 .f32) (harg3 : arg3.IsWhole) (x2 : Vec Ideal S72x1024 .f32) (k : Fin 8) (g : Fin 72) (l : Fin 128) :
    ldS arg3 harg3 x2 k (ix2 g l) = x2 (ix2 g ⟨128 * k.val + l.val, by omega⟩) := by
  unfold ldS
  rw [View.readAt_apply, harg3.read_unread]
  refine congrArg x2 (funext fun a => Fin.ext ?_)
  match a with
  | 0 => show 0 + 1 * g.val = g.val; omega
  | 1 => show 128 * k.val + 1 * l.val = 128 * k.val + l.val; omega

/-- The scratch rows of the weight scales or zeros, after the lanes were split by their last two bits. -/
theorem hs_bufs (arg3 : Memref sig .tc .vmem S72x1024 .f32) (harg3 : arg3.IsWhole) (x2 : Vec Ideal S72x1024 .f32)
    (arg14 : Memref sig .tc .vmem S2x576x128 .f32) (h : Fin 2) (g : Fin 72) (r : Fin 8) (l : Fin 128) :
    arg14.view.read (Elt Ideal) (arg14.view.writes (Elt Ideal) arg14.view.junk (hsPieces (ldS arg3 harg3 x2))) (ix3 h ⟨8 * g.val + r.val, by omega⟩ l)
      = x2 (ix2 g ⟨512 * h.val + 4 * l.val + r.val % 4, by omega⟩) := by
  rw [View.read_writes_junk_eq_canon, hs_at, ldS_at]
  exact congrArg (fun o => x2 (ix2 g o)) (Fin.ext (by dsimp only; omega))

variable (arg2 : Memref sig .tc .vmem S2x1024x1152 .i8) (harg2 : arg2.IsWhole) (arg3 arg4 : Memref sig .tc .vmem S72x1024 .f32) (harg3 : arg3.IsWhole) (harg4 : arg4.IsWhole)
  (arg9 : Memref sig .tc .vmem S216x128 .f32) (arg10 : Memref sig .tc .vmem S4x1152x128 .f32) (arg11 : Memref sig .tc .vmem S3x1152x512 .bf16)
  (arg12 arg13 : Memref sig .tc .vmem S1152x128 .f32) (arg14 arg15 : Memref sig .tc .vmem S2x576x128 .f32)
  (x1 : Vec Ideal S2x1024x1152 .i8) (x2 x3 : Vec Ideal S72x1024 .f32)

include hx in
/-- What the loop's buffers hold in the first grid step, which has just filled them. -/
theorem bufsA : Bufs X (xbRows arg9 (ldX arg1 harg1 x0)) x1 x2 x3 arg2 arg11 arg12 arg13 arg14 arg15 (harg2.unread x1)
    (arg11.view.writes (Elt Ideal) arg11.view.junk (lhsPieces (xbRows arg9 (ldX arg1 harg1 x0)) arg10))
    (arg12.view.writes (Elt Ideal) arg12.view.junk (zpPieces (xbRows arg9 (ldX arg1 harg1 x0))))
    (arg13.view.writes (Elt Ideal) arg13.view.junk (scPieces (xbRows arg9 (ldX arg1 harg1 x0))))
    (arg14.view.writes (Elt Ideal) arg14.view.junk (hsPieces (ldS arg3 harg3 x2)))
    (arg15.view.writes (Elt Ideal) arg15.view.junk (hsPieces (ldS arg4 harg4 x3))) where
  rows t := xbRows_at X _ (cols X arg1 harg1 x0 hx) arg9 t
  planes := harg2.read_unread x1
  left d g t b c := by rw [View.read_writes_junk_eq_canon, lhs_at]
  zp g t b l := by
    rw [View.read_writes_junk_eq_canon, zpPieces, row_at]
    exact zpG_at X t _ (xbRows_at X _ (cols X arg1 harg1 x0 hx) arg9 t) g l
  sc g t b l := by
    rw [View.read_writes_junk_eq_canon, scPieces, row_at]
    exact scG_at X t _ (xbRows_at X _ (cols X arg1 harg1 x0 hx) arg9 t) g l
  hs := hs_bufs arg3 harg3 x2 arg14
  hz := hs_bufs arg4 harg4 x3 arg15

include hx in
/-- What the loop's buffers hold in a later grid step: the same, kept from the first. -/
theorem bufsB (a9 : Memref sig .tc .vmem S216x128 .f32) (harg11 : arg11.IsWhole) (harg12 : arg12.IsWhole) (harg13 : arg13.IsWhole) :
    Bufs X (xbRows a9 (ldX arg1 harg1 x0)) x1 x2 x3 arg2 arg11 arg12 arg13 arg14 arg15 (harg2.unread x1)
    (harg11.unread (View.canon (lhsPieces (xbRows a9 (ldX arg1 harg1 x0)) arg10)))
    (harg12.unread (View.canon (zpPieces (xbRows a9 (ldX arg1 harg1 x0)))))
    (harg13.unread (View.canon (scPieces (xbRows a9 (ldX arg1 harg1 x0)))))
    (arg14.view.writes (Elt Ideal) arg14.view.junk (hsPieces (ldS arg3 harg3 x2)))
    (arg15.view.writes (Elt Ideal) arg15.view.junk (hsPieces (ldS arg4 harg4 x3))) where
  rows t := xbRows_at X _ (cols X arg1 harg1 x0 hx) a9 t
  planes := harg2.read_unread x1
  left d g t b c := by rw [harg11.read_unread, lhs_at]
  zp g t b l := by
    rw [harg12.read_unread, zpPieces, row_at]
    exact zpG_at X t _ (xbRows_at X _ (cols X arg1 harg1 x0 hx) a9 t) g l
  sc g t b l := by
    rw [harg13.read_unread, scPieces, row_at]
    exact scG_at X t _ (xbRows_at X _ (cols X arg1 harg1 x0 hx) a9 t) g l
  hs := hs_bufs arg3 harg3 x2 arg14
  hz := hs_bufs arg4 harg4 x3 arg15

end Bufs

variable (m : (ℓ : Loc nD τ sig) → Buf (Elt Ideal) ℓ)

/-- The first argument, by token and column. -/
def argX (c : Dev nD) : Fin 3 → Fin 9216 → EReal := fun t l => (show Vec Ideal S3x1x9216 .bf16 from m ((c : Thread nD τ).loc main_arg0)) (ix3 t 0 l)

/-- The block of each array that a grid step works on. -/
theorem idx : ∀ t : Fin cfg0.N, win0_0.index t = ![0, 0] ∧ win0_1.index t = ![0, t.val, 0] ∧ win0_2.index t = ![0, t.val] ∧ win0_3.index t = ![0, t.val]
    ∧ win0_4.index t = ![0, t.val] ∧ win0_5.index t = ![0, 0, 0] ∧ win0_6.index t = ![0, 0] :=
  (by decide +kernel : ∀ t : Fin grid0.N, _)

/-- A grid step's first input is the whole first argument. -/
theorem x0_at (c : Dev nD) (t : Fin cfg0.N) (s : Fin 3) (l : Fin 9216) : (show Vec Ideal S3x9216 .bf16 from iblk m c 0 t) (ix2 s l) = argX m c s l := by
  unfold argX
  blk_point [iblk, idx t]

/-- A grid step's second input is its 1024 rows of the bit planes. -/
theorem x1_at (c : Dev nD) (t : Fin cfg0.N) (p : Fin 2) (o : Fin 1024) (j : Fin 1152) (ho : 1024 * t.val + o.val < 24576) :
    (show Vec Ideal S2x1024x1152 .i8 from iblk m c 1 t) (ix3 p o j)
      = (show Vec Ideal S2x24576x1152 .i8 from m ((c : Thread nD τ).loc main_arg1)) (ix3 p ⟨1024 * t.val + o.val, ho⟩ j) := by
  blk_point [iblk, V, idx t]

/-- A grid step's third input is its 1024 rows of the weight scales, transposed. -/
theorem x2_at (c : Dev nD) (t : Fin cfg0.N) (g : Fin 72) (o : Fin 1024) (ho : 1024 * t.val + o.val < 24576) :
    (show Vec Ideal S72x1024 .f32 from iblk m c 2 t) (ix2 g o)
      = (show Vec Ideal S24576x72 .f32 from m ((c : Thread nD τ).loc main_arg2)) (ix2 ⟨1024 * t.val + o.val, ho⟩ g) := by
  blk_point [iblk, idx t]

/-- A grid step's fourth input is its 1024 rows of the weight zeros, transposed. -/
theorem x3_at (c : Dev nD) (t : Fin cfg0.N) (g : Fin 72) (o : Fin 1024) (ho : 1024 * t.val + o.val < 24576) :
    (show Vec Ideal S72x1024 .f32 from iblk m c 3 t) (ix2 g o)
      = (show Vec Ideal S24576x72 .f32 from m ((c : Thread nD τ).loc main_arg3)) (ix2 ⟨1024 * t.val + o.val, ho⟩ g) := by
  blk_point [iblk, idx t]

/-- The codes as a function of the first argument. -/
def codesF (X : Fin 3 → Fin 9216 → EReal) : Vec Ideal S3x8x2304 .i8 := fun j => Spec.codeB X (j 0) (j 2) (j 1)
/-- The scales as a function of the first argument. -/
def scaleF (X : Fin 3 → Fin 9216 → EReal) : Vec Ideal S3x72 .f32 := fun j => Spec.scale X (j 0) (j 1)
/-- The product as a function of the arguments: one term for each of the 72 groups. -/
def yF (X : Fin 3 → Fin 9216 → EReal) (W : Vec Ideal S2x24576x1152 .i8) (S Z : Vec Ideal S24576x72 .f32) : Vec Ideal S3x24576 .bf16 := fun j =>
  ∑ g : Fin 72, yterm (accZ X (j 0) g fun p i => W (ix3 p (j 1) ⟨16 * g.val + i.val, by omega⟩)) (szp X (j 0) g) (Spec.scale X (j 0) g)
    (S (ix2 (j 1) g)) (Z (ix2 (j 1) g))

/-- The codes the first grid step leaves, at an index. -/
theorem codesAt_at (c : Dev nD) (t : Fin 3) (e : Fin 8) (q : Fin 2304) : codesAt m c (ix3 t e q) = Spec.codeB (argX m c) t q e := by
  unfold codesAt
  rw [outA5]
  exact codes_spec (argX m c) _ (cols (argX m c) _ _ _ (x0_at m c t₀)) _ t e q

/-- The scales the first grid step leaves, at an index. -/
theorem scaleAt_at (c : Dev nD) (t : Fin 3) (n : Fin 72) : scaleAt m c (ix2 t n) = Spec.scale (argX m c) t n := by
  unfold scaleAt
  rw [outA6]
  exact scale_spec (argX m c) _ (cols (argX m c) _ _ _ (x0_at m c t₀)) t n

theorem codesAt_eq (c : Dev nD) : codesAt m c = codesF (argX m c) := by
  funext j
  idx_vars j
  exact codesAt_at m c _ _ _

theorem scaleAt_eq (c : Dev nD) : scaleAt m c = scaleF (argX m c) := by
  funext j
  idx_vars j
  exact scaleAt_at m c _ _

/-- The block of the product that a grid step leaves, at an index. -/
theorem yAt_at (c : Dev nD) (t : Fin cfg0.N) (s : Fin 3) (o : Fin 1024) :
    yAt m c t (ix2 s o) = ∑ g : Fin 72, yg (argX m c) (iblk m c 1 t) (iblk m c 2 t) (iblk m c 3 t) s o g := by
  unfold yAt
  split
  · rw [outA4]
    exact y_block _ _ _ _ _ _ _ _ _ _ _ _ _ _ _ _ _ _ (bufsA (argX m c) _ _ _ (x0_at m c t) _ _ _ _ _ _ _ _ _ _ _ _ _ _ _ _) s o
  · rw [outB4]
    unfold lhsAt zpAt scAt
    rw [outAs3, outAs4, outAs5]
    exact y_block _ _ _ _ _ _ _ _ _ _ _ _ _ _ _ _ _ _ (bufsB (argX m c) _ _ _ (x0_at m c t₀) _ _ _ _ _ _ _ _ _ _ _ _ _ _ _ _ _ _ _) s o

/-- The array of codes at the end of the grid. -/
theorem final_codes (c : Dev nD) : (dats m 0 c).arrAt 5 (cfgs 0).N = codesF (argX m c) := by
  refine (dats m 0 c).arrAt_eq_of_covers 5 _ (by decide +kernel) fun t hf y => ?_
  blk_simp
  rw [after0_5, codesAt_eq]
  generalize codesF (argX m c) = G
  idx_vars y
  refine congrArg G ?_
  blk_ext [idx t]

/-- The array of scales at the end of the grid. -/
theorem final_scale (c : Dev nD) : (dats m 0 c).arrAt 6 (cfgs 0).N = scaleF (argX m c) := by
  refine (dats m 0 c).arrAt_eq_of_covers 6 _ (by decide +kernel) fun t hf y => ?_
  blk_simp
  rw [after0_6, scaleAt_eq]
  generalize scaleF (argX m c) = G
  idx_vars y
  refine congrArg G ?_
  blk_ext [idx t]

/-- The array of the product at the end of the grid. -/
theorem final_y (c : Dev nD) : (dats m 0 c).arrAt 4 (cfgs 0).N
    = yF (argX m c) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  idx_vars y
  refine (yAt_at m c t _ _).trans ?_
  have ht : t.val < 24 := lt_of_lt_of_eq t.isLt N_0
  have ho : 1024 * t.val + y1.val < 24576 := by omega
  refine Eq.trans ?_ (congrArg (yF (argX m c) (m ((c : Thread nD τ).loc main_arg1)) (m ((c : Thread nD τ).loc main_arg2)) (m ((c : Thread nD τ).loc main_arg3)))
    (?_ : ix2 y0 ⟨1024 * t.val + y1.val, ho⟩ = _))
  · refine Finset.sum_congr rfl fun g _ => ?_
    unfold yg
    refine congr (congr (congrFun (congrFun (congrArg yterm (congrArg (accZ (argX m c) y0 g) (funext fun p => funext fun i => ?_))) _) _) ?_) ?_
    · exact x1_at m c t p y1 _ ho
    · exact x2_at m c t g y1 ho
    · exact x3_at m c t g y1 ho
  · blk_ext [idx t]

end Cert.KernelIdeal.Model

end
-- ==== Proof.ReferenceIdeal.Tables.lean ====
module

public import proofs.«01_k».proof.Proof.Gen.ReferenceIdeal.Run
public import proofs.«01_k».proof.Proof.SpecLookup
public import Idealize.ShloMosaic.Lib.Pointwise
public import Idealize.ShloMosaic.Lib.Pipeline.ValueKit

/-! The reference's tables, scales and codes at an index, over the extended reals. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo

variable (V0 : Valuation τ sig (Elt Ideal))

/-- The four arguments. -/
def argX : Fin 3 → Fin 9216 → EReal := fun t l => (V0 (Proc.devRef .tc main_arg0) : Vec Ideal S3x1x9216 .bf16) (ix3 t 0 l)

/-- The input, cast and reshaped, at an index. -/
theorem v1_at (t : Fin 3) (q : Fin 2304) (i : Fin 4) :
    (res_main_v1 V0 : FVec Ideal S3x2304x4 .f32) (ix3 t q i) = argX V0 t ⟨4 * q.val + i.val, by omega⟩ := by
  unfold res_main_v1 argX
  generalize V0 (Proc.devRef .tc main_arg0) = x
  pointwise
  exact congrArg (fun l => x (ix3 t 0 l)) (Fin.ext (by dsimp only; omega))

theorem lit0_at : ∀ e : Fin 8, lit0 e = Spec.sgnB e 0 := by decide
theorem lit1_at : ∀ e : Fin 8, lit1 e = Spec.sgnB e 1 := by decide
theorem lit2_at : ∀ e : Fin 8, lit2 e = Spec.sgnB e 2 := by decide
theorem lit3_at : ∀ e : Fin 8, 3212836864#32 = Spec.sgnB e 3 := by decide

/-- The tables at an index. -/
theorem v27_at (t : Fin 3) (g : Fin 72) (r : Fin 32) (e : Fin 8) :
    (res_main_v27 V0 : FVec Ideal S3x72x32x8 .f32) (ix4 t g r e) = Spec.tab (argX V0) t ⟨32 * g.val + r.val, by omega⟩ e := by
  have h1 := v1_at V0 t ⟨32 * g.val + r.val, by omega⟩
  unfold res_main_v27
  generalize res_main_v1 V0 = x at h1 ⊢
  pointwise
  have e0 : (S8.rowMajor (ix1 e) : Fin 8) = e := Fin.ext (Shape.rowMajor_val_one (ix1 e))
  have l0 : lit0 (S8.rowMajor (ix1 e)) = Spec.sgnB e 0 := (congrArg lit0 e0).trans (lit0_at e)
  have l1 : lit1 (S8.rowMajor (ix1 e)) = Spec.sgnB e 1 := (congrArg lit1 e0).trans (lit1_at e)
  have l2 : lit2 (S8.rowMajor (ix1 e)) = Spec.sgnB e 2 := (congrArg lit2 e0).trans (lit2_at e)
  have l3 : 3212836864#32 = Spec.sgnB e 3 := lit3_at e
  have hq : (⟨g.val * 32 + r.val, by omega⟩ : Fin 2304) = ⟨32 * g.val + r.val, by omega⟩ := Fin.ext (by dsimp only; omega)
  rw [l0, l1, l2, l3, hq, h1, h1, h1, h1]
  rfl

/-- The greatest magnitudes of the groups. -/
theorem v29_at (t : Fin 3) (n : Fin 72) :
    (res_main_v29 V0 : FVec Ideal S3x72 .f32) (ix2 t n) = Spec.top (argX V0) t n := by
  have h1 := v27_at V0
  unfold res_main_v29
  generalize res_main_v27 V0 = x at h1 ⊢
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [Host.reduce_eq_fold]
  refine eq_of_forall_ge_iff (α := EReal) fun c => ?_
  refine (Finset.fold_max_le (β := EReal) c).trans ?_
  unfold Spec.top
  simp only [iSup_le_iff]
  constructor
  · intro ⟨_, h⟩ r e
    rw [← h1]
    refine h (ix4 t n r e) (Finset.mem_filter.2 ⟨Finset.mem_univ _, ?_⟩)
    exact funext fun a => match (a : Fin 2) with
      | 0 => rfl
      | 1 => rfl
  · intro h
    refine ⟨(show Ideal.ofBits .f32 0xFF800000#32 ≤ c from Spec.cbot ▸ bot_le), fun i hi => ?_⟩
    have hd := (Finset.mem_filter.1 hi).2
    idx_vars i
    obtain rfl : i0 = t := congrFun hd 0
    obtain rfl : i1 = n := congrFun hd 1
    have := h i2 i3
    rw [← h1] at this
    exact this

/-- The scales. -/
theorem v34_at (t : Fin 3) (n : Fin 72) :
    (res_main_v34 V0 : FVec Ideal S3x72 .f32) (ix2 t n) = Spec.scale (argX V0) t n := by
  unfold res_main_v34 Spec.scale
  rw [← v29_at]
  generalize res_main_v29 V0 = x
  rfl

/-- The codes, as bytes. -/
theorem v41_at (t : Fin 3) (g : Fin 72) (r : Fin 32) (e : Fin 8) :
    (res_main_v41 V0 : IVec S3x72x32x8 8) (ix4 t g r e) = Spec.codeB (argX V0) t ⟨32 * g.val + r.val, by omega⟩ e := by
  have h1 := v27_at V0 t g r e
  have h2 := v34_at V0 t g
  unfold res_main_v41
  generalize res_main_v27 V0 = x at h1 ⊢
  generalize res_main_v34 V0 = y at h2 ⊢
  have c1 : FloatOps.sitofp (F := Ideal) .f32 127#32 = Ideal.ofBits .f32 0x42FE0000#32 := by
    rw [Spec.c127]
    show (((127#32 : BitVec 32).toInt : ℝ) : EReal) = _
    rw [show (127#32 : BitVec 32).toInt = 127 from by decide]
    norm_cast
  have c2 : FloatOps.sitofp (F := Ideal) .f32 4294967169#32 = Ideal.ofBits .f32 0xC2FE0000#32 := by
    rw [Spec.cn127]
    show (((4294967169#32 : BitVec 32).toInt : ℝ) : EReal) = _
    rw [show (4294967169#32 : BitVec 32).toInt = -127 from by decide]
    norm_cast
  pointwise
  rw [c1, c2, h1, h2]
  unfold Spec.codeB Spec.code
  refine congrArg (fun s => (Ideal.fptosi 32 (Spec.cod _ (Spec.scale (argX V0) t s))).setWidth 8) (Fin.ext ?_)
  dsimp only
  omega

end Cert.ReferenceIdeal.Value

end
-- ==== Proof.ReferenceIdeal.Words.lean ====
module

public import proofs.«01_k».proof.Proof.ReferenceIdeal.Tables
public import proofs.«01_k».proof.Proof.SpecTerm

/-! The reference's integer sums at an index. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo

/-! ## One half byte -/

/-- The lower and the upper half of a byte, its mirror bit, and its index in the table. -/
def loN (p : BitVec 8) : BitVec 32 := IntOp.andi (p.setWidth 32) 15#32
def hiN (p : BitVec 8) : BitVec 32 := IntOp.shrsi .host (p.setWidth 32) 4#32
def mirN (n : BitVec 32) : BitVec 32 := IntOp.shrsi .host n 3#32
def idxN (n : BitVec 32) : BitVec 32 := IntOp.xori n (IntOp.muli (mirN n) 15#32)

/-- The tests of a half byte are its bits `b0 … b3`. -/
def Tests (n : BitVec 32) (b0 b1 b2 b3 : Bool) : Prop :=
  IntOp.cmpi .ne (IntOp.andi (idxN n) 1#32) 0#32 = BitVec.ofBool (b0 ^^ b3)
    ∧ IntOp.cmpi .ne (IntOp.andi (idxN n) 2#32) 0#32 = BitVec.ofBool (b1 ^^ b3)
    ∧ IntOp.cmpi .ne (IntOp.andi (idxN n) 4#32) 0#32 = BitVec.ofBool (b2 ^^ b3)
    ∧ IntOp.cmpi .ne (mirN n) 0#32 = BitVec.ofBool b3

instance (n : BitVec 32) (b0 b1 b2 b3 : Bool) : Decidable (Tests n b0 b1 b2 b3) := by unfold Tests; infer_instance

/-- The tests of every byte's two halves. -/
theorem tests_fin : ∀ p : Fin (2 ^ 8),
    Tests (loN ⟨p⟩) (BitVec.getLsbD ⟨p⟩ 0) (BitVec.getLsbD ⟨p⟩ 1) (BitVec.getLsbD ⟨p⟩ 2) (BitVec.getLsbD ⟨p⟩ 3)
      ∧ Tests (hiN ⟨p⟩) (BitVec.getLsbD ⟨p⟩ 4) (BitVec.getLsbD ⟨p⟩ 5) (BitVec.getLsbD ⟨p⟩ 6) (BitVec.getLsbD ⟨p⟩ 7) := by
  decide +kernel

/-- The tests of a byte's two halves are its bits. -/
theorem tests (p : BitVec 8) :
    Tests (loN p) (p.getLsbD 0) (p.getLsbD 1) (p.getLsbD 2) (p.getLsbD 3) ∧ Tests (hiN p) (p.getLsbD 4) (p.getLsbD 5) (p.getLsbD 6) (p.getLsbD 7) :=
  tests_fin p.toFin

/-- The selection of an entry by three tests. -/
def selW (c : Fin 8 → BitVec 32) (k0 k1 k2 : BitVec 1) : BitVec 32 :=
  Scalar.select k2
    (Scalar.select k1 (Scalar.select k0 (c 7) (c 6)) (Scalar.select k0 (c 5) (c 4)))
    (Scalar.select k1 (Scalar.select k0 (c 3) (c 2)) (Scalar.select k0 (c 1) (c 0)))

/-- The selection is the entry with that number. -/
theorem selW_pick (z : Fin 8 → ℤ) (k0 k1 k2 : Bool) :
    selW (fun e => BitVec.ofInt 32 (z e)) (BitVec.ofBool k0) (BitVec.ofBool k1) (BitVec.ofBool k2) = BitVec.ofInt 32 (Spec.pick8 z k0 k1 k2) := by
  cases k0 <;> cases k1 <;> cases k2 <;> rfl

/-- The mirrored lookup. -/
def lookW (c : Fin 8 → BitVec 32) (n : BitVec 32) : BitVec 32 :=
  let v := selW c (IntOp.cmpi .ne (IntOp.andi (idxN n) 1#32) 0#32) (IntOp.cmpi .ne (IntOp.andi (idxN n) 2#32) 0#32) (IntOp.cmpi .ne (IntOp.andi (idxN n) 4#32) 0#32)
  Scalar.select (IntOp.cmpi .ne (mirN n) 0#32) (-v) v

/-- The lookup in words is the lookup in integers. -/
theorem lookW_look (z : Fin 8 → ℤ) (n : BitVec 32) (b0 b1 b2 b3 : Bool) (h : Tests n b0 b1 b2 b3) :
    lookW (fun e => BitVec.ofInt 32 (z e)) n = BitVec.ofInt 32 (Spec.look z b0 b1 b2 b3) := by
  obtain ⟨h0, h1, h2, h3⟩ := h
  unfold lookW
  rw [h0, h1, h2, h3, selW_pick]
  unfold Spec.look
  cases b3
  · rfl
  · exact (BitVec.ofInt_neg).symm

/-! ## Sums of words -/

/-- A sum of words is the word of the integers' sum. -/
theorem fold_ofInt {ι : Type} (s : Finset ι) (x : ι → BitVec 32) (f : ι → ℤ) (h : ∀ i, x i = BitVec.ofInt 32 (f i)) :
    s.fold IntOp.addi 0#32 x = BitVec.ofInt 32 (∑ i ∈ s, f i) := by
  classical
  induction s using Finset.induction_on with
  | empty => rfl
  | insert a s ha ih =>
    rw [Finset.fold_insert ha, ih, Finset.sum_insert ha, h, BitVec.ofInt_add]
    rfl

/-- A small integer is the word's integer. -/
theorem toInt_small (z : ℤ) (h0 : -100000 ≤ z) (h1 : z ≤ 100000) : (BitVec.ofInt 32 z).toInt = z := by
  rw [BitVec.toInt_ofInt, Int.bmod_def]
  norm_num
  omega

/-- A small integer's word, cast to a float. -/
theorem sitofp_ofInt (z : ℤ) (h0 : -100000 ≤ z) (h1 : z ≤ 100000) : FloatOps.sitofp (F := Ideal) .f32 (BitVec.ofInt 32 z) = ((z : ℝ) : EReal) := by
  show (((BitVec.ofInt 32 z).toInt : ℝ) : EReal) = _
  rw [toInt_small z h0 h1]

variable (V0 : Valuation τ sig (Elt Ideal))

/-! ## The arrays of words -/

/-- The lookups of the lower halves. -/
def loW : IVec S3x2x24576x1152 32 := select (broadcastInDim S3x2x24576x1152 ![0, 1, 2, 3] bcast_S1x2x24576x1152_S3x2x24576x1152_0_1_2_3 (cmpi .ne (res_main_v60 V0) (broadcastInDim S1x2x24576x1152 ![] bcast_S_S1x2x24576x1152 (constantI S_ 32 0#32)))) (negi (res_main_v106 V0)) (res_main_v106 V0)
def hiW : IVec S3x2x24576x1152 32 := select (broadcastInDim S3x2x24576x1152 ![0, 1, 2, 3] bcast_S1x2x24576x1152_S3x2x24576x1152_0_1_2_3 (cmpi .ne (res_main_v114 V0) (broadcastInDim S1x2x24576x1152 ![] bcast_S_S1x2x24576x1152 (constantI S_ 32 0#32)))) (negi (res_main_v160 V0)) (res_main_v160 V0)
/-- The lookups of both halves. -/
def bothW : IVec S3x2x24576x1152 32 := addi (loW V0) (hiW V0)
/-- Their sums over a group's sixteen bytes. -/
def partW : IVec S3x2x24576x72 32 := Host.reduce IntOp.addi (shapeCast _ (bothW V0) shapeCasts_S3x2x24576x1152_S3x2x24576x72x16) (constantI S_ 32 0#32) reducesTo_S3x2x24576x72x16_S3x2x24576x72_d4 h_S_
/-- The powers of two. -/
def powW : IVec S2 32 := select (cmpi .ne (andi (res_main_v214 V0) (broadcastInDim S2 ![] bcast_S_S2 (constantI S_ 32 1#32))) (broadcastInDim S2 ![] bcast_S_S2 (constantI S_ 32 0#32))) (muli (res_main_v211 V0) (broadcastInDim S2 ![] bcast_S_S2 (res_main_v212 V0))) (res_main_v211 V0)
/-- The sums over the planes. -/
def accW : IVec S3x24576x72 32 := Host.reduce IntOp.addi (muli (partW V0) (broadcastInDim S3x2x24576x72 ![0, 1, 2, 3] bcast_S1x2x1x1_S3x2x24576x72_0_1_2_3 (broadcastInDim S1x2x1x1 ![1] bcast_S2_S1x2x1x1_1 (powW V0)))) (constantI S_ 32 0#32) reducesTo_S3x2x24576x72_S3x24576x72_d1 h_S_
/-- The zero points. -/
def szpW : IVec S3x72 32 := negi (Host.reduce IntOp.addi (extsi 32 (shapeCast _ (extractStridedSlice S3x72x32x1 ![0, 0, 0, 0] (res_main_v41 V0) slices_S3x72x32x8_S3x72x32x1_0_0_0_0) shapeCasts_S3x72x32x1_S3x72x32) natLt_8_32) (constantI S_ 32 0#32) reducesTo_S3x72x32_S3x72_d2 h_S_)

/-- The bit planes. -/
def argW : Vec Ideal S2x24576x1152 .i8 := V0 (Proc.devRef .tc main_arg1)

theorem sext_codeZ (b : BitVec 8) : b.signExtend 32 = BitVec.ofInt 32 b.toInt := rfl

/-- The codes of the even rows. -/
theorem v58_at (t : Fin 3) (j : Fin 1152) (e : Fin 8) :
    (res_main_v58 V0 : IVec S3x1152x8 32) (ix3 t j e) = BitVec.ofInt 32 (Spec.codeZ (argX V0) t ⟨2 * j.val, by omega⟩ e) := by
  have h := v41_at V0 t ⟨j.val / 16, by omega⟩ ⟨j.val % 16 * 2, by omega⟩ e
  unfold res_main_v58 res_main_v56
  generalize res_main_v41 V0 = c at h ⊢
  pointwise
  rw [h, sext_codeZ]
  exact congrArg (fun q => BitVec.ofInt 32 (Spec.codeZ (argX V0) t q e)) (Fin.ext (by dsimp only; omega))

/-- The codes of the odd rows. -/
theorem v112_at (t : Fin 3) (j : Fin 1152) (e : Fin 8) :
    (res_main_v112 V0 : IVec S3x1152x8 32) (ix3 t j e) = BitVec.ofInt 32 (Spec.codeZ (argX V0) t ⟨2 * j.val + 1, by omega⟩ e) := by
  have h := v41_at V0 t ⟨j.val / 16, by omega⟩ ⟨j.val % 16 * 2 + 1, by omega⟩ e
  unfold res_main_v112 res_main_v56
  generalize res_main_v41 V0 = c at h ⊢
  pointwise
  rw [h, sext_codeZ]
  exact congrArg (fun q => BitVec.ofInt 32 (Spec.codeZ (argX V0) t q e)) (Fin.ext (by dsimp only; omega))

/-- The lower halves of the bytes. -/
theorem v50_at (p : Fin 2) (o : Fin 24576) (j : Fin 1152) :
    (res_main_v50 V0 : IVec S1x2x24576x1152 32) (ix4 0 p o j) = loN (argW V0 (ix3 p o j)) := by
  unfold res_main_v50 loN argW
  generalize V0 (Proc.devRef .tc main_arg1) = w
  pointwise

/-- The upper halves of the bytes. -/
theorem v54_at (p : Fin 2) (o : Fin 24576) (j : Fin 1152) :
    (res_main_v54 V0 : IVec S1x2x24576x1152 32) (ix4 0 p o j) = hiN (argW V0 (ix3 p o j)) := by
  unfold res_main_v54 hiN argW
  generalize V0 (Proc.devRef .tc main_arg1) = w
  pointwise

/-- The lower halves' lookups at an index. -/
theorem loW_at (t : Fin 3) (p : Fin 2) (o : Fin 24576) (j : Fin 1152) :
    loW V0 (ix4 t p o j) = lookW (fun e => (res_main_v58 V0 : IVec S3x1152x8 32) (ix3 t j e)) ((res_main_v50 V0 : IVec S1x2x24576x1152 32) (ix4 0 p o j)) := by
  unfold loW res_main_v106 res_main_v67 res_main_v71 res_main_v63 res_main_v60
  generalize res_main_v50 V0 = n
  generalize res_main_v58 V0 = c
  pointwise
  rfl

/-- The upper halves' lookups at an index. -/
theorem hiW_at (t : Fin 3) (p : Fin 2) (o : Fin 24576) (j : Fin 1152) :
    hiW V0 (ix4 t p o j) = lookW (fun e => (res_main_v112 V0 : IVec S3x1152x8 32) (ix3 t j e)) ((res_main_v54 V0 : IVec S1x2x24576x1152 32) (ix4 0 p o j)) := by
  unfold hiW res_main_v160 res_main_v121 res_main_v125 res_main_v117 res_main_v114
  generalize res_main_v54 V0 = n
  generalize res_main_v112 V0 = c
  pointwise
  rfl

/-- A byte's lookups at an index. -/
theorem bothW_at (t : Fin 3) (p : Fin 2) (o : Fin 24576) (j : Fin 1152) :
    bothW V0 (ix4 t p o j) = BitVec.ofInt 32 (Spec.byteT (argX V0) t j (argW V0 (ix3 p o j))) := by
  show loW V0 (ix4 t p o j) + hiW V0 (ix4 t p o j) = _
  rw [loW_at, hiW_at, v50_at, v54_at, funext (v58_at V0 t j), funext (v112_at V0 t j),
    lookW_look _ _ _ _ _ _ (tests _).1, lookW_look _ _ _ _ _ _ (tests _).2, ← BitVec.ofInt_add]
  rfl

/-- A plane's sum over a group at an index. -/
theorem partW_at (t : Fin 3) (p : Fin 2) (o : Fin 24576) (g : Fin 72) :
    partW V0 (ix4 t p o g) = BitVec.ofInt 32 (∑ i : Fin 16, Spec.byteT (argX V0) t ⟨16 * g.val + i.val, by omega⟩ (argW V0 (ix3 p o ⟨16 * g.val + i.val, by omega⟩))) := by
  have h := bothW_at V0 t p o
  unfold partW
  generalize bothW V0 = x at h ⊢
  rw [Host.reduce_eq_fold_single _ _ _ _ (by decide)]
  refine fold_ofInt _ _ _ fun (i : Fin 16) => ?_
  refine (congrArg (shapeCast S3x2x24576x72x16 x shapeCasts_S3x2x24576x1152_S3x2x24576x72x16) (?_ : _ = ix5 t p o g i)).trans ?_
  · exact funext fun a => match a with
      | 0 => rfl
      | 1 => rfl
      | 2 => rfl
      | 3 => rfl
      | 4 => rfl
  · refine Eq.trans ?_ (h ⟨16 * g.val + i.val, by omega⟩)
    pointwise
    exact congrArg (fun j => x (ix4 t p o j)) (Fin.ext (by dsimp only; omega))

theorem step (b : Fin 2) (n a k : IVec S2 32) (hn : n (ix1 b) = 0#32) :
    (select (cmpi .ne (andi n (broadcastInDim S2 ![] bcast_S_S2 (constantI S_ 32 1#32))) (broadcastInDim S2 ![] bcast_S_S2 (constantI S_ 32 0#32))) (muli a k) a : IVec S2 32) (ix1 b) = a (ix1 b) := by
  pointwise
  rw [hn]
  rfl

/-- The power of two of a plane. -/
theorem powW_at (b : Fin 2) : powW V0 (ix1 b) = BitVec.ofInt 32 (b.val + 1) := by
  have sh : ∀ n : IVec S2 32, n (ix1 b) = 0#32 → Host.shrui n (broadcastInDim S2 ![] bcast_S_S2 (constantI S_ 32 1#32)) (ix1 b) = 0#32 := fun n hn => by
    pointwise
    rw [hn]
    rfl
  have h1 : (res_main_v182 V0 : IVec S2 32) (ix1 b) = 0#32 := by
    unfold res_main_v182 res_main_v168
    match b with
    | 0 => rfl
    | 1 => rfl
  have h2 : (res_main_v190 V0 : IVec S2 32) (ix1 b) = 0#32 := sh _ h1
  have h3 : (res_main_v198 V0 : IVec S2 32) (ix1 b) = 0#32 := sh _ h2
  have h4 : (res_main_v206 V0 : IVec S2 32) (ix1 b) = 0#32 := sh _ h3
  have h5 : (res_main_v214 V0 : IVec S2 32) (ix1 b) = 0#32 := sh _ h4
  have h0 : (res_main_v179 V0 : IVec S2 32) (ix1 b) = BitVec.ofInt 32 (b.val + 1) := by
    unfold res_main_v179 res_main_v174 res_main_v168
    match b with
    | 0 => rfl
    | 1 => rfl
  exact (step b _ _ _ h5).trans ((step b _ _ _ h4).trans ((step b _ _ _ h3).trans ((step b _ _ _ h2).trans ((step b _ _ _ h1).trans h0))))

/-- A group's sum over both planes at an index. -/
theorem accW_at (t : Fin 3) (o : Fin 24576) (g : Fin 72) :
    accW V0 (ix3 t o g) = BitVec.ofInt 32 (Spec.accZ (argX V0) t g fun p i => argW V0 (ix3 p o ⟨16 * g.val + i.val, by omega⟩)) := by
  have h := fun p => partW_at V0 t p o g
  have hp := powW_at V0
  unfold accW
  generalize partW V0 = x at h ⊢
  generalize powW V0 = y at hp ⊢
  rw [Host.reduce_eq_fold_single _ _ _ _ (by decide)]
  refine (fold_ofInt _ _ (fun p : Fin 2 => (∑ i : Fin 16, Spec.byteT (argX V0) t ⟨16 * g.val + i.val, by omega⟩ (argW V0 (ix3 p o ⟨16 * g.val + i.val, by omega⟩))) * (p.val + 1)) fun p => ?_).trans ?_
  · refine (congrArg (muli x (broadcastInDim S3x2x24576x72 ![0, 1, 2, 3] bcast_S1x2x1x1_S3x2x24576x72_0_1_2_3 (broadcastInDim S1x2x1x1 ![1] bcast_S2_S1x2x1x1_1 y)))
      (?_ : _ = ix4 t p o g)).trans ?_
    · exact funext fun a => match a with
        | 0 => rfl
        | 1 => rfl
        | 2 => rfl
        | 3 => rfl
    · rw [BitVec.ofInt_mul, ← h, ← hp]
      pointwise
      rfl
  · refine congrArg (BitVec.ofInt 32) ((Fin.sum_univ_two _).trans ?_)
    unfold Spec.accZ
    dsimp only
    rw [show ((0 : Fin 2).val : ℤ) + 1 = 1 from rfl, show ((1 : Fin 2).val : ℤ) + 1 = 2 from rfl, mul_one, mul_comm _ (2 : ℤ)]

/-- A group's zero point at an index. -/
theorem szpW_at (t : Fin 3) (g : Fin 72) : szpW V0 (ix2 t g) = BitVec.ofInt 32 (Spec.szp (argX V0) t g) := by
  have h := fun r => v41_at V0 t g r 0
  unfold szpW
  generalize res_main_v41 V0 = x at h ⊢
  refine Eq.trans ?_ (BitVec.ofInt_neg).symm
  refine congrArg (fun w : BitVec 32 => -w) ?_
  rw [Host.reduce_eq_fold_single _ _ _ _ (by decide)]
  refine fold_ofInt _ _ _ fun r => ?_
  refine (congrArg (extsi 32 (shapeCast S3x72x32 (extractStridedSlice S3x72x32x1 ![0, 0, 0, 0] x slices_S3x72x32x8_S3x72x32x1_0_0_0_0) shapeCasts_S3x72x32x1_S3x72x32) natLt_8_32)
    (?_ : _ = ix3 t g r)).trans ?_
  · exact funext fun a => match a with
      | 0 => rfl
      | 1 => rfl
      | 2 => rfl
  · unfold Spec.codeZ
    rw [← h r, ← sext_codeZ]
    pointwise

/-! ## The product -/

/-- The product, from the words. -/
def yW : FVec Ideal S3x24576 .bf16 := truncf .bf16 (Host.reduceAdd (mulf (mulf (broadcastInDim S3x24576x72 ![0, 1, 2] bcast_S1x24576x72_S3x24576x72_0_1_2 (broadcastInDim S1x24576x72 ![1, 2] bcast_S24576x72_S1x24576x72_1_2 (mulf (V0 (Proc.devRef .tc main_arg2)) (broadcastInDim S24576x72 ![] bcast_S_S24576x72 (constant S_ .f32 0x3F000000#32))))) (broadcastInDim S3x24576x72 ![0, 1, 2] bcast_S3x1x72_S3x24576x72_0_1_2 (broadcastInDim S3x1x72 ![0, 2] bcast_S3x72_S3x1x72_0_2 (res_main_v34 V0)))) (addf (sitofp .f32 (accW V0)) (mulf (broadcastInDim S3x24576x72 ![0, 1, 2] bcast_S1x24576x72_S3x24576x72_0_1_2 (broadcastInDim S1x24576x72 ![1, 2] bcast_S24576x72_S1x24576x72_1_2 (subf (broadcastInDim S24576x72 ![] bcast_S_S24576x72 (constant S_ .f32 0x40400000#32)) (mulf (broadcastInDim S24576x72 ![] bcast_S_S24576x72 (constant S_ .f32 0x40000000#32)) (V0 (Proc.devRef .tc main_arg3)))))) (broadcastInDim S3x24576x72 ![0, 1, 2] bcast_S3x1x72_S3x24576x72_0_1_2 (broadcastInDim S3x1x72 ![0, 2] bcast_S3x72_S3x1x72_0_2 (sitofp .f32 (szpW V0))))))) (constant S_ .f32 0x00000000#32) reducesTo_S3x24576x72_S3x24576_d2 h_S_) bitsLt_bf16_f32

/-- The product at an index: one term for each of the 72 groups. -/
theorem yW_at (t : Fin 3) (o : Fin 24576) : yW V0 (ix2 t o)
    = ∑ g : Fin 72, Spec.yterm (Spec.accZ (argX V0) t g fun p i => argW V0 (ix3 p o ⟨16 * g.val + i.val, by omega⟩)) (Spec.szp (argX V0) t g)
      (Spec.scale (argX V0) t g) ((V0 (Proc.devRef .tc main_arg2) : Vec Ideal S24576x72 .f32) (ix2 o g)) ((V0 (Proc.devRef .tc main_arg3) : Vec Ideal S24576x72 .f32) (ix2 o g)) := by
  have h1 := accW_at V0 t o
  have h2 := szpW_at V0 t
  have h3 := v34_at V0 t
  unfold yW
  generalize accW V0 = a at h1 ⊢
  generalize szpW V0 = z at h2 ⊢
  generalize res_main_v34 V0 = s at h3 ⊢
  generalize V0 (Proc.devRef .tc main_arg2) = w
  generalize V0 (Proc.devRef .tc main_arg3) = w'
  pointwise
  refine Finset.sum_congr rfl fun g _ => ?_
  rw [h1, h2, h3, Spec.c05, Spec.c3, Spec.c2]
  have ha : FloatOps.sitofp (F := Ideal) .f32 (BitVec.ofInt 32 (Spec.accZ (argX V0) t g fun p i => argW V0 (ix3 p o ⟨16 * g.val + i.val, by omega⟩)))
      = (((Spec.accZ (argX V0) t g fun p i => argW V0 (ix3 p o ⟨16 * g.val + i.val, by omega⟩) : ℤ) : ℝ) : EReal) :=
    sitofp_ofInt _ (Spec.accZ_bd _ _ _ _).1 (Spec.accZ_bd _ _ _ _).2
  have hz : FloatOps.sitofp (F := Ideal) .f32 (BitVec.ofInt 32 (Spec.szp (argX V0) t g)) = (((Spec.szp (argX V0) t g : ℤ) : ℝ) : EReal) :=
    sitofp_ofInt _ (Spec.szp_bd _ _ _).1 (Spec.szp_bd _ _ _).2
  rw [ha, hz]
  rfl

end Cert.ReferenceIdeal.Value

end
-- ==== Proof.Algebraic.lean ====
module

public import proofs.«01_k».proof.Defs
public import proofs.«01_k».proof.Proof.KernelIdeal.Final
public import proofs.«01_k».proof.Proof.ReferenceIdeal.Words
public import Idealize.ShloMosaic.Lib.Claim

/-! The idealized kernel and the reference leave the same three results. -/

@[expose] public section

set_option maxRecDepth 100000

noncomputable section

namespace Cert.Algebraic

open Idealize.ShloMosaic Idealize.ShloMosaic.TcCoe Idealize.ShloMosaic.StableHlo Idealize.SL.Sem

section Reference
open Cert.ReferenceIdeal Cert.ReferenceIdeal.Gen Cert.ReferenceIdeal.Value

variable (V0 : Valuation τ sig (Elt Ideal))

/-- The reference's scales are the function `scaleF` of its first argument. -/
theorem scale_eq (X : Fin 3 → Fin 9216 → EReal) (hX : Value.argX V0 = X) : res_main_v34 V0 = KernelIdeal.Model.scaleF X := by
  subst hX
  funext j
  idx_vars j
  exact v34_at V0 _ _

/-- The reference's codes, transposed, are the function `codesF` of its first argument. -/
theorem codes_eq (X : Fin 3 → Fin 9216 → EReal) (hX : Value.argX V0 = X) :
    transpose S3x8x2304 [0, 2, 1] (shapeCast _ (res_main_v41 V0) shapeCasts_S3x72x32x8_S3x2304x8) transposes_S3x2304x8_S3x8x2304_0_2_1
      = KernelIdeal.Model.codesF X := by
  subst hX
  funext j
  idx_vars j
  have h := v41_at V0 j0 ⟨j2.val / 32, by omega⟩ ⟨j2.val % 32, by omega⟩ j1
  have hq : (⟨32 * (j2.val / 32) + j2.val % 32, by omega⟩ : Fin 2304) = j2 := Fin.ext (by dsimp only; omega)
  dsimp only at h
  rw [hq] at h
  refine Eq.trans ?_ h
  generalize res_main_v41 V0 = x
  pointwise

/-- The reference's product is the function `yF` of its four arguments. -/
theorem y_eq (X : Fin 3 → Fin 9216 → EReal) (hX : Value.argX V0 = X) :
    yW V0 = KernelIdeal.Model.yF X (V0 (Proc.devRef .tc main_arg1)) (V0 (Proc.devRef .tc main_arg2)) (V0 (Proc.devRef .tc main_arg3)) := by
  subst hX
  funext j
  idx_vars j
  exact yW_at V0 _ _

end Reference

/-- Equal arguments, equal results: each of the three result arrays is one function of the argument arrays on both sides. -/
theorem algebraic : Cert.algebraic_KernelIdeal_ReferenceIdeal := by
  pair_intro
  · run_from Cert.KernelIdeal.Run.run_main m g
  · refine θ_run_mono (Cert.ReferenceIdeal.Value.run m' g') fun r hr c => ?_
    obtain ⟨hy, hcodes, hscale, h0, h1, h2, h3⟩ := hr c
    obtain ⟨e0, e1, e2, e3⟩ := hagree c
    have hX : ReferenceIdeal.Value.argX (launchContents m' c) = KernelIdeal.Model.argX m c := by
      funext t l
      exact congrFun e0 (ix3 t 0 l)
    refine ⟨hy.trans ((y_eq (launchContents m' c) _ hX).trans (Eq.trans ?_ (KernelIdeal.Model.final_y m c).symm)),
      hcodes.trans ((codes_eq (launchContents m' c) _ hX).trans (KernelIdeal.Model.final_codes m c).symm),
      hscale.trans ((scale_eq (launchContents m' c) _ hX).trans (KernelIdeal.Model.final_scale m c).symm), h0, h1, h2, h3⟩
    exact congr (congr (congrArg (KernelIdeal.Model.yF (KernelIdeal.Model.argX m c)) e1) e2) e3

end Cert.Algebraic

end
-- ==== Proof.lean ====
/- The certificate: the programs' facts, the three frames, `preserves`, and the equality of the results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel's frame: `Cert.Kernel.Run.frame`, at the machine's float values. -/
theorem frame_kernel : Cert.quiescent_Kernel := fun m ρ _ => Cert.Kernel.Run.frame (F := Bits) m ρ

/-- The idealized kernel's frame: the same theorem of its own program, at the extended reals. -/
theorem frame_kernelIdeal : Cert.quiescent_KernelIdeal := fun m ρ _ => Cert.KernelIdeal.Run.frame (F := Ideal) m ρ

/-- The reference's frame: its run writes no argument, and it declares no semaphore. -/
theorem frame_referenceIdeal : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_kernelIdeal, frame_referenceIdeal, trivial, Cert.Algebraic.algebraic⟩

end Cert.Proof

end
